-- ==== Defs.lean ====
def Pre_LayerB (m : (ℓ : Loc Cert.LayerB.nD Cert.LayerB.τ Cert.LayerB.sig) → Buf (Elt Bits) ℓ) : Prop :=
  True

def Pre_LayerBIdeal (m : (ℓ : Loc Cert.LayerBIdeal.nD Cert.LayerBIdeal.τ Cert.LayerBIdeal.sig) → Buf (Elt Ideal) ℓ) : Prop :=
  True

def Pre_LayerBIdeal_edges2 [hPre_edges2 : Cert.Pre_edges2.Facts] (m : (ℓ : Loc Cert.LayerBIdeal.nD Cert.LayerBIdeal.τ Cert.LayerBIdeal.sig) → Buf (Elt Ideal) ℓ) : Prop :=
  ∀ c : Dev Cert.LayerBIdeal.nD,
    (Cert.Pre_edges2.fn (F := Ideal) (m ((c.tc : Thread Cert.LayerBIdeal.nD Cert.LayerBIdeal.τ).loc Cert.LayerBIdeal.main_arg0)) (m ((c.tc : Thread Cert.LayerBIdeal.nD Cert.LayerBIdeal.τ).loc Cert.LayerBIdeal.main_arg1)) (m ((c.tc : Thread Cert.LayerBIdeal.nD Cert.LayerBIdeal.τ).loc Cert.LayerBIdeal.main_arg2)) (m ((c.tc : Thread Cert.LayerBIdeal.nD Cert.LayerBIdeal.τ).loc Cert.LayerBIdeal.main_arg3)) (m ((c.tc : Thread Cert.LayerBIdeal.nD Cert.LayerBIdeal.τ).loc Cert.LayerBIdeal.main_arg4))).1 = (fun _ => 1#1)
    ∧ (Cert.Pre_edges2.fn (F := Ideal) (m ((c.tc : Thread Cert.LayerBIdeal.nD Cert.LayerBIdeal.τ).loc Cert.LayerBIdeal.main_arg0)) (m ((c.tc : Thread Cert.LayerBIdeal.nD Cert.LayerBIdeal.τ).loc Cert.LayerBIdeal.main_arg1)) (m ((c.tc : Thread Cert.LayerBIdeal.nD Cert.LayerBIdeal.τ).loc Cert.LayerBIdeal.main_arg2)) (m ((c.tc : Thread Cert.LayerBIdeal.nD Cert.LayerBIdeal.τ).loc Cert.LayerBIdeal.main_arg3)) (m ((c.tc : Thread Cert.LayerBIdeal.nD Cert.LayerBIdeal.τ).loc Cert.LayerBIdeal.main_arg4))).2.1 = (fun _ => 1#1)
    ∧ (Cert.Pre_edges2.fn (F := Ideal) (m ((c.tc : Thread Cert.LayerBIdeal.nD Cert.LayerBIdeal.τ).loc Cert.LayerBIdeal.main_arg0)) (m ((c.tc : Thread Cert.LayerBIdeal.nD Cert.LayerBIdeal.τ).loc Cert.LayerBIdeal.main_arg1)) (m ((c.tc : Thread Cert.LayerBIdeal.nD Cert.LayerBIdeal.τ).loc Cert.LayerBIdeal.main_arg2)) (m ((c.tc : Thread Cert.LayerBIdeal.nD Cert.LayerBIdeal.τ).loc Cert.LayerBIdeal.main_arg3)) (m ((c.tc : Thread Cert.LayerBIdeal.nD Cert.LayerBIdeal.τ).loc Cert.LayerBIdeal.main_arg4))).2.2.1 = (fun _ => 1#1)
    ∧ (Cert.Pre_edges2.fn (F := Ideal) (m ((c.tc : Thread Cert.LayerBIdeal.nD Cert.LayerBIdeal.τ).loc Cert.LayerBIdeal.main_arg0)) (m ((c.tc : Thread Cert.LayerBIdeal.nD Cert.LayerBIdeal.τ).loc Cert.LayerBIdeal.main_arg1)) (m ((c.tc : Thread Cert.LayerBIdeal.nD Cert.LayerBIdeal.τ).loc Cert.LayerBIdeal.main_arg2)) (m ((c.tc : Thread Cert.LayerBIdeal.nD Cert.LayerBIdeal.τ).loc Cert.LayerBIdeal.main_arg3)) (m ((c.tc : Thread Cert.LayerBIdeal.nD Cert.LayerBIdeal.τ).loc Cert.LayerBIdeal.main_arg4))).2.2.2 = (fun _ => 1#1)

def Pre_RefBIdeal (m : (ℓ : Loc Cert.RefBIdeal.nD Cert.RefBIdeal.τ Cert.RefBIdeal.sig) → Buf (Elt Ideal) ℓ) : Prop :=
  True

def Pre_RefBIdeal_edges2 [hPre_edges2 : Cert.Pre_edges2.Facts] (m : (ℓ : Loc Cert.RefBIdeal.nD Cert.RefBIdeal.τ Cert.RefBIdeal.sig) → Buf (Elt Ideal) ℓ) : Prop :=
  ∀ c : Dev Cert.RefBIdeal.nD,
    (Cert.Pre_edges2.fn (F := Ideal) (m ((c.tc : Thread Cert.RefBIdeal.nD Cert.RefBIdeal.τ).loc Cert.RefBIdeal.main_arg0)) (m ((c.tc : Thread Cert.RefBIdeal.nD Cert.RefBIdeal.τ).loc Cert.RefBIdeal.main_arg1)) (m ((c.tc : Thread Cert.RefBIdeal.nD Cert.RefBIdeal.τ).loc Cert.RefBIdeal.main_arg2)) (m ((c.tc : Thread Cert.RefBIdeal.nD Cert.RefBIdeal.τ).loc Cert.RefBIdeal.main_arg3)) (m ((c.tc : Thread Cert.RefBIdeal.nD Cert.RefBIdeal.τ).loc Cert.RefBIdeal.main_arg4))).1 = (fun _ => 1#1)
    ∧ (Cert.Pre_edges2.fn (F := Ideal) (m ((c.tc : Thread Cert.RefBIdeal.nD Cert.RefBIdeal.τ).loc Cert.RefBIdeal.main_arg0)) (m ((c.tc : Thread Cert.RefBIdeal.nD Cert.RefBIdeal.τ).loc Cert.RefBIdeal.main_arg1)) (m ((c.tc : Thread Cert.RefBIdeal.nD Cert.RefBIdeal.τ).loc Cert.RefBIdeal.main_arg2)) (m ((c.tc : Thread Cert.RefBIdeal.nD Cert.RefBIdeal.τ).loc Cert.RefBIdeal.main_arg3)) (m ((c.tc : Thread Cert.RefBIdeal.nD Cert.RefBIdeal.τ).loc Cert.RefBIdeal.main_arg4))).2.1 = (fun _ => 1#1)
    ∧ (Cert.Pre_edges2.fn (F := Ideal) (m ((c.tc : Thread Cert.RefBIdeal.nD Cert.RefBIdeal.τ).loc Cert.RefBIdeal.main_arg0)) (m ((c.tc : Thread Cert.RefBIdeal.nD Cert.RefBIdeal.τ).loc Cert.RefBIdeal.main_arg1)) (m ((c.tc : Thread Cert.RefBIdeal.nD Cert.RefBIdeal.τ).loc Cert.RefBIdeal.main_arg2)) (m ((c.tc : Thread Cert.RefBIdeal.nD Cert.RefBIdeal.τ).loc Cert.RefBIdeal.main_arg3)) (m ((c.tc : Thread Cert.RefBIdeal.nD Cert.RefBIdeal.τ).loc Cert.RefBIdeal.main_arg4))).2.2.1 = (fun _ => 1#1)
    ∧ (Cert.Pre_edges2.fn (F := Ideal) (m ((c.tc : Thread Cert.RefBIdeal.nD Cert.RefBIdeal.τ).loc Cert.RefBIdeal.main_arg0)) (m ((c.tc : Thread Cert.RefBIdeal.nD Cert.RefBIdeal.τ).loc Cert.RefBIdeal.main_arg1)) (m ((c.tc : Thread Cert.RefBIdeal.nD Cert.RefBIdeal.τ).loc Cert.RefBIdeal.main_arg2)) (m ((c.tc : Thread Cert.RefBIdeal.nD Cert.RefBIdeal.τ).loc Cert.RefBIdeal.main_arg3)) (m ((c.tc : Thread Cert.RefBIdeal.nD Cert.RefBIdeal.τ).loc Cert.RefBIdeal.main_arg4))).2.2.2 = (fun _ => 1#1)

def Pre_LayerA (m : (ℓ : Loc Cert.LayerA.nD Cert.LayerA.τ Cert.LayerA.sig) → Buf (Elt Bits) ℓ) : Prop :=
  True

def Pre_LayerAIdeal (m : (ℓ : Loc Cert.LayerAIdeal.nD Cert.LayerAIdeal.τ Cert.LayerAIdeal.sig) → Buf (Elt Ideal) ℓ) : Prop :=
  True

def Pre_LayerAIdeal_edges1 [hPre_edges1 : Cert.Pre_edges1.Facts] (m : (ℓ : Loc Cert.LayerAIdeal.nD Cert.LayerAIdeal.τ Cert.LayerAIdeal.sig) → Buf (Elt Ideal) ℓ) : Prop :=
  ∀ c : Dev Cert.LayerAIdeal.nD,
    (Cert.Pre_edges1.fn (F := Ideal) (m ((c.tc : Thread Cert.LayerAIdeal.nD Cert.LayerAIdeal.τ).loc Cert.LayerAIdeal.main_arg0)) (m ((c.tc : Thread Cert.LayerAIdeal.nD Cert.LayerAIdeal.τ).loc Cert.LayerAIdeal.main_arg1)) (m ((c.tc : Thread Cert.LayerAIdeal.nD Cert.LayerAIdeal.τ).loc Cert.LayerAIdeal.main_arg2)) (m ((c.tc : Thread Cert.LayerAIdeal.nD Cert.LayerAIdeal.τ).loc Cert.LayerAIdeal.main_arg3))).1 = (fun _ => 1#1)
    ∧ (Cert.Pre_edges1.fn (F := Ideal) (m ((c.tc : Thread Cert.LayerAIdeal.nD Cert.LayerAIdeal.τ).loc Cert.LayerAIdeal.main_arg0)) (m ((c.tc : Thread Cert.LayerAIdeal.nD Cert.LayerAIdeal.τ).loc Cert.LayerAIdeal.main_arg1)) (m ((c.tc : Thread Cert.LayerAIdeal.nD Cert.LayerAIdeal.τ).loc Cert.LayerAIdeal.main_arg2)) (m ((c.tc : Thread Cert.LayerAIdeal.nD Cert.LayerAIdeal.τ).loc Cert.LayerAIdeal.main_arg3))).2.1 = (fun _ => 1#1)
    ∧ (Cert.Pre_edges1.fn (F := Ideal) (m ((c.tc : Thread Cert.LayerAIdeal.nD Cert.LayerAIdeal.τ).loc Cert.LayerAIdeal.main_arg0)) (m ((c.tc : Thread Cert.LayerAIdeal.nD Cert.LayerAIdeal.τ).loc Cert.LayerAIdeal.main_arg1)) (m ((c.tc : Thread Cert.LayerAIdeal.nD Cert.LayerAIdeal.τ).loc Cert.LayerAIdeal.main_arg2)) (m ((c.tc : Thread Cert.LayerAIdeal.nD Cert.LayerAIdeal.τ).loc Cert.LayerAIdeal.main_arg3))).2.2.1 = (fun _ => 1#1)
    ∧ (Cert.Pre_edges1.fn (F := Ideal) (m ((c.tc : Thread Cert.LayerAIdeal.nD Cert.LayerAIdeal.τ).loc Cert.LayerAIdeal.main_arg0)) (m ((c.tc : Thread Cert.LayerAIdeal.nD Cert.LayerAIdeal.τ).loc Cert.LayerAIdeal.main_arg1)) (m ((c.tc : Thread Cert.LayerAIdeal.nD Cert.LayerAIdeal.τ).loc Cert.LayerAIdeal.main_arg2)) (m ((c.tc : Thread Cert.LayerAIdeal.nD Cert.LayerAIdeal.τ).loc Cert.LayerAIdeal.main_arg3))).2.2.2 = (fun _ => 1#1)

def Pre_RefAIdeal (m : (ℓ : Loc Cert.RefAIdeal.nD Cert.RefAIdeal.τ Cert.RefAIdeal.sig) → Buf (Elt Ideal) ℓ) : Prop :=
  True

def Pre_RefAIdeal_edges1 [hPre_edges1 : Cert.Pre_edges1.Facts] (m : (ℓ : Loc Cert.RefAIdeal.nD Cert.RefAIdeal.τ Cert.RefAIdeal.sig) → Buf (Elt Ideal) ℓ) : Prop :=
  ∀ c : Dev Cert.RefAIdeal.nD,
    (Cert.Pre_edges1.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2)) (m ((c.tc : Thread Cert.RefAIdeal.nD Cert.RefAIdeal.τ).loc Cert.RefAIdeal.main_arg3))).1 = (fun _ => 1#1)
    ∧ (Cert.Pre_edges1.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2)) (m ((c.tc : Thread Cert.RefAIdeal.nD Cert.RefAIdeal.τ).loc Cert.RefAIdeal.main_arg3))).2.1 = (fun _ => 1#1)
    ∧ (Cert.Pre_edges1.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2)) (m ((c.tc : Thread Cert.RefAIdeal.nD Cert.RefAIdeal.τ).loc Cert.RefAIdeal.main_arg3))).2.2.1 = (fun _ => 1#1)
    ∧ (Cert.Pre_edges1.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2)) (m ((c.tc : Thread Cert.RefAIdeal.nD Cert.RefAIdeal.τ).loc Cert.RefAIdeal.main_arg3))).2.2.2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_LayerB [hLayerB : Cert.LayerB.Facts] : Prop :=
  ∀ (m : (ℓ : Loc Cert.LayerB.nD Cert.LayerB.τ Cert.LayerB.sig) → Buf (Elt Bits) ℓ) (g : Dev Cert.LayerB.nD → PrngReg), Pre_LayerB m →
    θ_run (Cert.LayerB.defs (F := Bits)) (onTc (τ := Cert.LayerB.τ) (Cert.LayerB.main (F := Bits))) ⟨m, fun _ => 0, g⟩ (fun r => (∀ c : Dev Cert.LayerB.nD,
      r.2.mem ((c.tc : Thread Cert.LayerB.nD Cert.LayerB.τ).loc Cert.LayerB.main_arg0) = m ((c.tc : Thread Cert.LayerB.nD Cert.LayerB.τ).loc Cert.LayerB.main_arg0)
      ∧ r.2.mem ((c.tc : Thread Cert.LayerB.nD Cert.LayerB.τ).loc Cert.LayerB.main_arg1) = m ((c.tc : Thread Cert.LayerB.nD Cert.LayerB.τ).loc Cert.LayerB.main_arg1)
      ∧ r.2.mem ((c.tc : Thread Cert.LayerB.nD Cert.LayerB.τ).loc Cert.LayerB.main_arg2) = m ((c.tc : Thread Cert.LayerB.nD Cert.LayerB.τ).loc Cert.LayerB.main_arg2)
      ∧ r.2.mem ((c.tc : Thread Cert.LayerB.nD Cert.LayerB.τ).loc Cert.LayerB.main_arg3) = m ((c.tc : Thread Cert.LayerB.nD Cert.LayerB.τ).loc Cert.LayerB.main_arg3)
      ∧ r.2.mem ((c.tc : Thread Cert.LayerB.nD Cert.LayerB.τ).loc Cert.LayerB.main_arg4) = m ((c.tc : Thread Cert.LayerB.nD Cert.LayerB.τ).loc Cert.LayerB.main_arg4))
      ∧ r.2.sem = fun _ => 0)

def quiescent_LayerBIdeal [hLayerBIdeal : Cert.LayerBIdeal.Facts] : Prop :=
  ∀ (m : (ℓ : Loc Cert.LayerBIdeal.nD Cert.LayerBIdeal.τ Cert.LayerBIdeal.sig) → Buf (Elt Ideal) ℓ) (g : Dev Cert.LayerBIdeal.nD → PrngReg), Pre_LayerBIdeal m →
    θ_run (Cert.LayerBIdeal.defs (F := Ideal)) (onTc (τ := Cert.LayerBIdeal.τ) (Cert.LayerBIdeal.main (F := Ideal))) ⟨m, fun _ => 0, g⟩ (fun r => (∀ c : Dev Cert.LayerBIdeal.nD,
      r.2.mem ((c.tc : Thread Cert.LayerBIdeal.nD Cert.LayerBIdeal.τ).loc Cert.LayerBIdeal.main_arg0) = m ((c.tc : Thread Cert.LayerBIdeal.nD Cert.LayerBIdeal.τ).loc Cert.LayerBIdeal.main_arg0)
      ∧ r.2.mem ((c.tc : Thread Cert.LayerBIdeal.nD Cert.LayerBIdeal.τ).loc Cert.LayerBIdeal.main_arg1) = m ((c.tc : Thread Cert.LayerBIdeal.nD Cert.LayerBIdeal.τ).loc Cert.LayerBIdeal.main_arg1)
      ∧ r.2.mem ((c.tc : Thread Cert.LayerBIdeal.nD Cert.LayerBIdeal.τ).loc Cert.LayerBIdeal.main_arg2) = m ((c.tc : Thread Cert.LayerBIdeal.nD Cert.LayerBIdeal.τ).loc Cert.LayerBIdeal.main_arg2)
      ∧ r.2.mem ((c.tc : Thread Cert.LayerBIdeal.nD Cert.LayerBIdeal.τ).loc Cert.LayerBIdeal.main_arg3) = m ((c.tc : Thread Cert.LayerBIdeal.nD Cert.LayerBIdeal.τ).loc Cert.LayerBIdeal.main_arg3)
      ∧ r.2.mem ((c.tc : Thread Cert.LayerBIdeal.nD Cert.LayerBIdeal.τ).loc Cert.LayerBIdeal.main_arg4) = m ((c.tc : Thread Cert.LayerBIdeal.nD Cert.LayerBIdeal.τ).loc Cert.LayerBIdeal.main_arg4))
      ∧ r.2.sem = fun _ => 0)

def quiescent_LayerBIdeal_pre_edges2 [hLayerBIdeal : Cert.LayerBIdeal.Facts] [hPre_edges2 : Cert.Pre_edges2.Facts] : Prop :=
  ∀ (m : (ℓ : Loc Cert.LayerBIdeal.nD Cert.LayerBIdeal.τ Cert.LayerBIdeal.sig) → Buf (Elt Ideal) ℓ) (g : Dev Cert.LayerBIdeal.nD → PrngReg), Pre_LayerBIdeal_edges2 m →
    θ_run (Cert.LayerBIdeal.defs (F := Ideal)) (onTc (τ := Cert.LayerBIdeal.τ) (Cert.LayerBIdeal.main (F := Ideal))) ⟨m, fun _ => 0, g⟩ (fun r => (∀ c : Dev Cert.LayerBIdeal.nD,
      r.2.mem ((c.tc : Thread Cert.LayerBIdeal.nD Cert.LayerBIdeal.τ).loc Cert.LayerBIdeal.main_arg0) = m ((c.tc : Thread Cert.LayerBIdeal.nD Cert.LayerBIdeal.τ).loc Cert.LayerBIdeal.main_arg0)
      ∧ r.2.mem ((c.tc : Thread Cert.LayerBIdeal.nD Cert.LayerBIdeal.τ).loc Cert.LayerBIdeal.main_arg1) = m ((c.tc : Thread Cert.LayerBIdeal.nD Cert.LayerBIdeal.τ).loc Cert.LayerBIdeal.main_arg1)
      ∧ r.2.mem ((c.tc : Thread Cert.LayerBIdeal.nD Cert.LayerBIdeal.τ).loc Cert.LayerBIdeal.main_arg2) = m ((c.tc : Thread Cert.LayerBIdeal.nD Cert.LayerBIdeal.τ).loc Cert.LayerBIdeal.main_arg2)
      ∧ r.2.mem ((c.tc : Thread Cert.LayerBIdeal.nD Cert.LayerBIdeal.τ).loc Cert.LayerBIdeal.main_arg3) = m ((c.tc : Thread Cert.LayerBIdeal.nD Cert.LayerBIdeal.τ).loc Cert.LayerBIdeal.main_arg3)
      ∧ r.2.mem ((c.tc : Thread Cert.LayerBIdeal.nD Cert.LayerBIdeal.τ).loc Cert.LayerBIdeal.main_arg4) = m ((c.tc : Thread Cert.LayerBIdeal.nD Cert.LayerBIdeal.τ).loc Cert.LayerBIdeal.main_arg4))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3)
      ∧ r.2.mem ((c.tc : Thread Cert.RefBIdeal.nD Cert.RefBIdeal.τ).loc Cert.RefBIdeal.main_arg4) = m ((c.tc : Thread Cert.RefBIdeal.nD Cert.RefBIdeal.τ).loc Cert.RefBIdeal.main_arg4))
      ∧ r.2.sem = fun _ => 0)

def quiescent_RefBIdeal_pre_edges2 [hRefBIdeal : Cert.RefBIdeal.Facts] [hPre_edges2 : Cert.Pre_edges2.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal_edges2 m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3)
      ∧ r.2.mem ((c.tc : Thread Cert.RefBIdeal.nD Cert.RefBIdeal.τ).loc Cert.RefBIdeal.main_arg4) = m ((c.tc : Thread Cert.RefBIdeal.nD Cert.RefBIdeal.τ).loc Cert.RefBIdeal.main_arg4))
      ∧ r.2.sem = fun _ => 0)

def quiescent_LayerA [hLayerA : Cert.LayerA.Facts] : Prop :=
  ∀ (m : (ℓ : Loc Cert.LayerA.nD Cert.LayerA.τ Cert.LayerA.sig) → Buf (Elt Bits) ℓ) (g : Dev Cert.LayerA.nD → PrngReg), Pre_LayerA m →
    θ_run (Cert.LayerA.defs (F := Bits)) (onTc (τ := Cert.LayerA.τ) (Cert.LayerA.main (F := Bits))) ⟨m, fun _ => 0, g⟩ (fun r => (∀ c : Dev Cert.LayerA.nD,
      r.2.mem ((c.tc : Thread Cert.LayerA.nD Cert.LayerA.τ).loc Cert.LayerA.main_arg0) = m ((c.tc : Thread Cert.LayerA.nD Cert.LayerA.τ).loc Cert.LayerA.main_arg0)
      ∧ r.2.mem ((c.tc : Thread Cert.LayerA.nD Cert.LayerA.τ).loc Cert.LayerA.main_arg1) = m ((c.tc : Thread Cert.LayerA.nD Cert.LayerA.τ).loc Cert.LayerA.main_arg1)
      ∧ r.2.mem ((c.tc : Thread Cert.LayerA.nD Cert.LayerA.τ).loc Cert.LayerA.main_arg2) = m ((c.tc : Thread Cert.LayerA.nD Cert.LayerA.τ).loc Cert.LayerA.main_arg2)
      ∧ r.2.mem ((c.tc : Thread Cert.LayerA.nD Cert.LayerA.τ).loc Cert.LayerA.main_arg3) = m ((c.tc : Thread Cert.LayerA.nD Cert.LayerA.τ).loc Cert.LayerA.main_arg3))
      ∧ r.2.sem = fun _ => 0)

def quiescent_LayerAIdeal [hLayerAIdeal : Cert.LayerAIdeal.Facts] : Prop :=
  ∀ (m : (ℓ : Loc Cert.LayerAIdeal.nD Cert.LayerAIdeal.τ Cert.LayerAIdeal.sig) → Buf (Elt Ideal) ℓ) (g : Dev Cert.LayerAIdeal.nD → PrngReg), Pre_LayerAIdeal m →
    θ_run (Cert.LayerAIdeal.defs (F := Ideal)) (onTc (τ := Cert.LayerAIdeal.τ) (Cert.LayerAIdeal.main (F := Ideal))) ⟨m, fun _ => 0, g⟩ (fun r => (∀ c : Dev Cert.LayerAIdeal.nD,
      r.2.mem ((c.tc : Thread Cert.LayerAIdeal.nD Cert.LayerAIdeal.τ).loc Cert.LayerAIdeal.main_arg0) = m ((c.tc : Thread Cert.LayerAIdeal.nD Cert.LayerAIdeal.τ).loc Cert.LayerAIdeal.main_arg0)
      ∧ r.2.mem ((c.tc : Thread Cert.LayerAIdeal.nD Cert.LayerAIdeal.τ).loc Cert.LayerAIdeal.main_arg1) = m ((c.tc : Thread Cert.LayerAIdeal.nD Cert.LayerAIdeal.τ).loc Cert.LayerAIdeal.main_arg1)
      ∧ r.2.mem ((c.tc : Thread Cert.LayerAIdeal.nD Cert.LayerAIdeal.τ).loc Cert.LayerAIdeal.main_arg2) = m ((c.tc : Thread Cert.LayerAIdeal.nD Cert.LayerAIdeal.τ).loc Cert.LayerAIdeal.main_arg2)
      ∧ r.2.mem ((c.tc : Thread Cert.LayerAIdeal.nD Cert.LayerAIdeal.τ).loc Cert.LayerAIdeal.main_arg3) = m ((c.tc : Thread Cert.LayerAIdeal.nD Cert.LayerAIdeal.τ).loc Cert.LayerAIdeal.main_arg3))
      ∧ r.2.sem = fun _ => 0)

def quiescent_LayerAIdeal_pre_edges1 [hLayerAIdeal : Cert.LayerAIdeal.Facts] [hPre_edges1 : Cert.Pre_edges1.Facts] : Prop :=
  ∀ (m : (ℓ : Loc Cert.LayerAIdeal.nD Cert.LayerAIdeal.τ Cert.LayerAIdeal.sig) → Buf (Elt Ideal) ℓ) (g : Dev Cert.LayerAIdeal.nD → PrngReg), Pre_LayerAIdeal_edges1 m →
    θ_run (Cert.LayerAIdeal.defs (F := Ideal)) (onTc (τ := Cert.LayerAIdeal.τ) (Cert.LayerAIdeal.main (F := Ideal))) ⟨m, fun _ => 0, g⟩ (fun r => (∀ c : Dev Cert.LayerAIdeal.nD,
      r.2.mem ((c.tc : Thread Cert.LayerAIdeal.nD Cert.LayerAIdeal.τ).loc Cert.LayerAIdeal.main_arg0) = m ((c.tc : Thread Cert.LayerAIdeal.nD Cert.LayerAIdeal.τ).loc Cert.LayerAIdeal.main_arg0)
      ∧ r.2.mem ((c.tc : Thread Cert.LayerAIdeal.nD Cert.LayerAIdeal.τ).loc Cert.LayerAIdeal.main_arg1) = m ((c.tc : Thread Cert.LayerAIdeal.nD Cert.LayerAIdeal.τ).loc Cert.LayerAIdeal.main_arg1)
      ∧ r.2.mem ((c.tc : Thread Cert.LayerAIdeal.nD Cert.LayerAIdeal.τ).loc Cert.LayerAIdeal.main_arg2) = m ((c.tc : Thread Cert.LayerAIdeal.nD Cert.LayerAIdeal.τ).loc Cert.LayerAIdeal.main_arg2)
      ∧ r.2.mem ((c.tc : Thread Cert.LayerAIdeal.nD Cert.LayerAIdeal.τ).loc Cert.LayerAIdeal.main_arg3) = m ((c.tc : Thread Cert.LayerAIdeal.nD Cert.LayerAIdeal.τ).loc Cert.LayerAIdeal.main_arg3))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3))
      ∧ r.2.sem = fun _ => 0)

def quiescent_RefAIdeal_pre_edges1 [hRefAIdeal : Cert.RefAIdeal.Facts] [hPre_edges1 : Cert.Pre_edges1.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal_edges1 m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_LayerB_LayerBIdeal : Prop :=
  IdealRules.named_const.Statement Cert.LayerBIdeal.κ "coslope" .f32 0x3F4CCCCD#32 ((53687091 / 67108864 : ℝ) : EReal)
  ∧ IdealRules.named_const.Statement Cert.LayerBIdeal.κ "floor" .f32 0x0DA24260#32 ⊥

def algebraic_LayerBIdeal_RefBIdeal_pre_edges2 [hLayerBIdeal : Cert.LayerBIdeal.Facts] [hRefBIdeal : Cert.RefBIdeal.Facts] [hPre_edges2 : Cert.Pre_edges2.Facts] : Prop :=
  ∀ (m : (ℓ : Loc Cert.LayerBIdeal.nD Cert.LayerBIdeal.τ Cert.LayerBIdeal.sig) → Buf (Elt Ideal) ℓ) (g : Dev Cert.LayerBIdeal.nD → PrngReg)
    (m' : (ℓ : Loc Cert.RefBIdeal.nD Cert.RefBIdeal.τ Cert.RefBIdeal.sig) → Buf (Elt Ideal) ℓ) (g' : Dev Cert.RefBIdeal.nD → PrngReg), Pre_LayerBIdeal_edges2 m →
    (∀ c : Dev Cert.LayerBIdeal.nD,
      m' ((c.tc : Thread Cert.RefBIdeal.nD Cert.RefBIdeal.τ).loc Cert.RefBIdeal.main_arg0) = m ((c.tc : Thread Cert.LayerBIdeal.nD Cert.LayerBIdeal.τ).loc Cert.LayerBIdeal.main_arg0)
      ∧ m' ((c.tc : Thread Cert.RefBIdeal.nD Cert.RefBIdeal.τ).loc Cert.RefBIdeal.main_arg1) = m ((c.tc : Thread Cert.LayerBIdeal.nD Cert.LayerBIdeal.τ).loc Cert.LayerBIdeal.main_arg1)
      ∧ m' ((c.tc : Thread Cert.RefBIdeal.nD Cert.RefBIdeal.τ).loc Cert.RefBIdeal.main_arg2) = m ((c.tc : Thread Cert.LayerBIdeal.nD Cert.LayerBIdeal.τ).loc Cert.LayerBIdeal.main_arg2)
      ∧ m' ((c.tc : Thread Cert.RefBIdeal.nD Cert.RefBIdeal.τ).loc Cert.RefBIdeal.main_arg3) = m ((c.tc : Thread Cert.LayerBIdeal.nD Cert.LayerBIdeal.τ).loc Cert.LayerBIdeal.main_arg3)
      ∧ m' ((c.tc : Thread Cert.RefBIdeal.nD Cert.RefBIdeal.τ).loc Cert.RefBIdeal.main_arg4) = m ((c.tc : Thread Cert.LayerBIdeal.nD Cert.LayerBIdeal.τ).loc Cert.LayerBIdeal.main_arg4)) →
    ∃ (v0 : (c : Dev Cert.LayerBIdeal.nD) → Buf (Elt Ideal) ((c.tc : Thread Cert.LayerBIdeal.nD Cert.LayerBIdeal.τ).loc Cert.LayerBIdeal.main_v0)),
      θ_run (Cert.LayerBIdeal.defs (F := Ideal)) (onTc (τ := Cert.LayerBIdeal.τ) (Cert.LayerBIdeal.main (F := Ideal))) ⟨m, fun _ => 0, g⟩ (fun r => ∀ c : Dev Cert.LayerBIdeal.nD,
          r.2.mem ((c.tc : Thread Cert.LayerBIdeal.nD Cert.LayerBIdeal.τ).loc Cert.LayerBIdeal.main_v0) = v0 c
          ∧ r.2.mem ((c.tc : Thread Cert.LayerBIdeal.nD Cert.LayerBIdeal.τ).loc Cert.LayerBIdeal.main_arg0) = m ((c.tc : Thread Cert.LayerBIdeal.nD Cert.LayerBIdeal.τ).loc Cert.LayerBIdeal.main_arg0)
          ∧ r.2.mem ((c.tc : Thread Cert.LayerBIdeal.nD Cert.LayerBIdeal.τ).loc Cert.LayerBIdeal.main_arg1) = m ((c.tc : Thread Cert.LayerBIdeal.nD Cert.LayerBIdeal.τ).loc Cert.LayerBIdeal.main_arg1)
          ∧ r.2.mem ((c.tc : Thread Cert.LayerBIdeal.nD Cert.LayerBIdeal.τ).loc Cert.LayerBIdeal.main_arg2) = m ((c.tc : Thread Cert.LayerBIdeal.nD Cert.LayerBIdeal.τ).loc Cert.LayerBIdeal.main_arg2)
          ∧ r.2.mem ((c.tc : Thread Cert.LayerBIdeal.nD Cert.LayerBIdeal.τ).loc Cert.LayerBIdeal.main_arg3) = m ((c.tc : Thread Cert.LayerBIdeal.nD Cert.LayerBIdeal.τ).loc Cert.LayerBIdeal.main_arg3)
          ∧ r.2.mem ((c.tc : Thread Cert.LayerBIdeal.nD Cert.LayerBIdeal.τ).loc Cert.LayerBIdeal.main_arg4) = m ((c.tc : Thread Cert.LayerBIdeal.nD Cert.LayerBIdeal.τ).loc Cert.LayerBIdeal.main_arg4))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          r.2.mem ((c.tc : Thread Cert.RefBIdeal.nD Cert.RefBIdeal.τ).loc Cert.RefBIdeal.main_v49) = v0 c
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0)
          ∧ r.2.mem ((c.tc : Thread Cert.RefBIdeal.nD Cert.RefBIdeal.τ).loc Cert.RefBIdeal.main_arg1) = m' ((c.tc : Thread Cert.RefBIdeal.nD Cert.RefBIdeal.τ).loc Cert.RefBIdeal.main_arg1)
          ∧ r.2.mem ((c.tc : Thread Cert.RefBIdeal.nD Cert.RefBIdeal.τ).loc Cert.RefBIdeal.main_arg2) = m' ((c.tc : Thread Cert.RefBIdeal.nD Cert.RefBIdeal.τ).loc Cert.RefBIdeal.main_arg2)
          ∧ r.2.mem ((c.tc : Thread Cert.RefBIdeal.nD Cert.RefBIdeal.τ).loc Cert.RefBIdeal.main_arg3) = m' ((c.tc : Thread Cert.RefBIdeal.nD Cert.RefBIdeal.τ).loc Cert.RefBIdeal.main_arg3)
          ∧ r.2.mem ((c.tc : Thread Cert.RefBIdeal.nD Cert.RefBIdeal.τ).loc Cert.RefBIdeal.main_arg4) = m' ((c.tc : Thread Cert.RefBIdeal.nD Cert.RefBIdeal.τ).loc Cert.RefBIdeal.main_arg4))

def preserves_LayerA_LayerAIdeal : Prop :=
  IdealRules.named_const.Statement Cert.LayerAIdeal.κ "coslope" .f32 0x3F4CCCCD#32 ((53687091 / 67108864 : ℝ) : EReal)
  ∧ IdealRules.named_const.Statement Cert.LayerAIdeal.κ "floor" .f32 0x0DA24260#32 ⊥

def algebraic_LayerAIdeal_RefAIdeal_pre_edges1 [hLayerAIdeal : Cert.LayerAIdeal.Facts] [hRefAIdeal : Cert.RefAIdeal.Facts] [hPre_edges1 : Cert.Pre_edges1.Facts] : Prop :=
  ∀ (m : (ℓ : Loc Cert.LayerAIdeal.nD Cert.LayerAIdeal.τ Cert.LayerAIdeal.sig) → Buf (Elt Ideal) ℓ) (g : Dev Cert.LayerAIdeal.nD → PrngReg)
    (m' : (ℓ : Loc Cert.RefAIdeal.nD Cert.RefAIdeal.τ Cert.RefAIdeal.sig) → Buf (Elt Ideal) ℓ) (g' : Dev Cert.RefAIdeal.nD → PrngReg), Pre_LayerAIdeal_edges1 m →
    (∀ c : Dev Cert.LayerAIdeal.nD,
      m' ((c.tc : Thread Cert.RefAIdeal.nD Cert.RefAIdeal.τ).loc Cert.RefAIdeal.main_arg0) = m ((c.tc : Thread Cert.LayerAIdeal.nD Cert.LayerAIdeal.τ).loc Cert.LayerAIdeal.main_arg0)
      ∧ m' ((c.tc : Thread Cert.RefAIdeal.nD Cert.RefAIdeal.τ).loc Cert.RefAIdeal.main_arg1) = m ((c.tc : Thread Cert.LayerAIdeal.nD Cert.LayerAIdeal.τ).loc Cert.LayerAIdeal.main_arg1)
      ∧ m' ((c.tc : Thread Cert.RefAIdeal.nD Cert.RefAIdeal.τ).loc Cert.RefAIdeal.main_arg2) = m ((c.tc : Thread Cert.LayerAIdeal.nD Cert.LayerAIdeal.τ).loc Cert.LayerAIdeal.main_arg2)
      ∧ m' ((c.tc : Thread Cert.RefAIdeal.nD Cert.RefAIdeal.τ).loc Cert.RefAIdeal.main_arg3) = m ((c.tc : Thread Cert.LayerAIdeal.nD Cert.LayerAIdeal.τ).loc Cert.LayerAIdeal.main_arg3)) →
    ∃ (v0 : (c : Dev Cert.LayerAIdeal.nD) → Buf (Elt Ideal) ((c.tc : Thread Cert.LayerAIdeal.nD Cert.LayerAIdeal.τ).loc Cert.LayerAIdeal.main_v0)),
      θ_run (Cert.LayerAIdeal.defs (F := Ideal)) (onTc (τ := Cert.LayerAIdeal.τ) (Cert.LayerAIdeal.main (F := Ideal))) ⟨m, fun _ => 0, g⟩ (fun r => ∀ c : Dev Cert.LayerAIdeal.nD,
          r.2.mem ((c.tc : Thread Cert.LayerAIdeal.nD Cert.LayerAIdeal.τ).loc Cert.LayerAIdeal.main_v0) = v0 c
          ∧ r.2.mem ((c.tc : Thread Cert.LayerAIdeal.nD Cert.LayerAIdeal.τ).loc Cert.LayerAIdeal.main_arg0) = m ((c.tc : Thread Cert.LayerAIdeal.nD Cert.LayerAIdeal.τ).loc Cert.LayerAIdeal.main_arg0)
          ∧ r.2.mem ((c.tc : Thread Cert.LayerAIdeal.nD Cert.LayerAIdeal.τ).loc Cert.LayerAIdeal.main_arg1) = m ((c.tc : Thread Cert.LayerAIdeal.nD Cert.LayerAIdeal.τ).loc Cert.LayerAIdeal.main_arg1)
          ∧ r.2.mem ((c.tc : Thread Cert.LayerAIdeal.nD Cert.LayerAIdeal.τ).loc Cert.LayerAIdeal.main_arg2) = m ((c.tc : Thread Cert.LayerAIdeal.nD Cert.LayerAIdeal.τ).loc Cert.LayerAIdeal.main_arg2)
          ∧ r.2.mem ((c.tc : Thread Cert.LayerAIdeal.nD Cert.LayerAIdeal.τ).loc Cert.LayerAIdeal.main_arg3) = m ((c.tc : Thread Cert.LayerAIdeal.nD Cert.LayerAIdeal.τ).loc Cert.LayerAIdeal.main_arg3))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          r.2.mem ((c.tc : Thread Cert.RefAIdeal.nD Cert.RefAIdeal.τ).loc Cert.RefAIdeal.main_v42) = v0 c
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1)
          ∧ r.2.mem ((c.tc : Thread Cert.RefAIdeal.nD Cert.RefAIdeal.τ).loc Cert.RefAIdeal.main_arg2) = m' ((c.tc : Thread Cert.RefAIdeal.nD Cert.RefAIdeal.τ).loc Cert.RefAIdeal.main_arg2)
          ∧ r.2.mem ((c.tc : Thread Cert.RefAIdeal.nD Cert.RefAIdeal.τ).loc Cert.RefAIdeal.main_arg3) = m' ((c.tc : Thread Cert.RefAIdeal.nD Cert.RefAIdeal.τ).loc Cert.RefAIdeal.main_arg3))

def preserves_Kernel_KernelIdeal : Prop :=
  IdealRules.named_const.Statement Cert.KernelIdeal.κ "coslope" .f32 0x3F4CCCCD#32 ((53687091 / 67108864 : ℝ) : EReal)
  ∧ IdealRules.named_const.Statement Cert.KernelIdeal.κ "floor" .f32 0x0DA24260#32 ⊥

def Claim : Prop :=
  ∃ (hLayerB : Cert.LayerB.Facts) (hLayerBIdeal : Cert.LayerBIdeal.Facts) (hRefBIdeal : Cert.RefBIdeal.Facts) (hLayerA : Cert.LayerA.Facts) (hLayerAIdeal : Cert.LayerAIdeal.Facts) (hRefAIdeal : Cert.RefAIdeal.Facts) (hKernel : Cert.Kernel.Facts) (hKernelIdeal : Cert.KernelIdeal.Facts) (hReferenceIdeal : Cert.ReferenceIdeal.Facts) (hPre_edges2 : Cert.Pre_edges2.Facts) (hPre_edges1 : Cert.Pre_edges1.Facts),
    quiescent_LayerB (hLayerB := hLayerB)
    ∧ quiescent_LayerBIdeal (hLayerBIdeal := hLayerBIdeal)
    ∧ quiescent_LayerBIdeal_pre_edges2 (hLayerBIdeal := hLayerBIdeal) (hPre_edges2 := hPre_edges2)
    ∧ quiescent_RefBIdeal (hRefBIdeal := hRefBIdeal)
    ∧ quiescent_RefBIdeal_pre_edges2 (hRefBIdeal := hRefBIdeal) (hPre_edges2 := hPre_edges2)
    ∧ quiescent_LayerA (hLayerA := hLayerA)
    ∧ quiescent_LayerAIdeal (hLayerAIdeal := hLayerAIdeal)
    ∧ quiescent_LayerAIdeal_pre_edges1 (hLayerAIdeal := hLayerAIdeal) (hPre_edges1 := hPre_edges1)
    ∧ quiescent_RefAIdeal (hRefAIdeal := hRefAIdeal)
    ∧ quiescent_RefAIdeal_pre_edges1 (hRefAIdeal := hRefAIdeal) (hPre_edges1 := hPre_edges1)
    ∧ quiescent_Kernel (hKernel := hKernel)
    ∧ quiescent_KernelIdeal (hKernelIdeal := hKernelIdeal)
    ∧ quiescent_ReferenceIdeal (hReferenceIdeal := hReferenceIdeal)
    ∧ preserves_LayerB_LayerBIdeal
    ∧ algebraic_LayerBIdeal_RefBIdeal_pre_edges2 (hLayerBIdeal := hLayerBIdeal) (hRefBIdeal := hRefBIdeal) (hPre_edges2 := hPre_edges2)
    ∧ preserves_LayerA_LayerAIdeal
    ∧ algebraic_LayerAIdeal_RefAIdeal_pre_edges1 (hLayerAIdeal := hLayerAIdeal) (hRefAIdeal := hRefAIdeal) (hPre_edges1 := hPre_edges1)
    ∧ preserves_Kernel_KernelIdeal
-- ==== Pre_edges1.lean ====
abbrev S4096x300 : Shape := ⟨2, ![4096, 300]⟩
abbrev S4096x4096 : Shape := ⟨2, ![4096, 4096]⟩
abbrev S300x1152 : Shape := ⟨2, ![300, 1152]⟩
abbrev S128x300 : Shape := ⟨2, ![128, 300]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x300 : S_.BroadcastsInDim S4096x300 (![] : Fin 0 → Fin S4096x300.rank)
  bcast_S_S300x1152 : S_.BroadcastsInDim S300x1152 (![] : Fin 0 → Fin S300x1152.rank)
  bcast_S_S128x300 : S_.BroadcastsInDim S128x300 (![] : Fin 0 → Fin S128x300.rank)

variable [Facts]

def fn {F : FTy → Type} [FloatOps F] (main_arg0 : FVec F S4096x300 .bf16) (main_arg1 : FVec F S4096x4096 .bf16) (main_arg2 : FVec F S300x1152 .bf16) (main_arg3 : FVec F S128x300 .bf16) : IVec S4096x4096 1 × IVec S4096x300 1 × IVec S300x1152 1 × IVec S128x300 1 :=
  let main_v0 : FVec F S4096x4096 .f32 := (extf .f32 · bitsLt_bf16_f32) main_arg1
  let main_cst : FVec F S_ .f32 := constant S_ .f32 0x00000000#32
  let main_v1 : FVec F S4096x4096 .f32 := broadcastInDim S4096x4096 ![] bcast_S_S4096x4096 main_cst
  let main_v2 : IVec S4096x4096 1 := cmpf .oeq main_v0 main_v1
  let main_v3 : FVec F S4096x4096 .f32 := (extf .f32 · bitsLt_bf16_f32) main_arg1
  let main_cst_0 : FVec F S_ .f32 := constant S_ .f32 0x3F800000#32
  let main_v4 : FVec F S4096x4096 .f32 := broadcastInDim S4096x4096 ![] bcast_S_S4096x4096 main_cst_0
  let main_v5 : IVec S4096x4096 1 := cmpf .oeq main_v3 main_v4
  let main_v6 : IVec S4096x4096 1 := ori main_v2 main_v5
  let main_v7 : FVec F S4096x300 .f32 := (extf .f32 · bitsLt_bf16_f32) main_arg0
  let main_v8 : FVec F S4096x300 .f32 := Host.absf main_v7
  let main_cst_1 : FVec F S_ .f32 := constant S_ .f32 0x7F800000#32
  let main_v9 : FVec F S4096x300 .f32 := broadcastInDim S4096x300 ![] bcast_S_S4096x300 main_cst_1
  let main_v10 : IVec S4096x300 1 := cmpf .olt main_v8 main_v9
  let main_v11 : FVec F S300x1152 .f32 := (extf .f32 · bitsLt_bf16_f32) main_arg2
  let main_v12 : FVec F S300x1152 .f32 := Host.absf main_v11
  let main_cst_2 : FVec F S_ .f32 := constant S_ .f32 0x7F800000#32
  let main_v13 : FVec F S300x1152 .f32 := broadcastInDim S300x1152 ![] bcast_S_S300x1152 main_cst_2
  let main_v14 : IVec S300x1152 1 := cmpf .olt main_v12 main_v13
  let main_v15 : FVec F S128x300 .f32 := (extf .f32 · bitsLt_bf16_f32) main_arg3
  let main_v16 : FVec F S128x300 .f32 := Host.absf main_v15
  let main_cst_3 : FVec F S_ .f32 := constant S_ .f32 0x7F800000#32
  let main_v17 : FVec F S128x300 .f32 := broadcastInDim S128x300 ![] bcast_S_S128x300 main_cst_3
  let main_v18 : IVec S128x300 1 := cmpf .olt main_v16 main_v17
  (main_v6, main_v10, main_v14, main_v18)
-- ==== Pre_edges2.lean ====
abbrev S4096x512 : Shape := ⟨2, ![4096, 512]⟩
abbrev S4096x4096 : Shape := ⟨2, ![4096, 4096]⟩
abbrev S512x1152 : Shape := ⟨2, ![512, 1152]⟩
abbrev S128x512 : Shape := ⟨2, ![128, 512]⟩
abbrev S256x512 : Shape := ⟨2, ![256, 512]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x512 : S_.BroadcastsInDim S4096x512 (![] : Fin 0 → Fin S4096x512.rank)
  bcast_S_S512x1152 : S_.BroadcastsInDim S512x1152 (![] : Fin 0 → Fin S512x1152.rank)
  bcast_S_S128x512 : S_.BroadcastsInDim S128x512 (![] : Fin 0 → Fin S128x512.rank)

variable [Facts]

def fn {F : FTy → Type} [FloatOps F] (main_arg0 : FVec F S4096x512 .bf16) (main_arg1 : FVec F S4096x4096 .bf16) (main_arg2 : FVec F S512x1152 .bf16) (main_arg3 : FVec F S128x512 .bf16) (main_arg4 : FVec F S256x512 .bf16) : IVec S4096x4096 1 × IVec S4096x512 1 × IVec S512x1152 1 × IVec S128x512 1 :=
  let main_v0 : FVec F S4096x4096 .f32 := (extf .f32 · bitsLt_bf16_f32) main_arg1
  let main_cst : FVec F S_ .f32 := constant S_ .f32 0x00000000#32
  let main_v1 : FVec F S4096x4096 .f32 := broadcastInDim S4096x4096 ![] bcast_S_S4096x4096 main_cst
  let main_v2 : IVec S4096x4096 1 := cmpf .oeq main_v0 main_v1
  let main_v3 : FVec F S4096x4096 .f32 := (extf .f32 · bitsLt_bf16_f32) main_arg1
  let main_cst_0 : FVec F S_ .f32 := constant S_ .f32 0x3F800000#32
  let main_v4 : FVec F S4096x4096 .f32 := broadcastInDim S4096x4096 ![] bcast_S_S4096x4096 main_cst_0
  let main_v5 : IVec S4096x4096 1 := cmpf .oeq main_v3 main_v4
  let main_v6 : IVec S4096x4096 1 := ori main_v2 main_v5
  let main_v7 : FVec F S4096x512 .f32 := (extf .f32 · bitsLt_bf16_f32) main_arg0
  let main_v8 : FVec F S4096x512 .f32 := Host.absf main_v7
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  let main_v11 : FVec F S512x1152 .f32 := (extf .f32 · bitsLt_bf16_f32) main_arg2
  let main_v12 : FVec F S512x1152 .f32 := Host.absf main_v11
  let main_cst_2 : FVec F S_ .f32 := constant S_ .f32 0x7F800000#32
  let main_v13 : FVec F S512x1152 .f32 := broadcastInDim S512x1152 ![] bcast_S_S512x1152 main_cst_2
  let main_v14 : IVec S512x1152 1 := cmpf .olt main_v12 main_v13
  let main_v15 : FVec F S128x512 .f32 := (extf .f32 · bitsLt_bf16_f32) main_arg3
  let main_v16 : FVec F S128x512 .f32 := Host.absf main_v15
  let main_cst_3 : FVec F S_ .f32 := constant S_ .f32 0x7F800000#32
  let main_v17 : FVec F S128x512 .f32 := broadcastInDim S128x512 ![] bcast_S_S128x512 main_cst_3
  let main_v18 : IVec S128x512 1 := cmpf .olt main_v16 main_v17
  (main_v6, main_v10, main_v14, main_v18)
-- ==== LayerB.lean ====
abbrev S4096x512 : Shape := ⟨2, ![4096, 512]⟩
abbrev S4096x4096 : Shape := ⟨2, ![4096, 4096]⟩
abbrev S512x1152 : Shape := ⟨2, ![512, 1152]⟩
abbrev S128x512 : Shape := ⟨2, ![128, 512]⟩
abbrev S256x512 : Shape := ⟨2, ![256, 512]⟩
abbrev S256x4096 : Shape := ⟨2, ![256, 4096]⟩
abbrev S512x4096 : Shape := ⟨2, ![512, 4096]⟩
abbrev S4096x1280 : Shape := ⟨2, ![4096, 1280]⟩
abbrev S4096x128 : Shape := ⟨2, ![4096, 128]⟩
abbrev S128x4096 : Shape := ⟨2, ![128, 4096]⟩
abbrev S512x512 : Shape := ⟨2, ![512, 512]⟩
abbrev S512x128 : Shape := ⟨2, ![512, 128]⟩
abbrev S512x1 : Shape := ⟨2, ![512, 1]⟩
abbrev S1x4096 : Shape := ⟨2, ![1, 4096]⟩
abbrev S1 : Shape := ⟨1, ![1]⟩
abbrev S1x1 : Shape := ⟨2, ![1, 1]⟩
abbrev S4096x640 : Shape := ⟨2, ![4096, 640]⟩
abbrev S512x640 : Shape := ⟨2, ![512, 640]⟩

abbrev nBuf : Space → Nat
  | .hbm => 6
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x1152, .bf16⟩
  | .hbm, ⟨3, _⟩ => ⟨S128x512, .bf16⟩
  | .hbm, ⟨4, _⟩ => ⟨S256x512, .bf16⟩
  | .hbm, ⟨5, _⟩ => ⟨S256x4096, .f32⟩
  | .local _ .vmem, ⟨0, _⟩ => ⟨S4096x512, .bf16⟩
  | .local _ .vmem, ⟨1, _⟩ => ⟨S512x4096, .bf16⟩
  | .local _ .vmem, ⟨2, _⟩ => ⟨S512x4096, .bf16⟩
  | .local _ .vmem, ⟨3, _⟩ => ⟨S512x1152, .bf16⟩
  | .local _ .vmem, ⟨4, _⟩ => ⟨S128x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S4096x1280, .bf16⟩
  | .local _ .vmem, ⟨9, _⟩ => ⟨S4096x128, .f32⟩
  | .local _ .vmem, ⟨10, _⟩ => ⟨S128x4096, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LayerBIdeal.lean ====
variable {F : FTy → Type} [FloatOps F] [Named F]
def κ : String → Option EReal := fun
  | "coslope" => some ((53687091 / 67108864 : ℝ) : EReal)
  | "floor" => some ⊥
  | _ => none
-- ==== RefBIdeal.lean ====
abbrev S4096x512 : Shape := ⟨2, ![4096, 512]⟩
abbrev S4096x4096 : Shape := ⟨2, ![4096, 4096]⟩
abbrev S512x1152 : Shape := ⟨2, ![512, 1152]⟩
abbrev S128x512 : Shape := ⟨2, ![128, 512]⟩
abbrev S256x512 : Shape := ⟨2, ![256, 512]⟩
abbrev S512x512 : Shape := ⟨2, ![512, 512]⟩
abbrev S1x4096x512 : Shape := ⟨3, ![1, 4096, 512]⟩
abbrev S2x4096x512 : Shape := ⟨3, ![2, 4096, 512]⟩
abbrev S512x2 : Shape := ⟨2, ![512, 2]⟩
abbrev S2x4096 : Shape := ⟨2, ![2, 4096]⟩
abbrev S2x4096x1 : Shape := ⟨3, ![2, 4096, 1]⟩
abbrev S2x512 : Shape := ⟨2, ![2, 512]⟩
abbrev S2x1x4096 : Shape := ⟨3, ![2, 1, 4096]⟩
abbrev S2x4096x4096 : Shape := ⟨3, ![2, 4096, 4096]⟩
abbrev S_ : Shape := ⟨0, ![]⟩
abbrev S1x4096x4096 : Shape := ⟨3, ![1, 4096, 4096]⟩
abbrev S512x4096 : Shape := ⟨2, ![512, 4096]⟩
abbrev S256x4096 : Shape := ⟨2, ![256, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x1152, .bf16⟩
  | .hbm, ⟨3, _⟩ => ⟨S128x512, .bf16⟩
  | .hbm, ⟨4, _⟩ => ⟨S256x512, .bf16⟩
  | .hbm, ⟨5, _⟩ => ⟨S4096x512, .f32⟩
  | .hbm, ⟨6, _⟩ => ⟨S4096x4096, .f32⟩
  | .hbm, ⟨7, _⟩ => ⟨S512x1152, .f32⟩
  | .hbm, ⟨8, _⟩ => ⟨S128x512, .f32⟩
  | .hbm, ⟨9, _⟩ => ⟨S256x512, .f32⟩
  | .hbm, ⟨10, _⟩ => ⟨S512x512, .f32⟩
  | .hbm, ⟨11, _⟩ => ⟨S4096x512, .f32⟩
  | .hbm, ⟨12, _⟩ => ⟨S512x512, .f32⟩
  | .hbm, ⟨13, _⟩ => ⟨S4096x512, .f32⟩
  | .hbm, ⟨14, _⟩ => ⟨S1x4096x512, .f32⟩
  | .hbm, ⟨15, _⟩ => ⟨S1x4096x512, .f32⟩
  | .hbm, ⟨16, _⟩ => ⟨S2x4096x512, .f32⟩
  | .hbm, ⟨17, _⟩ => ⟨S512x2, .f32⟩
  | .hbm, ⟨18, _⟩ => ⟨S2x4096, .f32⟩
  | .hbm, ⟨19, _⟩ => ⟨S2x4096x1, .f32⟩
  | .hbm, ⟨20, _⟩ => ⟨S2x512, .f32⟩
  | .hbm, ⟨21, _⟩ => ⟨S2x4096, .f32⟩
  | .hbm, ⟨22, _⟩ => ⟨S2x1x4096, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S_, .f32⟩
  | .hbm, ⟨27, _⟩ => ⟨S_, .f32⟩
  | .hbm, ⟨28, _⟩ => ⟨S2x4096x4096, .f32⟩
  | .hbm, ⟨29, _⟩ => ⟨S2x4096x4096, .i1⟩
  | .hbm, ⟨30, _⟩ => ⟨S_, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S4096x4096, .f32⟩
  | .hbm, ⟨36, _⟩ => ⟨S4096x4096, .i1⟩
  | .hbm, ⟨37, _⟩ => ⟨S1x4096x4096, .i1⟩
  | .hbm, ⟨38, _⟩ => ⟨S_, .f32⟩
  | .hbm, ⟨39, _⟩ => ⟨S_, .f32⟩
  | .hbm, ⟨40, _⟩ => ⟨S2x4096x4096, .i1⟩
  | .hbm, ⟨41, _⟩ => ⟨S2x4096x4096, .f32⟩
  | .hbm, ⟨42, _⟩ => ⟨S2x4096x4096, .f32⟩
  | .hbm, ⟨43, _⟩ => ⟨S_, .f32⟩
  | .hbm, ⟨44, _⟩ => ⟨S2x4096, .f32⟩
  | .hbm, ⟨45, _⟩ => ⟨S_, .f32⟩
  | .hbm, ⟨46, _⟩ => ⟨S2x4096, .f32⟩
  | .hbm, ⟨47, _⟩ => ⟨S2x4096, .f32⟩
  | .hbm, ⟨48, _⟩ => ⟨S2x4096x1, .f32⟩
  | .hbm, ⟨49, _⟩ => ⟨S2x4096x4096, .f32⟩
  | .hbm, ⟨50, _⟩ => ⟨S2x4096x4096, .f32⟩
  | .hbm, ⟨51, _⟩ => ⟨S2x4096x4096, .f32⟩
  | .hbm, ⟨52, _⟩ => ⟨S_, .f32⟩
  | .hbm, ⟨53, _⟩ => ⟨S2x4096, .f32⟩
  | .hbm, ⟨54, _⟩ => ⟨S2x4096x1, .f32⟩
  | .hbm, ⟨55, _⟩ => ⟨S2x4096x4096, .f32⟩
  | .hbm, ⟨56, _⟩ => ⟨S2x4096x4096, .f32⟩
  | .hbm, ⟨57, _⟩ => ⟨S_, .f32⟩
  | .hbm, ⟨58, _⟩ => ⟨S_, .f32⟩
  | .hbm, ⟨59, _⟩ => ⟨S2x4096x4096, .i1⟩
  | .hbm, ⟨60, _⟩ => ⟨S2x4096x4096, .f32⟩
  | .hbm, ⟨61, _⟩ => ⟨S2x4096x4096, .f32⟩
  | .hbm, ⟨62, _⟩ => ⟨S2x4096x512, .f32⟩
  | .hbm, ⟨63, _⟩ => ⟨S_, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S512x4096, .f32⟩
  | .hbm, ⟨69, _⟩ => ⟨S256x4096, .f32⟩
  | .hbm, ⟨70, _⟩ => ⟨S256x4096, .f32⟩
  | .hbm, ⟨71, _⟩ => ⟨S256x4096, .f32⟩
  | .hbm, ⟨72, _⟩ => ⟨S_, .f32⟩
  | .hbm, ⟨73, _⟩ => ⟨S256x4096, .f32⟩
  | .hbm, ⟨74, _⟩ => ⟨S256x4096, .f32⟩
  | .hbm, ⟨75, _⟩ => ⟨S_, .f32⟩
  | .hbm, ⟨76, _⟩ => ⟨S256x4096, .f32⟩
  | .hbm, ⟨77, _⟩ => ⟨S256x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== LayerA.lean ====
abbrev S4096x300 : Shape := ⟨2, ![4096, 300]⟩
abbrev S4096x4096 : Shape := ⟨2, ![4096, 4096]⟩
abbrev S300x1152 : Shape := ⟨2, ![300, 1152]⟩
abbrev S128x300 : Shape := ⟨2, ![128, 300]⟩
abbrev S4096x512 : Shape := ⟨2, ![4096, 512]⟩
abbrev S512x4096 : Shape := ⟨2, ![512, 4096]⟩
abbrev S512x512 : Shape := ⟨2, ![512, 512]⟩
abbrev S4096x1280 : Shape := ⟨2, ![4096, 1280]⟩
abbrev S4096x128 : Shape := ⟨2, ![4096, 128]⟩
abbrev S128x4096 : Shape := ⟨2, ![128, 4096]⟩
abbrev S512x300 : Shape := ⟨2, ![512, 300]⟩
abbrev S512x1152 : Shape := ⟨2, ![512, 1152]⟩
abbrev S512x128 : Shape := ⟨2, ![512, 128]⟩
abbrev S128x512 : Shape := ⟨2, ![128, 512]⟩
abbrev S512x1 : Shape := ⟨2, ![512, 1]⟩
abbrev S1x4096 : Shape := ⟨2, ![1, 4096]⟩
abbrev S1 : Shape := ⟨1, ![1]⟩
abbrev S1x1 : Shape := ⟨2, ![1, 1]⟩
abbrev S4096x640 : Shape := ⟨2, ![4096, 640]⟩
abbrev S512x640 : Shape := ⟨2, ![512, 640]⟩

abbrev nBuf : Space → Nat
  | .hbm => 5
  | .vmem => 10
  | .smem => 0
  | _ => 0

abbrev bufTy : (tb : Table) → Fin (tcTables nBuf tb) → BufTy
  | .hbm, ⟨0, _⟩ => ⟨S4096x300, .bf16⟩
  | .hbm, ⟨1, _⟩ => ⟨S4096x4096, .bf16⟩
  | .hbm, ⟨2, _⟩ => ⟨S300x1152, .bf16⟩
  | .hbm, ⟨3, _⟩ => ⟨S128x300, .bf16⟩
  | .hbm, ⟨4, _⟩ => ⟨S4096x512, .bf16⟩
  | .local _ .vmem, ⟨0, _⟩ => ⟨S4096x300, .bf16⟩
  | .local _ .vmem, ⟨1, _⟩ => ⟨S512x4096, .bf16⟩
  | .local _ .vmem, ⟨2, _⟩ => ⟨S512x4096, .bf16⟩
  | .local _ .vmem, ⟨3, _⟩ => ⟨S300x1152, .bf16⟩
  | .local _ .vmem, ⟨4, _⟩ => ⟨S128x300, .bf16⟩
  | .local _ .vmem, ⟨5, _⟩ => ⟨S512x512, .bf16⟩
  | .local _ .vmem, ⟨6, _⟩ => ⟨S512x512, .bf16⟩
  | .local _ .vmem, ⟨7, _⟩ => ⟨S4096x1280, .bf16⟩
  | .local _ .vmem, ⟨8, _⟩ => ⟨S4096x128, .f32⟩
  | .local _ .vmem, ⟨9, _⟩ => ⟨S128x4096, .f32⟩
  | _, _ => ⟨S4096x300, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x300 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LayerAIdeal.lean ====
variable {F : FTy → Type} [FloatOps F] [Named F]
def κ : String → Option EReal := fun
  | "coslope" => some ((53687091 / 67108864 : ℝ) : EReal)
  | "floor" => some ⊥
  | _ => none
-- ==== RefAIdeal.lean ====
abbrev S4096x300 : Shape := ⟨2, ![4096, 300]⟩
abbrev S4096x4096 : Shape := ⟨2, ![4096, 4096]⟩
abbrev S300x1152 : Shape := ⟨2, ![300, 1152]⟩
abbrev S128x300 : Shape := ⟨2, ![128, 300]⟩
abbrev S300x512 : Shape := ⟨2, ![300, 512]⟩
abbrev S4096x512 : Shape := ⟨2, ![4096, 512]⟩
abbrev S1x4096x512 : Shape := ⟨3, ![1, 4096, 512]⟩
abbrev S2x4096x512 : Shape := ⟨3, ![2, 4096, 512]⟩
abbrev S300x2 : Shape := ⟨2, ![300, 2]⟩
abbrev S2x4096 : Shape := ⟨2, ![2, 4096]⟩
abbrev S2x4096x1 : Shape := ⟨3, ![2, 4096, 1]⟩
abbrev S2x300 : Shape := ⟨2, ![2, 300]⟩
abbrev S2x1x4096 : Shape := ⟨3, ![2, 1, 4096]⟩
abbrev S2x4096x4096 : Shape := ⟨3, ![2, 4096, 4096]⟩
abbrev S_ : Shape := ⟨0, ![]⟩
abbrev S1x4096x4096 : Shape := ⟨3, ![1, 4096, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4096x300, .bf16⟩
  | .hbm, ⟨1, _⟩ => ⟨S4096x4096, .bf16⟩
  | .hbm, ⟨2, _⟩ => ⟨S300x1152, .bf16⟩
  | .hbm, ⟨3, _⟩ => ⟨S128x300, .bf16⟩
  | .hbm, ⟨4, _⟩ => ⟨S4096x300, .f32⟩
  | .hbm, ⟨5, _⟩ => ⟨S4096x4096, .f32⟩
  | .hbm, ⟨6, _⟩ => ⟨S300x1152, .f32⟩
  | .hbm, ⟨7, _⟩ => ⟨S128x300, .f32⟩
  | .hbm, ⟨8, _⟩ => ⟨S300x512, .f32⟩
  | .hbm, ⟨9, _⟩ => ⟨S4096x512, .f32⟩
  | .hbm, ⟨10, _⟩ => ⟨S300x512, .f32⟩
  | .hbm, ⟨11, _⟩ => ⟨S4096x512, .f32⟩
  | .hbm, ⟨12, _⟩ => ⟨S1x4096x512, .f32⟩
  | .hbm, ⟨13, _⟩ => ⟨S1x4096x512, .f32⟩
  | .hbm, ⟨14, _⟩ => ⟨S2x4096x512, .f32⟩
  | .hbm, ⟨15, _⟩ => ⟨S300x2, .f32⟩
  | .hbm, ⟨16, _⟩ => ⟨S2x4096, .f32⟩
  | .hbm, ⟨17, _⟩ => ⟨S2x4096x1, .f32⟩
  | .hbm, ⟨18, _⟩ => ⟨S2x300, .f32⟩
  | .hbm, ⟨19, _⟩ => ⟨S2x4096, .f32⟩
  | .hbm, ⟨20, _⟩ => ⟨S2x1x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S_, .f32⟩
  | .hbm, ⟨26, _⟩ => ⟨S2x4096x4096, .f32⟩
  | .hbm, ⟨27, _⟩ => ⟨S2x4096x4096, .i1⟩
  | .hbm, ⟨28, _⟩ => ⟨S_, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S1x4096x4096, .i1⟩
  | .hbm, ⟨36, _⟩ => ⟨S_, .f32⟩
  | .hbm, ⟨37, _⟩ => ⟨S_, .f32⟩
  | .hbm, ⟨38, _⟩ => ⟨S2x4096x4096, .i1⟩
  | .hbm, ⟨39, _⟩ => ⟨S2x4096x4096, .f32⟩
  | .hbm, ⟨40, _⟩ => ⟨S2x4096x4096, .f32⟩
  | .hbm, ⟨41, _⟩ => ⟨S_, .f32⟩
  | .hbm, ⟨42, _⟩ => ⟨S2x4096, .f32⟩
  | .hbm, ⟨43, _⟩ => ⟨S_, .f32⟩
  | .hbm, ⟨44, _⟩ => ⟨S2x4096, .f32⟩
  | .hbm, ⟨45, _⟩ => ⟨S2x4096, .f32⟩
  | .hbm, ⟨46, _⟩ => ⟨S2x4096x1, .f32⟩
  | .hbm, ⟨47, _⟩ => ⟨S2x4096x4096, .f32⟩
  | .hbm, ⟨48, _⟩ => ⟨S2x4096x4096, .f32⟩
  | .hbm, ⟨49, _⟩ => ⟨S2x4096x4096, .f32⟩
  | .hbm, ⟨50, _⟩ => ⟨S_, .f32⟩
  | .hbm, ⟨51, _⟩ => ⟨S2x4096, .f32⟩
  | .hbm, ⟨52, _⟩ => ⟨S2x4096x1, .f32⟩
  | .hbm, ⟨53, _⟩ => ⟨S2x4096x4096, .f32⟩
  | .hbm, ⟨54, _⟩ => ⟨S2x4096x4096, .f32⟩
  | .hbm, ⟨55, _⟩ => ⟨S_, .f32⟩
  | .hbm, ⟨56, _⟩ => ⟨S_, .f32⟩
  | .hbm, ⟨57, _⟩ => ⟨S2x4096x4096, .i1⟩
  | .hbm, ⟨58, _⟩ => ⟨S2x4096x4096, .f32⟩
  | .hbm, ⟨59, _⟩ => ⟨S2x4096x4096, .f32⟩
  | .hbm, ⟨60, _⟩ => ⟨S2x4096x512, .f32⟩
  | .hbm, ⟨61, _⟩ => ⟨S_, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S4096x512, .f32⟩
  | .hbm, ⟨68, _⟩ => ⟨S4096x512, .i1⟩
  | .hbm, ⟨69, _⟩ => ⟨S_, .f32⟩
  | .hbm, ⟨70, _⟩ => ⟨S4096x512, .f32⟩
  | .hbm, ⟨71, _⟩ => ⟨S4096x512, .i1⟩
  | .hbm, ⟨72, _⟩ => ⟨S_, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .bf16⟩
  | _, _ => ⟨S4096x300, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_call3_cst : Ref sig .tc := ⟨.hbm, 66, rfl⟩
abbrev main_call3_v0 : Ref sig .tc := ⟨.hbm, 67, rfl⟩
abbrev main_call3_v1 : Ref sig .tc := ⟨.hbm, 68, rfl⟩
abbrev main_call3_cst_0 : Ref sig .tc := ⟨.hbm, 69, rfl⟩
abbrev main_call3_v2 : Ref sig .tc := ⟨.hbm, 70, rfl⟩
abbrev main_call3_v3 : Ref sig .tc := ⟨.hbm, 71, rfl⟩
abbrev main_call3_cst_1 : Ref sig .tc := ⟨.hbm, 72, rfl⟩
abbrev main_call3_call0_v0 : Ref sig .tc := ⟨.hbm, 73, rfl⟩
abbrev main_call3_call0_v1 : Ref sig .tc := ⟨.hbm, 74, rfl⟩
abbrev main_call3_v4 : Ref sig .tc := ⟨.hbm, 75, rfl⟩
abbrev main_call3_v5 : Ref sig .tc := ⟨.hbm, 76, rfl⟩
abbrev main_call3_cst_2 : Ref sig .tc := ⟨.hbm, 77, rfl⟩
abbrev main_call3_v6 : Ref sig .tc := ⟨.hbm, 78, rfl⟩
abbrev main_call3_v7 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]
-- ==== Kernel.lean ====
abbrev S256x100x300 : Shape := ⟨3, ![256, 100, 300]⟩
abbrev S3956x300 : Shape := ⟨2, ![3956, 300]⟩
abbrev S3956x3956 : Shape := ⟨2, ![3956, 3956]⟩
abbrev S1024x300 : Shape := ⟨2, ![1024, 300]⟩
abbrev S1024x256 : Shape := ⟨2, ![1024, 256]⟩
abbrev S1024 : Shape := ⟨1, ![1024]⟩
abbrev S2x300x512 : Shape := ⟨3, ![2, 300, 512]⟩
abbrev S2x1024 : Shape := ⟨2, ![2, 1024]⟩
abbrev S2x512x512 : Shape := ⟨3, ![2, 512, 512]⟩
abbrev S300x1024 : Shape := ⟨2, ![300, 1024]⟩
abbrev S1x1024 : Shape := ⟨2, ![1, 1024]⟩
abbrev S301x1024 : Shape := ⟨2, ![301, 1024]⟩
abbrev S256x1024 : Shape := ⟨2, ![256, 1024]⟩
abbrev S100x256x300 : Shape := ⟨3, ![100, 256, 300]⟩
abbrev S_ : Shape := ⟨0, ![]⟩
abbrev S100x256x1 : Shape := ⟨3, ![100, 256, 1]⟩
abbrev S100x256x301 : Shape := ⟨3, ![100, 256, 301]⟩
abbrev S4096x300 : Shape := ⟨2, ![4096, 300]⟩
abbrev S300x128 : Shape := ⟨2, ![300, 128]⟩
abbrev S1x300x512 : Shape := ⟨3, ![1, 300, 512]⟩
abbrev S300x512 : Shape := ⟨2, ![300, 512]⟩
abbrev S1x512 : Shape := ⟨2, ![1, 512]⟩
abbrev S512 : Shape := ⟨1, ![512]⟩
abbrev S300 : Shape := ⟨1, ![300]⟩
abbrev S1 : Shape := ⟨1, ![1]⟩
abbrev S300x1152 : Shape := ⟨2, ![300, 1152]⟩
abbrev S128x300 : Shape := ⟨2, ![128, 300]⟩
abbrev S512x128 : Shape := ⟨2, ![512, 128]⟩
abbrev S1x512x512 : Shape := ⟨3, ![1, 512, 512]⟩
abbrev S512x512 : Shape := ⟨2, ![512, 512]⟩
abbrev S512x1152 : Shape := ⟨2, ![512, 1152]⟩
abbrev S128x512 : Shape := ⟨2, ![128, 512]⟩
abbrev S256x512 : Shape := ⟨2, ![256, 512]⟩
abbrev S4096x4096 : Shape := ⟨2, ![4096, 4096]⟩
abbrev S10x256x301 : Shape := ⟨3, ![10, 256, 301]⟩
abbrev S416x4096 : Shape := ⟨2, ![416, 4096]⟩
abbrev S256x256 : Shape := ⟨2, ![256, 256]⟩
abbrev S1x256x301 : Shape := ⟨3, ![1, 256, 301]⟩
abbrev S256x301 : Shape := ⟨2, ![256, 301]⟩
abbrev S4096x512 : Shape := ⟨2, ![4096, 512]⟩
abbrev S512x4096 : Shape := ⟨2, ![512, 4096]⟩
abbrev S4096x1280 : Shape := ⟨2, ![4096, 1280]⟩
abbrev S4096x128 : Shape := ⟨2, ![4096, 128]⟩
abbrev S128x4096 : Shape := ⟨2, ![128, 4096]⟩
abbrev S512x300 : Shape := ⟨2, ![512, 300]⟩
abbrev S512x1 : Shape := ⟨2, ![512, 1]⟩
abbrev S1x4096 : Shape := ⟨2, ![1, 4096]⟩
abbrev S1x1 : Shape := ⟨2, ![1, 1]⟩
abbrev S4096x640 : Shape := ⟨2, ![4096, 640]⟩
abbrev S512x640 : Shape := ⟨2, ![512, 640]⟩
abbrev S256x4096 : Shape := ⟨2, ![256, 4096]⟩
abbrev S256x3956 : Shape := ⟨2, ![256, 3956]⟩

abbrev nBuf : Space → Nat
  | .hbm => 128
  | .vmem => 33
  | .smem => 0
  | _ => 0

abbrev bufTy : (tb : Table) → Fin (tcTables nBuf tb) → BufTy
  | .hbm, ⟨0, _⟩ => ⟨S256x100x300, .f32⟩
  | .hbm, ⟨1, _⟩ => ⟨S3956x300, .f32⟩
  | .hbm, ⟨2, _⟩ => ⟨S3956x3956, .f32⟩
  | .hbm, ⟨3, _⟩ => ⟨S1024x300, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024x300, .f32⟩
  | .hbm, ⟨8, _⟩ => ⟨S1024x256, .f32⟩
  | .hbm, ⟨9, _⟩ => ⟨S1024, .f32⟩
  | .hbm, ⟨10, _⟩ => ⟨S1024, .f32⟩
  | .hbm, ⟨11, _⟩ => ⟨S2x300x512, .f32⟩
  | .hbm, ⟨12, _⟩ => ⟨S2x1024, .f32⟩
  | .hbm, ⟨13, _⟩ => ⟨S2x512x512, .f32⟩
  | .hbm, ⟨14, _⟩ => ⟨S2x1024, .f32⟩
  | .hbm, ⟨15, _⟩ => ⟨S300x1024, .f32⟩
  | .hbm, ⟨16, _⟩ => ⟨S1024, .f32⟩
  | .hbm, ⟨17, _⟩ => ⟨S1x1024, .f32⟩
  | .hbm, ⟨18, _⟩ => ⟨S301x1024, .f32⟩
  | .hbm, ⟨19, _⟩ => ⟨S301x1024, .bf16⟩
  | .hbm, ⟨20, _⟩ => ⟨S256x1024, .f32⟩
  | .hbm, ⟨21, _⟩ => ⟨S256x1024, .bf16⟩
  | .hbm, ⟨22, _⟩ => ⟨S300x1024, .f32⟩
  | .hbm, ⟨23, _⟩ => ⟨S1024, .f32⟩
  | .hbm, ⟨24, _⟩ => ⟨S1x1024, .f32⟩
  | .hbm, ⟨25, _⟩ => ⟨S301x1024, .f32⟩
  | .hbm, ⟨26, _⟩ => ⟨S301x1024, .bf16⟩
  | .hbm, ⟨27, _⟩ => ⟨S100x256x300, .f32⟩
  | .hbm, ⟨28, _⟩ => ⟨S_, .f32⟩
  | .hbm, ⟨29, _⟩ => ⟨S100x256x1, .f32⟩
  | .hbm, ⟨30, _⟩ => ⟨S100x256x301, .f32⟩
  | .hbm, ⟨31, _⟩ => ⟨S100x256x301, .bf16⟩
  | .hbm, ⟨32, _⟩ => ⟨S_, .i32⟩
  | .hbm, ⟨33, _⟩ => ⟨S_, .f32⟩
  | .hbm, ⟨34, _⟩ => ⟨S4096x300, .f32⟩
  | .hbm, ⟨35, _⟩ => ⟨S4096x300, .bf16⟩
  | .hbm, ⟨36, _⟩ => ⟨S_, .f32⟩
  | .hbm, ⟨37, _⟩ => ⟨S300x128, .f32⟩
  | .hbm, ⟨38, _⟩ => ⟨S1x300x512, .f32⟩
  | .hbm, ⟨39, _⟩ => ⟨S300x512, .f32⟩
  | .hbm, ⟨40, _⟩ => ⟨S1x512, .f32⟩
  | .hbm, ⟨41, _⟩ => ⟨S512, .f32⟩
  | .hbm, ⟨42, _⟩ => ⟨S300, .f32⟩
  | .hbm, ⟨43, _⟩ => ⟨S_, .i32⟩
  | .hbm, ⟨44, _⟩ => ⟨S1, .i32⟩
  | .hbm, ⟨45, _⟩ => ⟨S300x128, .f32⟩
  | .hbm, ⟨46, _⟩ => ⟨S1x300x512, .f32⟩
  | .hbm, ⟨47, _⟩ => ⟨S300x512, .f32⟩
  | .hbm, ⟨48, _⟩ => ⟨S1x512, .f32⟩
  | .hbm, ⟨49, _⟩ => ⟨S512, .f32⟩
  | .hbm, ⟨50, _⟩ => ⟨S300, .f32⟩
  | .hbm, ⟨51, _⟩ => ⟨S_, .i32⟩
  | .hbm, ⟨52, _⟩ => ⟨S1, .i32⟩
  | .hbm, ⟨53, _⟩ => ⟨S300x128, .f32⟩
  | .hbm, ⟨54, _⟩ => ⟨S1x300x512, .f32⟩
  | .hbm, ⟨55, _⟩ => ⟨S300x512, .f32⟩
  | .hbm, ⟨56, _⟩ => ⟨S1x300x512, .f32⟩
  | .hbm, ⟨57, _⟩ => ⟨S300x512, .f32⟩
  | .hbm, ⟨58, _⟩ => ⟨S300x1152, .f32⟩
  | .hbm, ⟨59, _⟩ => ⟨S300x1152, .bf16⟩
  | .hbm, ⟨60, _⟩ => ⟨S_, .f32⟩
  | .hbm, ⟨61, _⟩ => ⟨S128x300, .f32⟩
  | .hbm, ⟨62, _⟩ => ⟨S1x300x512, .f32⟩
  | .hbm, ⟨63, _⟩ => ⟨S300x512, .f32⟩
  | .hbm, ⟨64, _⟩ => ⟨S1x512, .f32⟩
  | .hbm, ⟨65, _⟩ => ⟨S512, .f32⟩
  | .hbm, ⟨66, _⟩ => ⟨S300, .f32⟩
  | .hbm, ⟨67, _⟩ => ⟨S_, .i32⟩
  | .hbm, ⟨68, _⟩ => ⟨S1, .i32⟩
  | .hbm, ⟨69, _⟩ => ⟨S128x300, .f32⟩
  | .hbm, ⟨70, _⟩ => ⟨S1x300x512, .f32⟩
  | .hbm, ⟨71, _⟩ => ⟨S300x512, .f32⟩
  | .hbm, ⟨72, _⟩ => ⟨S1x512, .f32⟩
  | .hbm, ⟨73, _⟩ => ⟨S512, .f32⟩
  | .hbm, ⟨74, _⟩ => ⟨S300, .f32⟩
  | .hbm, ⟨75, _⟩ => ⟨S_, .i32⟩
  | .hbm, ⟨76, _⟩ => ⟨S1, .i32⟩
  | .hbm, ⟨77, _⟩ => ⟨S128x300, .f32⟩
  | .hbm, ⟨78, _⟩ => ⟨S128x300, .bf16⟩
  | .hbm, ⟨79, _⟩ => ⟨S_, .f32⟩
  | .hbm, ⟨80, _⟩ => ⟨S512x128, .f32⟩
  | .hbm, ⟨81, _⟩ => ⟨S1x512x512, .f32⟩
  | .hbm, ⟨82, _⟩ => ⟨S512x512, .f32⟩
  | .hbm, ⟨83, _⟩ => ⟨S1x512, .f32⟩
  | .hbm, ⟨84, _⟩ => ⟨S512, .f32⟩
  | .hbm, ⟨85, _⟩ => ⟨S512, .f32⟩
  | .hbm, ⟨86, _⟩ => ⟨S_, .i32⟩
  | .hbm, ⟨87, _⟩ => ⟨S1, .i32⟩
  | .hbm, ⟨88, _⟩ => ⟨S512x128, .f32⟩
  | .hbm, ⟨89, _⟩ => ⟨S1x512x512, .f32⟩
  | .hbm, ⟨90, _⟩ => ⟨S512x512, .f32⟩
  | .hbm, ⟨91, _⟩ => ⟨S1x512, .f32⟩
  | .hbm, ⟨92, _⟩ => ⟨S512, .f32⟩
  | .hbm, ⟨93, _⟩ => ⟨S512, .f32⟩
  | .hbm, ⟨94, _⟩ => ⟨S_, .i32⟩
  | .hbm, ⟨95, _⟩ => ⟨S1, .i32⟩
  | .hbm, ⟨96, _⟩ => ⟨S512x128, .f32⟩
  | .hbm, ⟨97, _⟩ => ⟨S1x512x512, .f32⟩
  | .hbm, ⟨98, _⟩ => ⟨S512x512, .f32⟩
  | .hbm, ⟨99, _⟩ => ⟨S1x512x512, .f32⟩
  | .hbm, ⟨100, _⟩ => ⟨S512x512, .f32⟩
  | .hbm, ⟨101, _⟩ => ⟨S512x1152, .f32⟩
  | .hbm, ⟨102, _⟩ => ⟨S512x1152, .bf16⟩
  | .hbm, ⟨103, _⟩ => ⟨S_, .f32⟩
  | .hbm, ⟨104, _⟩ => ⟨S128x512, .f32⟩
  | .hbm, ⟨105, _⟩ => ⟨S1x512x512, .f32⟩
  | .hbm, ⟨106, _⟩ => ⟨S512x512, .f32⟩
  | .hbm, ⟨107, _⟩ => ⟨S1x512, .f32⟩
  | .hbm, ⟨108, _⟩ => ⟨S512, .f32⟩
  | .hbm, ⟨109, _⟩ => ⟨S512, .f32⟩
  | .hbm, ⟨110, _⟩ => ⟨S_, .i32⟩
  | .hbm, ⟨111, _⟩ => ⟨S1, .i32⟩
  | .hbm, ⟨112, _⟩ => ⟨S128x512, .f32⟩
  | .hbm, ⟨113, _⟩ => ⟨S1x512x512, .f32⟩
  | .hbm, ⟨114, _⟩ => ⟨S512x512, .f32⟩
  | .hbm, ⟨115, _⟩ => ⟨S1x512, .f32⟩
  | .hbm, ⟨116, _⟩ => ⟨S512, .f32⟩
  | .hbm, ⟨117, _⟩ => ⟨S512, .f32⟩
  | .hbm, ⟨118, _⟩ => ⟨S_, .i32⟩
  | .hbm, ⟨119, _⟩ => ⟨S1, .i32⟩
  | .hbm, ⟨120, _⟩ => ⟨S128x512, .f32⟩
  | .hbm, ⟨121, _⟩ => ⟨S128x512, .bf16⟩
  | .hbm, ⟨122, _⟩ => ⟨S256x512, .f32⟩
  | .hbm, ⟨123, _⟩ => ⟨S4096x4096, .bf16⟩
  | .hbm, ⟨124, _⟩ => ⟨S4096x512, .bf16⟩
  | .hbm, ⟨125, _⟩ => ⟨S256x512, .bf16⟩
  | .hbm, ⟨126, _⟩ => ⟨S256x4096, .f32⟩
  | .hbm, ⟨127, _⟩ => ⟨S256x3956, .f32⟩
  | .local _ .vmem, ⟨0, _⟩ => ⟨S10x256x301, .bf16⟩
  | .local _ .vmem, ⟨1, _⟩ => ⟨S10x256x301, .bf16⟩
  | .local _ .vmem, ⟨2, _⟩ => ⟨S416x4096, .f32⟩
  | .local _ .vmem, ⟨3, _⟩ => ⟨S416x4096, .f32⟩
  | .local _ .vmem, ⟨4, _⟩ => ⟨S301x1024, .bf16⟩
  | .local _ .vmem, ⟨5, _⟩ => ⟨S256x1024, .bf16⟩
  | .local _ .vmem, ⟨6, _⟩ => ⟨S301x1024, .bf16⟩
  | .local _ .vmem, ⟨7, _⟩ => ⟨S256x512, .f32⟩
  | .local _ .vmem, ⟨8, _⟩ => ⟨S416x4096, .bf16⟩
  | .local _ .vmem, ⟨9, _⟩ => ⟨S416x4096, .bf16⟩
  | .local _ .vmem, ⟨10, _⟩ => ⟨S256x256, .bf16⟩
  | .local _ .vmem, ⟨11, _⟩ => ⟨S256x256, .f32⟩
  | .local _ .vmem, ⟨12, _⟩ => ⟨S4096x300, .bf16⟩
  | .local _ .vmem, ⟨13, _⟩ => ⟨S512x4096, .bf16⟩
  | .local _ .vmem, ⟨14, _⟩ => ⟨S512x4096, .bf16⟩
  | .local _ .vmem, ⟨15, _⟩ => ⟨S300x1152, .bf16⟩
  | .local _ .vmem, ⟨16, _⟩ => ⟨S128x300, .bf16⟩
  | .local _ .vmem, ⟨17, _⟩ => ⟨S512x512, .bf16⟩
  | .local _ .vmem, ⟨18, _⟩ => ⟨S512x512, .bf16⟩
  | .local _ .vmem, ⟨19, _⟩ => ⟨S4096x1280, .bf16⟩
  | .local _ .vmem, ⟨20, _⟩ => ⟨S4096x128, .f32⟩
  | .local _ .vmem, ⟨21, _⟩ => ⟨S128x4096, .f32⟩
  | .local _ .vmem, ⟨22, _⟩ => ⟨S4096x512, .bf16⟩
  | .local _ .vmem, ⟨23, _⟩ => ⟨S512x4096, .bf16⟩
  | .local _ .vmem, ⟨24, _⟩ => ⟨S512x4096, .bf16⟩
  | .local _ .vmem, ⟨25, _⟩ => ⟨S512x1152, .bf16⟩
  | .local _ .vmem, ⟨26, _⟩ => ⟨S128x512, .bf16⟩
  | .local _ .vmem, ⟨27, _⟩ => ⟨S256x512, .bf16⟩
  | .local _ .vmem, ⟨28, _⟩ => ⟨S256x512, .f32⟩
  | .local _ .vmem, ⟨29, _⟩ => ⟨S256x512, .f32⟩
  | .local _ .vmem, ⟨30, _⟩ => ⟨S4096x1280, .bf16⟩
  | .local _ .vmem, ⟨31, _⟩ => ⟨S4096x128, .f32⟩
  | .local _ .vmem, ⟨32, _⟩ => ⟨S128x4096, .f32⟩
  | _, _ => ⟨S256x100x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_7 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_10 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_11 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92_0 : Ref sig .tc := ⟨.hbm, 122, rfl⟩
abbrev main_v92_1 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_scratch0 : Ref sig .tc := ⟨.vmem, 30, rfl⟩
abbrev cc2_scratch1 : Ref sig .tc := ⟨.vmem, 31, rfl⟩
abbrev cc2_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def k0_cond4 (i : grid0.Coords) : BitVec 1 :=
  let arg0 : BitVec 32 := BitVec.ofNat 32 (i 0).val
  let c9_i32_183 : BitVec 32 := 9#32
  let v429 : BitVec 1 := Scalar.cmpi .eq arg0 c9_i32_183
  let v430 : BitVec 32 := Scalar.extui v429
  let c0_i32_184 : BitVec 32 := 0#32
  let v431 : BitVec 1 := Scalar.cmpi .ne v430 c0_i32_184
  v431

def k0_cond2 (i : grid0.Coords) : BitVec 1 :=
  let arg0 : BitVec 32 := BitVec.ofNat 32 (i 0).val
  let c9_i32 : BitVec 32 := 9#32
  let v5 : BitVec 1 := Scalar.cmpi .slt arg0 c9_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c9_i32_3 : BitVec 32 := 9#32
  let v8 : BitVec 1 := Scalar.cmpi .eq arg0 c9_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x256x301 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S301x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S301x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S416x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v5 : BitVec 32 := Scalar.muli arg0 c512_i32
  let v6 : Index := Scalar.indexCast v5
  let c0_2 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x300 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x1152 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def k2_off1 (i : grid2.Coords) : Fin 2 → Nat :=
  let arg0 : BitVec 32 := BitVec.ofNat 32 (i 0).val
  let c512_i32 : BitVec 32 := 512#32
  let v5 : BitVec 32 := Scalar.muli arg0 c512_i32
  let v6 : Index := Scalar.indexCast v5
  let c0_2 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x1152 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "coslope" => some ((53687091 / 67108864 : ℝ) : EReal)
  | "floor" => some ⊥
  | _ => none
-- ==== ReferenceIdeal.lean ====
abbrev S256x100x300 : Shape := ⟨3, ![256, 100, 300]⟩
abbrev S3956x300 : Shape := ⟨2, ![3956, 300]⟩
abbrev S3956x3956 : Shape := ⟨2, ![3956, 3956]⟩
abbrev S1024x300 : Shape := ⟨2, ![1024, 300]⟩
abbrev S1024x256 : Shape := ⟨2, ![1024, 256]⟩
abbrev S1024 : Shape := ⟨1, ![1024]⟩
abbrev S2x300x512 : Shape := ⟨3, ![2, 300, 512]⟩
abbrev S2x1024 : Shape := ⟨2, ![2, 1024]⟩
abbrev S2x512x512 : Shape := ⟨3, ![2, 512, 512]⟩
abbrev S100x256x300 : Shape := ⟨3, ![100, 256, 300]⟩
abbrev S_ : Shape := ⟨0, ![]⟩
abbrev S256x256 : Shape := ⟨2, ![256, 256]⟩
abbrev S100x256x256 : Shape := ⟨3, ![100, 256, 256]⟩
abbrev S1x256x300 : Shape := ⟨3, ![1, 256, 300]⟩
abbrev S256x300 : Shape := ⟨2, ![256, 300]⟩
abbrev S300x1024 : Shape := ⟨2, ![300, 1024]⟩
abbrev S256x1024 : Shape := ⟨2, ![256, 1024]⟩
abbrev S1x1024 : Shape := ⟨2, ![1, 1024]⟩
abbrev S1x256x256 : Shape := ⟨3, ![1, 256, 256]⟩
abbrev S256x100x256 : Shape := ⟨3, ![256, 100, 256]⟩
abbrev S256x100x512 : Shape := ⟨3, ![256, 100, 512]⟩
abbrev S256x1x512 : Shape := ⟨3, ![256, 1, 512]⟩
abbrev S256x512 : Shape := ⟨2, ![256, 512]⟩
abbrev S2x512x3956 : Shape := ⟨3, ![2, 512, 3956]⟩
abbrev S2x3956x512 : Shape := ⟨3, ![2, 3956, 512]⟩
abbrev S2x512 : Shape := ⟨2, ![2, 512]⟩
abbrev S2x3956 : Shape := ⟨2, ![2, 3956]⟩
abbrev S2x3956x1 : Shape := ⟨3, ![2, 3956, 1]⟩
abbrev S2x1x3956 : Shape := ⟨3, ![2, 1, 3956]⟩
abbrev S2x3956x3956 : Shape := ⟨3, ![2, 3956, 3956]⟩
abbrev S1x3956x3956 : Shape := ⟨3, ![1, 3956, 3956]⟩
abbrev S3956x512 : Shape := ⟨2, ![3956, 512]⟩
abbrev S512x3956 : Shape := ⟨2, ![512, 3956]⟩
abbrev S256x3956 : Shape := ⟨2, ![256, 3956]⟩

abbrev nBuf : Space → Nat
  | .hbm => 278
  | .vmem => 0
  | .smem => 0
  | _ => 0

abbrev hbmTy0_0 (i : Nat) : BufTy := match i % 128 with
  | 0 => ⟨S256x100x300, .f32⟩
  | 1 => ⟨S3956x300, .f32⟩
  | 2 => ⟨S3956x3956, .f32⟩
  | 3 => ⟨S1024x300, .f32⟩
  | 4 => ⟨S1024x256, .f32⟩
  | 5 => ⟨S1024, .f32⟩
  | 6 => ⟨S1024, .f32⟩
  | 7 => ⟨S1024x300, .f32⟩
  | 8 => ⟨S1024x256, .f32⟩
  | 9 => ⟨S1024, .f32⟩
  | 10 => ⟨S1024, .f32⟩
  | 11 => ⟨S2x300x512, .f32⟩
  | 12 => ⟨S2x1024, .f32⟩
  | 13 => ⟨S2x512x512, .f32⟩
  | 14 => ⟨S2x1024, .f32⟩
  | 15 => ⟨S100x256x300, .f32⟩
  | 16 => ⟨S_, .f32⟩
  | 17 => ⟨S256x256, .f32⟩
  | 18 => ⟨S100x256x300, .f32⟩
  | 19 => ⟨S_, .f32⟩
  | 20 => ⟨S100x256x256, .f32⟩
  | 21 => ⟨S_, .f32⟩
  | 22 => ⟨S100x256x256, .f32⟩
  | 23 => ⟨S_, .i32⟩
  | 24 => ⟨S100x256x300, .f32⟩
  | 25 => ⟨S100x256x300, .f32⟩
  | 26 => ⟨S1024x300, .f32⟩
  | 27 => ⟨S1024x256, .f32⟩
  | 28 => ⟨S1024, .f32⟩
  | 29 => ⟨S1024, .f32⟩
  | 30 => ⟨S1024x300, .f32⟩
  | 31 => ⟨S1024x256, .f32⟩
  | 32 => ⟨S1024, .f32⟩
  | 33 => ⟨S1024, .f32⟩
  | 34 => ⟨S_, .i32⟩
  | 35 => ⟨S256x256, .f32⟩
  | 36 => ⟨S256x256, .f32⟩
  | 37 => ⟨S256x256, .f32⟩
  | 38 => ⟨S256x256, .f32⟩
  | 39 => ⟨S100x256x256, .f32⟩
  | 40 => ⟨S100x256x256, .f32⟩
  | 41 => ⟨S_, .i32⟩
  | 42 => ⟨S_, .i1⟩
  | 43 => ⟨S_, .i32⟩
  | 44 => ⟨S_, .i32⟩
  | 45 => ⟨S1x256x300, .f32⟩
  | 46 => ⟨S256x300, .f32⟩
  | 47 => ⟨S_, .i32⟩
  | 48 => ⟨S_, .i32⟩
  | 49 => ⟨S1x256x300, .f32⟩
  | 50 => ⟨S256x300, .f32⟩
  | 51 => ⟨S300x1024, .f32⟩
  | 52 => ⟨S256x1024, .f32⟩
  | 53 => ⟨S256x1024, .f32⟩
  | 54 => ⟨S256x1024, .f32⟩
  | 55 => ⟨S256x1024, .f32⟩
  | 56 => ⟨S1x1024, .f32⟩
  | 57 => ⟨S256x1024, .f32⟩
  | 58 => ⟨S256x1024, .f32⟩
  | 59 => ⟨S1x1024, .f32⟩
  | 60 => ⟨S256x1024, .f32⟩
  | 61 => ⟨S256x1024, .f32⟩
  | 62 => ⟨S256x256, .f32⟩
  | 63 => ⟨S256x256, .f32⟩
  | 64 => ⟨S256x256, .f32⟩
  | 65 => ⟨S256x256, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S_, .f32⟩
  | 72 => ⟨S256x256, .f32⟩
  | 73 => ⟨S256x256, .f32⟩
  | 74 => ⟨S256x256, .f32⟩
  | 75 => ⟨S256x256, .f32⟩
  | 76 => ⟨S_, .f32⟩
  | 77 => ⟨S256x256, .f32⟩
  | 78 => ⟨S256x256, .f32⟩
  | 79 => ⟨S_, .f32⟩
  | 80 => ⟨S256x256, .f32⟩
  | 81 => ⟨S256x256, .f32⟩
  | 82 => ⟨S256x256, .f32⟩
  | 83 => ⟨S256x256, .f32⟩
  | 84 => ⟨S256x256, .f32⟩
  | 85 => ⟨S_, .f32⟩
  | 86 => ⟨S256x256, .f32⟩
  | 87 => ⟨S256x256, .f32⟩
  | 88 => ⟨S_, .f32⟩
  | 89 => ⟨S256x256, .f32⟩
  | 90 => ⟨S256x256, .f32⟩
  | 91 => ⟨S256x256, .f32⟩
  | 92 => ⟨S256x256, .f32⟩
  | 93 => ⟨S256x256, .f32⟩
  | 94 => ⟨S256x256, .f32⟩
  | 95 => ⟨S256x256, .f32⟩
  | 96 => ⟨S300x1024, .f32⟩
  | 97 => ⟨S256x1024, .f32⟩
  | 98 => ⟨S256x1024, .f32⟩
  | 99 => ⟨S256x1024, .f32⟩
  | 100 => ⟨S256x1024, .f32⟩
  | 101 => ⟨S1x1024, .f32⟩
  | 102 => ⟨S256x1024, .f32⟩
  | 103 => ⟨S256x1024, .f32⟩
  | 104 => ⟨S1x1024, .f32⟩
  | 105 => ⟨S256x1024, .f32⟩
  | 106 => ⟨S256x1024, .f32⟩
  | 107 => ⟨S256x256, .f32⟩
  | 108 => ⟨S256x256, .f32⟩
  | 109 => ⟨S256x256, .f32⟩
  | 110 => ⟨S256x256, .f32⟩
  | 111 => ⟨S256x256, .f32⟩
  | 112 => ⟨S256x256, .f32⟩
  | 113 => ⟨S_, .f32⟩
  | 114 => ⟨S256x256, .f32⟩
  | 115 => ⟨S256x256, .f32⟩
  | 116 => ⟨S_, .f32⟩
  | 117 => ⟨S256x256, .f32⟩
  | 118 => ⟨S256x256, .f32⟩
  | 119 => ⟨S256x256, .f32⟩
  | 120 => ⟨S256x256, .f32⟩
  | 121 => ⟨S_, .f32⟩
  | 122 => ⟨S256x256, .f32⟩
  | 123 => ⟨S256x256, .f32⟩
  | 124 => ⟨S_, .f32⟩
  | 125 => ⟨S256x256, .f32⟩
  | 126 => ⟨S256x256, .f32⟩
  | 127 => ⟨S256x256, .f32⟩
  | _ => ⟨S256x100x300, .f32⟩

abbrev hbmTy0_1 (i : Nat) : BufTy := match i % 128 with
  | 0 => ⟨S256x256, .f32⟩
  | 1 => ⟨S256x256, .f32⟩
  | 2 => ⟨S_, .f32⟩
  | 3 => ⟨S256x256, .f32⟩
  | 4 => ⟨S256x256, .f32⟩
  | 5 => ⟨S_, .f32⟩
  | 6 => ⟨S256x256, .f32⟩
  | 7 => ⟨S256x256, .f32⟩
  | 8 => ⟨S256x256, .f32⟩
  | 9 => ⟨S256x256, .f32⟩
  | 10 => ⟨S256x256, .f32⟩
  | 11 => ⟨S256x256, .f32⟩
  | 12 => ⟨S256x256, .f32⟩
  | 13 => ⟨S1x256x256, .f32⟩
  | 14 => ⟨S_, .i32⟩
  | 15 => ⟨S_, .i32⟩
  | 16 => ⟨S100x256x256, .f32⟩
  | 17 => ⟨S1x256x256, .f32⟩
  | 18 => ⟨S_, .i32⟩
  | 19 => ⟨S_, .i32⟩
  | 20 => ⟨S100x256x256, .f32⟩
  | 21 => ⟨S_, .i32⟩
  | 22 => ⟨S_, .i32⟩
  | 23 => ⟨S256x100x256, .f32⟩
  | 24 => ⟨S100x256x256, .f32⟩
  | 25 => ⟨S256x100x256, .f32⟩
  | 26 => ⟨S256x100x512, .f32⟩
  | 27 => ⟨S256x1x512, .f32⟩
  | 28 => ⟨S256x512, .f32⟩
  | 29 => ⟨S2x512x3956, .f32⟩
  | 30 => ⟨S2x3956x512, .f32⟩
  | 31 => ⟨S2x512, .f32⟩
  | 32 => ⟨S2x3956, .f32⟩
  | 33 => ⟨S2x3956x1, .f32⟩
  | 34 => ⟨S2x512, .f32⟩
  | 35 => ⟨S2x3956, .f32⟩
  | 36 => ⟨S2x1x3956, .f32⟩
  | 37 => ⟨S2x3956x3956, .f32⟩
  | 38 => ⟨S2x3956x3956, .f32⟩
  | 39 => ⟨S2x3956x3956, .f32⟩
  | 40 => ⟨S_, .f32⟩
  | 41 => ⟨S_, .f32⟩
  | 42 => ⟨S2x3956x3956, .f32⟩
  | 43 => ⟨S2x3956x3956, .i1⟩
  | 44 => ⟨S_, .f32⟩
  | 45 => ⟨S2x3956x3956, .f32⟩
  | 46 => ⟨S2x3956x3956, .f32⟩
  | 47 => ⟨S2x3956x3956, .f32⟩
  | 48 => ⟨S_, .f32⟩
  | 49 => ⟨S3956x3956, .f32⟩
  | 50 => ⟨S3956x3956, .i1⟩
  | 51 => ⟨S1x3956x3956, .i1⟩
  | 52 => ⟨S_, .f32⟩
  | 53 => ⟨S_, .f32⟩
  | 54 => ⟨S2x3956x3956, .i1⟩
  | 55 => ⟨S2x3956x3956, .f32⟩
  | 56 => ⟨S2x3956x3956, .f32⟩
  | 57 => ⟨S_, .f32⟩
  | 58 => ⟨S2x3956, .f32⟩
  | 59 => ⟨S_, .f32⟩
  | 60 => ⟨S2x3956, .f32⟩
  | 61 => ⟨S2x3956, .f32⟩
  | 62 => ⟨S2x3956x1, .f32⟩
  | 63 => ⟨S2x3956x3956, .f32⟩
  | 64 => ⟨S2x3956x3956, .f32⟩
  | 65 => ⟨S2x3956x3956, .f32⟩
  | 66 => ⟨S_, .f32⟩
  | 67 => ⟨S2x3956, .f32⟩
  | 68 => ⟨S2x3956x1, .f32⟩
  | 69 => ⟨S2x3956x3956, .f32⟩
  | 70 => ⟨S2x3956x3956, .f32⟩
  | 71 => ⟨S2x3956x512, .f32⟩
  | 72 => ⟨S_, .f32⟩
  | 73 => ⟨S3956x512, .f32⟩
  | 74 => ⟨S_, .f32⟩
  | 75 => ⟨S3956x512, .f32⟩
  | 76 => ⟨S3956x512, .f32⟩
  | 77 => ⟨S_, .f32⟩
  | 78 => ⟨S3956x512, .f32⟩
  | 79 => ⟨S3956x512, .i1⟩
  | 80 => ⟨S_, .f32⟩
  | 81 => ⟨S3956x512, .f32⟩
  | 82 => ⟨S3956x512, .i1⟩
  | 83 => ⟨S_, .f32⟩
  | 84 => ⟨S_, .f32⟩
  | 85 => ⟨S3956x512, .f32⟩
  | 86 => ⟨S3956x512, .f32⟩
  | 87 => ⟨S3956x512, .f32⟩
  | 88 => ⟨S_, .f32⟩
  | 89 => ⟨S3956x512, .f32⟩
  | 90 => ⟨S3956x512, .f32⟩
  | 91 => ⟨S3956x512, .f32⟩
  | 92 => ⟨S2x512x3956, .f32⟩
  | 93 => ⟨S2x3956x512, .f32⟩
  | 94 => ⟨S2x512, .f32⟩
  | 95 => ⟨S2x3956, .f32⟩
  | 96 => ⟨S2x3956x1, .f32⟩
  | 97 => ⟨S2x512, .f32⟩
  | 98 => ⟨S2x3956, .f32⟩
  | 99 => ⟨S2x1x3956, .f32⟩
  | 100 => ⟨S2x3956x3956, .f32⟩
  | 101 => ⟨S2x3956x3956, .f32⟩
  | 102 => ⟨S2x3956x3956, .f32⟩
  | 103 => ⟨S_, .f32⟩
  | 104 => ⟨S_, .f32⟩
  | 105 => ⟨S2x3956x3956, .f32⟩
  | 106 => ⟨S2x3956x3956, .i1⟩
  | 107 => ⟨S_, .f32⟩
  | 108 => ⟨S2x3956x3956, .f32⟩
  | 109 => ⟨S2x3956x3956, .f32⟩
  | 110 => ⟨S2x3956x3956, .f32⟩
  | 111 => ⟨S_, .f32⟩
  | 112 => ⟨S3956x3956, .f32⟩
  | 113 => ⟨S3956x3956, .i1⟩
  | 114 => ⟨S1x3956x3956, .i1⟩
  | 115 => ⟨S_, .f32⟩
  | 116 => ⟨S_, .f32⟩
  | 117 => ⟨S2x3956x3956, .i1⟩
  | 118 => ⟨S2x3956x3956, .f32⟩
  | 119 => ⟨S2x3956x3956, .f32⟩
  | 120 => ⟨S_, .f32⟩
  | 121 => ⟨S2x3956, .f32⟩
  | 122 => ⟨S_, .f32⟩
  | 123 => ⟨S2x3956, .f32⟩
  | 124 => ⟨S2x3956, .f32⟩
  | 125 => ⟨S2x3956x1, .f32⟩
  | 126 => ⟨S2x3956x3956, .f32⟩
  | 127 => ⟨S2x3956x3956, .f32⟩
  | _ => ⟨S256x100x300, .f32⟩

abbrev hbmTy0_2 (i : Nat) : BufTy := match i % 128 with
  | 0 => ⟨S2x3956x3956, .f32⟩
  | 1 => ⟨S_, .f32⟩
  | 2 => ⟨S2x3956, .f32⟩
  | 3 => ⟨S2x3956x1, .f32⟩
  | 4 => ⟨S2x3956x3956, .f32⟩
  | 5 => ⟨S2x3956x3956, .f32⟩
  | 6 => ⟨S2x3956x512, .f32⟩
  | 7 => ⟨S_, .f32⟩
  | 8 => ⟨S3956x512, .f32⟩
  | 9 => ⟨S_, .f32⟩
  | 10 => ⟨S3956x512, .f32⟩
  | 11 => ⟨S3956x512, .f32⟩
  | 12 => ⟨S512x3956, .f32⟩
  | 13 => ⟨S256x3956, .f32⟩
  | 14 => ⟨S256x3956, .f32⟩
  | 15 => ⟨S256x3956, .f32⟩
  | 16 => ⟨S_, .f32⟩
  | 17 => ⟨S256x3956, .f32⟩
  | 18 => ⟨S256x3956, .f32⟩
  | 19 => ⟨S_, .f32⟩
  | 20 => ⟨S256x3956, .f32⟩
  | 21 => ⟨S256x3956, .f32⟩
  | _ => ⟨S256x100x300, .f32⟩

abbrev hbmTy (i : Nat) : BufTy := match i / 128 with
  | 0 => hbmTy0_0 i
  | 1 => hbmTy0_1 i
  | 2 => hbmTy0_2 i
  | _ => ⟨S256x100x300, .f32⟩

abbrev bufTy : (tb : Table) → Fin (tcTables nBuf tb) → BufTy
  | .hbm, ⟨i, _⟩ => hbmTy i
  | _, _ => ⟨S256x100x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_c : Ref sig .tc := ⟨.hbm, 23, rfl⟩
abbrev main_v5_0 : Ref sig .tc := ⟨.hbm, 24, rfl⟩
abbrev main_v5_1 : Ref sig .tc := ⟨.hbm, 25, rfl⟩
abbrev main_v5_2 : Ref sig .tc := ⟨.hbm, 26, rfl⟩
abbrev main_v5_3 : Ref sig .tc := ⟨.hbm, 27, rfl⟩
abbrev main_v5_4 : Ref sig .tc := ⟨.hbm, 28, rfl⟩
abbrev main_v5_5 : Ref sig .tc := ⟨.hbm, 29, rfl⟩
abbrev main_v5_6 : Ref sig .tc := ⟨.hbm, 30, rfl⟩
abbrev main_v5_7 : Ref sig .tc := ⟨.hbm, 31, rfl⟩
abbrev main_v5_8 : Ref sig .tc := ⟨.hbm, 32, rfl⟩
abbrev main_v5_9 : Ref sig .tc := ⟨.hbm, 33, rfl⟩
abbrev main_v5_10 : Ref sig .tc := ⟨.hbm, 34, rfl⟩
abbrev main_v5_11 : Ref sig .tc := ⟨.hbm, 35, rfl⟩
abbrev main_v5_12 : Ref sig .tc := ⟨.hbm, 36, rfl⟩
abbrev main_v5_13 : Ref sig .tc := ⟨.hbm, 37, rfl⟩
abbrev main_v5_14 : Ref sig .tc := ⟨.hbm, 38, rfl⟩
abbrev main_v5_15 : Ref sig .tc := ⟨.hbm, 39, rfl⟩
abbrev main_v5_16 : Ref sig .tc := ⟨.hbm, 40, rfl⟩
abbrev main_while0c_c_36 : Ref sig .tc := ⟨.hbm, 41, rfl⟩
abbrev main_while0c_v83 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_v0 : Ref sig .tc := ⟨.hbm, 45, rfl⟩
abbrev main_while0b_v83 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v84 : Ref sig .tc := ⟨.hbm, 50, rfl⟩
abbrev main_while0b_v85 : Ref sig .tc := ⟨.hbm, 51, rfl⟩
abbrev main_while0b_v86 : Ref sig .tc := ⟨.hbm, 52, rfl⟩
abbrev main_while0b_v87 : Ref sig .tc := ⟨.hbm, 53, rfl⟩
abbrev main_while0b_v88 : Ref sig .tc := ⟨.hbm, 54, rfl⟩
abbrev main_while0b_v89 : Ref sig .tc := ⟨.hbm, 55, rfl⟩
abbrev main_while0b_v90 : Ref sig .tc := ⟨.hbm, 56, rfl⟩
abbrev main_while0b_v91 : Ref sig .tc := ⟨.hbm, 57, rfl⟩
abbrev main_while0b_v92 : Ref sig .tc := ⟨.hbm, 58, rfl⟩
abbrev main_while0b_v93 : Ref sig .tc := ⟨.hbm, 59, rfl⟩
abbrev main_while0b_v94 : Ref sig .tc := ⟨.hbm, 60, rfl⟩
abbrev main_while0b_v95 : Ref sig .tc := ⟨.hbm, 61, rfl⟩
abbrev main_while0b_v96 : Ref sig .tc := ⟨.hbm, 62, rfl⟩
abbrev main_while0b_v97 : Ref sig .tc := ⟨.hbm, 63, rfl⟩
abbrev main_while0b_v98 : Ref sig .tc := ⟨.hbm, 64, rfl⟩
abbrev main_while0b_v99 : Ref sig .tc := ⟨.hbm, 65, rfl⟩
abbrev main_while0b_v100 : Ref sig .tc := ⟨.hbm, 66, rfl⟩
abbrev main_while0b_v101 : Ref sig .tc := ⟨.hbm, 67, rfl⟩
abbrev main_while0b_cst_36 : Ref sig .tc := ⟨.hbm, 68, rfl⟩
abbrev main_while0b_v102 : Ref sig .tc := ⟨.hbm, 69, rfl⟩
abbrev main_while0b_v103 : Ref sig .tc := ⟨.hbm, 70, rfl⟩
abbrev main_while0b_cst_37 : Ref sig .tc := ⟨.hbm, 71, rfl⟩
abbrev main_while0b_v104 : Ref sig .tc := ⟨.hbm, 72, rfl⟩
abbrev main_while0b_v105 : Ref sig .tc := ⟨.hbm, 73, rfl⟩
abbrev main_while0b_v106 : Ref sig .tc := ⟨.hbm, 74, rfl⟩
abbrev main_while0b_v107 : Ref sig .tc := ⟨.hbm, 75, rfl⟩
abbrev main_while0b_cst_38 : Ref sig .tc := ⟨.hbm, 76, rfl⟩
abbrev main_while0b_v108 : Ref sig .tc := ⟨.hbm, 77, rfl⟩
abbrev main_while0b_v109 : Ref sig .tc := ⟨.hbm, 78, rfl⟩
abbrev main_while0b_cst_39 : Ref sig .tc := ⟨.hbm, 79, rfl⟩
abbrev main_while0b_v110 : Ref sig .tc := ⟨.hbm, 80, rfl⟩
abbrev main_while0b_v111 : Ref sig .tc := ⟨.hbm, 81, rfl⟩
abbrev main_while0b_v112 : Ref sig .tc := ⟨.hbm, 82, rfl⟩
abbrev main_while0b_v113 : Ref sig .tc := ⟨.hbm, 83, rfl⟩
abbrev main_while0b_v114 : Ref sig .tc := ⟨.hbm, 84, rfl⟩
abbrev main_while0b_cst_40 : Ref sig .tc := ⟨.hbm, 85, rfl⟩
abbrev main_while0b_v115 : Ref sig .tc := ⟨.hbm, 86, rfl⟩
abbrev main_while0b_v116 : Ref sig .tc := ⟨.hbm, 87, rfl⟩
abbrev main_while0b_cst_41 : Ref sig .tc := ⟨.hbm, 88, rfl⟩
abbrev main_while0b_v117 : Ref sig .tc := ⟨.hbm, 89, rfl⟩
abbrev main_while0b_v118 : Ref sig .tc := ⟨.hbm, 90, rfl⟩
abbrev main_while0b_v119 : Ref sig .tc := ⟨.hbm, 91, rfl⟩
abbrev main_while0b_v120 : Ref sig .tc := ⟨.hbm, 92, rfl⟩
abbrev main_while0b_v121 : Ref sig .tc := ⟨.hbm, 93, rfl⟩
abbrev main_while0b_v122 : Ref sig .tc := ⟨.hbm, 94, rfl⟩
abbrev main_while0b_v123 : Ref sig .tc := ⟨.hbm, 95, rfl⟩
abbrev main_while0b_v124 : Ref sig .tc := ⟨.hbm, 96, rfl⟩
abbrev main_while0b_v125 : Ref sig .tc := ⟨.hbm, 97, rfl⟩
abbrev main_while0b_v126 : Ref sig .tc := ⟨.hbm, 98, rfl⟩
abbrev main_while0b_v127 : Ref sig .tc := ⟨.hbm, 99, rfl⟩
abbrev main_while0b_v128 : Ref sig .tc := ⟨.hbm, 100, rfl⟩
abbrev main_while0b_v129 : Ref sig .tc := ⟨.hbm, 101, rfl⟩
abbrev main_while0b_v130 : Ref sig .tc := ⟨.hbm, 102, rfl⟩
abbrev main_while0b_v131 : Ref sig .tc := ⟨.hbm, 103, rfl⟩
abbrev main_while0b_v132 : Ref sig .tc := ⟨.hbm, 104, rfl⟩
abbrev main_while0b_v133 : Ref sig .tc := ⟨.hbm, 105, rfl⟩
abbrev main_while0b_v134 : Ref sig .tc := ⟨.hbm, 106, rfl⟩
abbrev main_while0b_v135 : Ref sig .tc := ⟨.hbm, 107, rfl⟩
abbrev main_while0b_v136 : Ref sig .tc := ⟨.hbm, 108, rfl⟩
abbrev main_while0b_v137 : Ref sig .tc := ⟨.hbm, 109, rfl⟩
abbrev main_while0b_v138 : Ref sig .tc := ⟨.hbm, 110, rfl⟩
abbrev main_while0b_v139 : Ref sig .tc := ⟨.hbm, 111, rfl⟩
abbrev main_while0b_v140 : Ref sig .tc := ⟨.hbm, 112, rfl⟩
abbrev main_while0b_cst_42 : Ref sig .tc := ⟨.hbm, 113, rfl⟩
abbrev main_while0b_v141 : Ref sig .tc := ⟨.hbm, 114, rfl⟩
abbrev main_while0b_v142 : Ref sig .tc := ⟨.hbm, 115, rfl⟩
abbrev main_while0b_cst_43 : Ref sig .tc := ⟨.hbm, 116, rfl⟩
abbrev main_while0b_v143 : Ref sig .tc := ⟨.hbm, 117, rfl⟩
abbrev main_while0b_v144 : Ref sig .tc := ⟨.hbm, 118, rfl⟩
abbrev main_while0b_v145 : Ref sig .tc := ⟨.hbm, 119, rfl⟩
abbrev main_while0b_v146 : Ref sig .tc := ⟨.hbm, 120, rfl⟩
abbrev main_while0b_cst_44 : Ref sig .tc := ⟨.hbm, 121, rfl⟩
abbrev main_while0b_v147 : Ref sig .tc := ⟨.hbm, 122, rfl⟩
abbrev main_while0b_v148 : Ref sig .tc := ⟨.hbm, 123, rfl⟩
abbrev main_while0b_cst_45 : Ref sig .tc := ⟨.hbm, 124, rfl⟩
abbrev main_while0b_v149 : Ref sig .tc := ⟨.hbm, 125, rfl⟩
abbrev main_while0b_v150 : Ref sig .tc := ⟨.hbm, 126, rfl⟩
abbrev main_while0b_v151 : Ref sig .tc := ⟨.hbm, 127, rfl⟩
abbrev main_while0b_v152 : Ref sig .tc := ⟨.hbm, 128, rfl⟩
abbrev main_while0b_v153 : Ref sig .tc := ⟨.hbm, 129, rfl⟩
abbrev main_while0b_cst_46 : Ref sig .tc := ⟨.hbm, 130, rfl⟩
abbrev main_while0b_v154 : Ref sig .tc := ⟨.hbm, 131, rfl⟩
abbrev main_while0b_v155 : Ref sig .tc := ⟨.hbm, 132, rfl⟩
abbrev main_while0b_cst_47 : Ref sig .tc := ⟨.hbm, 133, rfl⟩
abbrev main_while0b_v156 : Ref sig .tc := ⟨.hbm, 134, rfl⟩
abbrev main_while0b_v157 : Ref sig .tc := ⟨.hbm, 135, rfl⟩
abbrev main_while0b_v158 : Ref sig .tc := ⟨.hbm, 136, rfl⟩
abbrev main_while0b_v159 : Ref sig .tc := ⟨.hbm, 137, rfl⟩
abbrev main_while0b_v160 : Ref sig .tc := ⟨.hbm, 138, rfl⟩
abbrev main_while0b_v161 : Ref sig .tc := ⟨.hbm, 139, rfl⟩
abbrev main_while0b_v162 : Ref sig .tc := ⟨.hbm, 140, rfl⟩
abbrev main_while0b_call2_v0 : Ref sig .tc := ⟨.hbm, 141, rfl⟩
abbrev main_while0b_call2_c : Ref sig .tc := ⟨.hbm, 142, rfl⟩
abbrev main_while0b_call2_c_0 : Ref sig .tc := ⟨.hbm, 143, rfl⟩
abbrev main_while0b_v163 : Ref sig .tc := ⟨.hbm, 144, rfl⟩
abbrev main_while0b_call3_v0 : Ref sig .tc := ⟨.hbm, 145, rfl⟩
abbrev main_while0b_call3_c : Ref sig .tc := ⟨.hbm, 146, rfl⟩
abbrev main_while0b_call3_c_0 : Ref sig .tc := ⟨.hbm, 147, rfl⟩
abbrev main_while0b_v164 : Ref sig .tc := ⟨.hbm, 148, rfl⟩
abbrev main_while0b_c_48 : Ref sig .tc := ⟨.hbm, 149, rfl⟩
abbrev main_while0b_v165 : Ref sig .tc := ⟨.hbm, 150, rfl⟩
abbrev main_v6 : Ref sig .tc := ⟨.hbm, 151, rfl⟩
abbrev main_v7 : Ref sig .tc := ⟨.hbm, 152, rfl⟩
abbrev main_v8 : Ref sig .tc := ⟨.hbm, 153, rfl⟩
abbrev main_v9 : Ref sig .tc := ⟨.hbm, 154, rfl⟩
abbrev main_v10 : Ref sig .tc := ⟨.hbm, 155, rfl⟩
abbrev main_v11 : Ref sig .tc := ⟨.hbm, 156, rfl⟩
abbrev main_v12 : Ref sig .tc := ⟨.hbm, 157, rfl⟩
abbrev main_v13 : Ref sig .tc := ⟨.hbm, 158, rfl⟩
abbrev main_v14 : Ref sig .tc := ⟨.hbm, 159, rfl⟩
abbrev main_v15 : Ref sig .tc := ⟨.hbm, 160, rfl⟩
abbrev main_v16 : Ref sig .tc := ⟨.hbm, 161, rfl⟩
abbrev main_v17 : Ref sig .tc := ⟨.hbm, 162, rfl⟩
abbrev main_v18 : Ref sig .tc := ⟨.hbm, 163, rfl⟩
abbrev main_v19 : Ref sig .tc := ⟨.hbm, 164, rfl⟩
abbrev main_v20 : Ref sig .tc := ⟨.hbm, 165, rfl⟩
abbrev main_v21 : Ref sig .tc := ⟨.hbm, 166, rfl⟩
abbrev main_v22 : Ref sig .tc := ⟨.hbm, 167, rfl⟩
abbrev main_cst_2 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_v23 : Ref sig .tc := ⟨.hbm, 175, rfl⟩
abbrev main_cst_3 : Ref sig .tc := ⟨.hbm, 176, rfl⟩
abbrev main_v24 : Ref sig .tc := ⟨.hbm, 177, rfl⟩
abbrev main_v25 : Ref sig .tc := ⟨.hbm, 178, rfl⟩
abbrev main_v26 : Ref sig .tc := ⟨.hbm, 179, rfl⟩
abbrev main_cst_4 : Ref sig .tc := ⟨.hbm, 180, rfl⟩
abbrev main_call5_v0 : Ref sig .tc := ⟨.hbm, 181, rfl⟩
abbrev main_call5_v1 : Ref sig .tc := ⟨.hbm, 182, rfl⟩
abbrev main_call5_v2 : Ref sig .tc := ⟨.hbm, 183, rfl⟩
abbrev main_v27 : Ref sig .tc := ⟨.hbm, 184, rfl⟩
abbrev main_cst_5 : Ref sig .tc := ⟨.hbm, 185, rfl⟩
abbrev main_v28 : Ref sig .tc := ⟨.hbm, 186, rfl⟩
abbrev main_cst_6 : Ref sig .tc := ⟨.hbm, 187, rfl⟩
abbrev main_v29 : Ref sig .tc := ⟨.hbm, 188, rfl⟩
abbrev main_v30 : Ref sig .tc := ⟨.hbm, 189, rfl⟩
abbrev main_v31 : Ref sig .tc := ⟨.hbm, 190, rfl⟩
abbrev main_v32 : Ref sig .tc := ⟨.hbm, 191, rfl⟩
abbrev main_v33 : Ref sig .tc := ⟨.hbm, 192, rfl⟩
abbrev main_v34 : Ref sig .tc := ⟨.hbm, 193, rfl⟩
abbrev main_cst_7 : Ref sig .tc := ⟨.hbm, 194, rfl⟩
abbrev main_v35 : Ref sig .tc := ⟨.hbm, 195, rfl⟩
abbrev main_v36 : Ref sig .tc := ⟨.hbm, 196, rfl⟩
abbrev main_v37 : Ref sig .tc := ⟨.hbm, 197, rfl⟩
abbrev main_v38 : Ref sig .tc := ⟨.hbm, 198, rfl⟩
abbrev main_v39 : Ref sig .tc := ⟨.hbm, 199, rfl⟩
abbrev main_cst_8 : Ref sig .tc := ⟨.hbm, 200, rfl⟩
abbrev main_v40 : Ref sig .tc := ⟨.hbm, 201, rfl⟩
abbrev main_cst_9 : Ref sig .tc := ⟨.hbm, 202, rfl⟩
abbrev main_v41 : Ref sig .tc := ⟨.hbm, 203, rfl⟩
abbrev main_v42 : Ref sig .tc := ⟨.hbm, 204, rfl⟩
abbrev main_call6_cst : Ref sig .tc := ⟨.hbm, 205, rfl⟩
abbrev main_call6_v0 : Ref sig .tc := ⟨.hbm, 206, rfl⟩
abbrev main_call6_v1 : Ref sig .tc := ⟨.hbm, 207, rfl⟩
abbrev main_call6_cst_0 : Ref sig .tc := ⟨.hbm, 208, rfl⟩
abbrev main_call6_v2 : Ref sig .tc := ⟨.hbm, 209, rfl⟩
abbrev main_call6_v3 : Ref sig .tc := ⟨.hbm, 210, rfl⟩
abbrev main_call6_cst_1 : Ref sig .tc := ⟨.hbm, 211, rfl⟩
abbrev main_call6_call0_v0 : Ref sig .tc := ⟨.hbm, 212, rfl⟩
abbrev main_call6_call0_v1 : Ref sig .tc := ⟨.hbm, 213, rfl⟩
abbrev main_call6_v4 : Ref sig .tc := ⟨.hbm, 214, rfl⟩
abbrev main_call6_v5 : Ref sig .tc := ⟨.hbm, 215, rfl⟩
abbrev main_call6_cst_2 : Ref sig .tc := ⟨.hbm, 216, rfl⟩
abbrev main_call6_v6 : Ref sig .tc := ⟨.hbm, 217, rfl⟩
abbrev main_call6_v7 : Ref sig .tc := ⟨.hbm, 218, rfl⟩
abbrev main_v43 : Ref sig .tc := ⟨.hbm, 219, rfl⟩
abbrev main_v44 : Ref sig .tc := ⟨.hbm, 220, rfl⟩
abbrev main_v45 : Ref sig .tc := ⟨.hbm, 221, rfl⟩
abbrev main_v46 : Ref sig .tc := ⟨.hbm, 222, rfl⟩
abbrev main_v47 : Ref sig .tc := ⟨.hbm, 223, rfl⟩
abbrev main_v48 : Ref sig .tc := ⟨.hbm, 224, rfl⟩
abbrev main_v49 : Ref sig .tc := ⟨.hbm, 225, rfl⟩
abbrev main_v50 : Ref sig .tc := ⟨.hbm, 226, rfl⟩
abbrev main_v51 : Ref sig .tc := ⟨.hbm, 227, rfl⟩
abbrev main_v52 : Ref sig .tc := ⟨.hbm, 228, rfl⟩
abbrev main_v53 : Ref sig .tc := ⟨.hbm, 229, rfl⟩
abbrev main_v54 : Ref sig .tc := ⟨.hbm, 230, rfl⟩
abbrev main_cst_10 : Ref sig .tc := ⟨.hbm, 231, rfl⟩
abbrev main_call7_cst : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_v55 : Ref sig .tc := ⟨.hbm, 238, rfl⟩
abbrev main_cst_11 : Ref sig .tc := ⟨.hbm, 239, rfl⟩
abbrev main_v56 : Ref sig .tc := ⟨.hbm, 240, rfl⟩
abbrev main_v57 : Ref sig .tc := ⟨.hbm, 241, rfl⟩
abbrev main_v58 : Ref sig .tc := ⟨.hbm, 242, rfl⟩
abbrev main_cst_12 : Ref sig .tc := ⟨.hbm, 243, rfl⟩
abbrev main_call8_v0 : Ref sig .tc := ⟨.hbm, 244, rfl⟩
abbrev main_call8_v1 : Ref sig .tc := ⟨.hbm, 245, rfl⟩
abbrev main_call8_v2 : Ref sig .tc := ⟨.hbm, 246, rfl⟩
abbrev main_v59 : Ref sig .tc := ⟨.hbm, 247, rfl⟩
abbrev main_cst_13 : Ref sig .tc := ⟨.hbm, 248, rfl⟩
abbrev main_v60 : Ref sig .tc := ⟨.hbm, 249, rfl⟩
abbrev main_cst_14 : Ref sig .tc := ⟨.hbm, 250, rfl⟩
abbrev main_v61 : Ref sig .tc := ⟨.hbm, 251, rfl⟩
abbrev main_v62 : Ref sig .tc := ⟨.hbm, 252, rfl⟩
abbrev main_v63 : Ref sig .tc := ⟨.hbm, 253, rfl⟩
abbrev main_v64 : Ref sig .tc := ⟨.hbm, 254, rfl⟩
abbrev main_v65 : Ref sig .tc := ⟨.hbm, 255, rfl⟩
abbrev main_v66 : Ref sig .tc := ⟨.hbm, 256, rfl⟩
abbrev main_cst_15 : Ref sig .tc := ⟨.hbm, 257, rfl⟩
abbrev main_v67 : Ref sig .tc := ⟨.hbm, 258, rfl⟩
abbrev main_v68 : Ref sig .tc := ⟨.hbm, 259, rfl⟩
abbrev main_v69 : Ref sig .tc := ⟨.hbm, 260, rfl⟩
abbrev main_v70 : Ref sig .tc := ⟨.hbm, 261, rfl⟩
abbrev main_v71 : Ref sig .tc := ⟨.hbm, 262, rfl⟩
abbrev main_cst_16 : Ref sig .tc := ⟨.hbm, 263, rfl⟩
abbrev main_v72 : Ref sig .tc := ⟨.hbm, 264, rfl⟩
abbrev main_cst_17 : Ref sig .tc := ⟨.hbm, 265, rfl⟩
abbrev main_v73 : Ref sig .tc := ⟨.hbm, 266, rfl⟩
abbrev main_v74 : Ref sig .tc := ⟨.hbm, 267, rfl⟩
abbrev main_v75 : Ref sig .tc := ⟨.hbm, 268, rfl⟩
abbrev main_v76 : Ref sig .tc := ⟨.hbm, 269, rfl⟩
abbrev main_v77 : Ref sig .tc := ⟨.hbm, 270, rfl⟩
abbrev main_v78 : Ref sig .tc := ⟨.hbm, 271, rfl⟩
abbrev main_cst_18 : Ref sig .tc := ⟨.hbm, 272, rfl⟩
abbrev main_v79 : Ref sig .tc := ⟨.hbm, 273, rfl⟩
abbrev main_v80 : Ref sig .tc := ⟨.hbm, 274, rfl⟩
abbrev main_cst_19 : Ref sig .tc := ⟨.hbm, 275, rfl⟩
abbrev main_v81 : Ref sig .tc := ⟨.hbm, 276, rfl⟩
abbrev main_v82 : Ref sig .tc := ⟨.hbm, 277, rfl⟩

abbrev nD : Nat := 1
abbrev τ : Topo := Topo.v7x

variable {F : FTy → Type} [FloatOps F]

abbrev main_while0_count : Scf.Loop 32 := ⟨0#32, 100#32, 1#32⟩
-- ==== Proof.Row.lean ====
/- One row of a graph attention head over the extended reals: the kernel's shifted, unnormalized weights and the softmax of
   the masked scores give one weighted mean of the neighbours' features. -/
module

public import Idealize.ShloMosaic.PureOps.Ideal
public import Idealize.ShloMosaic.PureOps.Ideal.Laws
public import Mathlib.Tactic.FieldSimp
public import Mathlib.Tactic.Positivity
public import Mathlib.Tactic.Linarith
public import Mathlib.Tactic.Ring
public import Mathlib.Tactic.Push

@[expose] public section

noncomputable section

namespace Cert.Row

open Idealize.ShloMosaic

variable {n : ℕ}

/-- A sum of reals is the same sum over the extended reals. -/
theorem coe_sum (f : Fin n → ℝ) : ∑ i, (f i : EReal) = ((∑ i, f i : ℝ) : EReal) := by
  induction n with
  | zero => simp
  | succ k ih => rw [Fin.sum_univ_succ, Fin.sum_univ_succ, ih, EReal.coe_add]

/-- The larger of two reals is the same over the extended reals. -/
theorem coe_max (x y : ℝ) : ((max x y : ℝ) : EReal) = max (x : EReal) y := EReal.coe_strictMono.monotone.map_max

/-- An extended real of finite magnitude is a real. -/
theorem real_of_abs_lt {x : EReal} (h : max x (-x) < ⊤) : ∃ r : ℝ, x = r := by
  induction x using EReal.rec with
  | bot => simp at h
  | coe r => exact ⟨r, rfl⟩
  | top => simp at h

/-- Division of reals by a real that isn't zero. -/
theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- The larger of a score and its multiple by the slope. -/
def score (a z : ℝ) : ℝ := max z (a * z)

/-- The weighted mean of the neighbours' features: `w` is one at the neighbours and zero elsewhere. -/
def mean (a f1 : ℝ) (f2 w h : Fin n → ℝ) : ℝ :=
  (∑ j, Real.exp (score a (f1 + f2 j)) * w j * h j) / ∑ j, Real.exp (score a (f1 + f2 j)) * w j

/-- The kernel's exponent is the score less the row's shift. -/
theorem shift_eq (a f1 f2 m : ℝ) :
    max (f1 - m + f2) (a * (f1 - m + f2) - (1 - a) * m) = score a (f1 + f2) - m := by
  have h1 : f1 - m + f2 = (f1 + f2) - m := by ring
  have h2 : a * (f1 - m + f2) - (1 - a) * m = a * (f1 + f2) - m := by ring
  rw [h2, h1, score, max_sub_sub_right]

/-- The kernel's weight of one neighbour: the exponential of the shifted score times the entry of the adjacency. -/
def weight (a k f1 M f2 ad : EReal) : EReal :=
  Ideal.exp (max (f1 - max (f1 + M) (a * (f1 + M)) + f2)
    (a * (f1 - max (f1 + M) (a * (f1 + M)) + f2) - k * max (f1 + M) (a * (f1 + M)))) * ad

/-- The weight at reals. -/
theorem weight_coe (a f1 M f2 w : ℝ) :
    weight a ((1 - a : ℝ) : EReal) f1 M f2 w
      = ((Real.exp (score a (f1 + f2)) * w * Real.exp (-(score a (f1 + M))) : ℝ) : EReal) := by
  unfold weight
  have hm : max ((f1 : EReal) + M) (a * ((f1 : EReal) + M)) = ((score a (f1 + M) : ℝ) : EReal) := by
    rw [score, coe_max]; push_cast; rfl
  rw [hm]
  have hd : max ((f1 : EReal) - (score a (f1 + M) : ℝ) + f2)
      (a * ((f1 : EReal) - (score a (f1 + M) : ℝ) + f2) - ((1 - a : ℝ) : EReal) * (score a (f1 + M) : ℝ))
      = ((score a (f1 + f2) - score a (f1 + M) : ℝ) : EReal) := by
    rw [← shift_eq a f1 f2 (score a (f1 + M)), coe_max]
    norm_cast
  rw [hd, Ideal.exp_coe, ← EReal.coe_mul, sub_eq_add_neg, Real.exp_add]
  congr 1; ring

/-- What the kernel computes in one row of one head is the weighted mean. -/
theorem kernel_row (a f1 M : ℝ) (f2 w h : Fin n → ℝ) (hw : ∀ j, w j = 0 ∨ w j = 1) :
    (∑ j, weight a ((1 - a : ℝ) : EReal) f1 M (f2 j) (w j) * (h j : EReal))
      * Ideal.div 1 (max (∑ j, weight a ((1 - a : ℝ) : EReal) f1 M (f2 j) (w j) * 1) ⊥)
      = ((mean a f1 f2 w h : ℝ) : EReal) := by
  set c : ℝ := Real.exp (-(score a (f1 + M))) with hc
  have hcp : 0 < c := Real.exp_pos _
  have hn : ∑ j, weight a ((1 - a : ℝ) : EReal) f1 M (f2 j) (w j) * (h j : EReal)
      = (((∑ j, Real.exp (score a (f1 + f2 j)) * w j * h j) * c : ℝ) : EReal) := by
    rw [Finset.sum_mul, ← coe_sum]
    refine Finset.sum_congr rfl fun j _ => ?_
    rw [weight_coe, ← EReal.coe_mul, ← hc]; congr 1; ring
  have hs : ∑ j, weight a ((1 - a : ℝ) : EReal) f1 M (f2 j) (w j) * 1
      = (((∑ j, Real.exp (score a (f1 + f2 j)) * w j) * c : ℝ) : EReal) := by
    rw [Finset.sum_mul, ← coe_sum]
    refine Finset.sum_congr rfl fun j _ => ?_
    rw [weight_coe, mul_one, ← hc]
  rw [hn, hs, max_eq_left bot_le]
  unfold mean
  by_cases h0 : ∀ j, w j = 0
  · simp [h0]
  · have hpos : 0 < ∑ j, Real.exp (score a (f1 + f2 j)) * w j := by
      push Not at h0
      obtain ⟨j, hj⟩ := h0
      refine Finset.sum_pos' (fun i _ => ?_) ⟨j, Finset.mem_univ _, ?_⟩
      · rcases hw i with e | e <;> rw [e] <;> positivity
      · rcases hw j with e | e
        · exact absurd e hj
        · rw [e]; positivity
    rw [← EReal.coe_one, div_coe _ _ (by positivity), ← EReal.coe_mul]
    congr 1
    field_simp

/-- A masked score: the score at a neighbour, minus infinity elsewhere. -/
def masked (w e : ℝ) : EReal := if w = 0 then ⊥ else (e : EReal)

/-- The exponential of a masked score less a real. -/
theorem exp_masked (w e x : ℝ) (hw : w = 0 ∨ w = 1) :
    Ideal.exp (masked w e - (x : EReal)) = ((Real.exp e * w * Real.exp (-x) : ℝ) : EReal) := by
  rcases hw with h | h
  · subst h; simp [masked]
  · subst h
    rw [masked, if_neg one_ne_zero, ← EReal.coe_sub, Ideal.exp_coe, sub_eq_add_neg, Real.exp_add, mul_one]

/-- What the softmax gives in one row of one head is the weighted mean; `X` is the row's largest masked score, of which only
    this is used, that it is a real where the row has a neighbour. -/
theorem softmax_row (a f1 : ℝ) (f2 w h : Fin n → ℝ) (hw : ∀ j, w j = 0 ∨ w j = 1) (X : EReal)
    (hX : (∃ j, w j = 1) → ∃ x : ℝ, X = x) :
    ∑ j, (if w j = 0 then 0 else Ideal.div (Ideal.exp (masked (w j) (score a (f1 + f2 j)) - X))
        (∑ k, Ideal.exp (masked (w k) (score a (f1 + f2 k)) - X))) * (h j : EReal)
      = ((mean a f1 f2 w h : ℝ) : EReal) := by
  by_cases h0 : ∀ j, w j = 0
  · simp [h0, mean]
  · push Not at h0
    obtain ⟨j, hj⟩ := h0
    have hj1 : w j = 1 := (hw j).resolve_left hj
    obtain ⟨x, rfl⟩ := hX ⟨j, hj1⟩
    have hpos : 0 < ∑ j, Real.exp (score a (f1 + f2 j)) * w j := by
      refine Finset.sum_pos' (fun i _ => ?_) ⟨j, Finset.mem_univ _, ?_⟩
      · rcases hw i with e | e <;> rw [e] <;> positivity
      · rw [hj1]; positivity
    set c : ℝ := Real.exp (-x) with hc
    have hcp : 0 < c := Real.exp_pos _
    have hs : ∑ k, Ideal.exp (masked (w k) (score a (f1 + f2 k)) - (x : EReal))
        = (((∑ k, Real.exp (score a (f1 + f2 k)) * w k) * c : ℝ) : EReal) := by
      rw [Finset.sum_mul, ← coe_sum]
      exact Finset.sum_congr rfl fun k _ => by rw [exp_masked _ _ _ (hw k), ← hc]
    rw [hs, mean, Finset.sum_div, ← coe_sum]
    refine Finset.sum_congr rfl fun k _ => ?_
    rcases hw k with e | e
    · simp [e]
    · rw [if_neg (by rw [e]; exact one_ne_zero), exp_masked _ _ _ (hw k), div_coe _ _ (by positivity), ← EReal.coe_mul, ← hc]
      congr 1
      field_simp

/-- A largest element of reals and minus infinities is a real where one of them is a real. -/
theorem sup_real (f : Fin n → EReal) (ht : ∀ j, f j ≠ ⊤) (hb : ∃ j, f j ≠ ⊥) : ∃ x : ℝ, Finset.univ.sup f = x := by
  obtain ⟨j, hj⟩ := hb
  have h1 : Finset.univ.sup f ≠ ⊥ := fun h => hj (le_bot_iff.mp (h ▸ Finset.le_sup (f := f) (Finset.mem_univ j)))
  have h2 : Finset.univ.sup f ≠ ⊤ := by
    obtain ⟨i, -, hi⟩ := Finset.exists_mem_eq_sup Finset.univ ⟨j, Finset.mem_univ j⟩ f
    rw [hi]; exact ht i
  exact ⟨(Finset.univ.sup f).toReal, (EReal.coe_toReal h2 h1).symm⟩

/-- The leaky rectifier, by cases, is the larger of a number and its multiple, for a slope between zero and one. -/
theorem leaky (a z : ℝ) (h0 : 0 ≤ a) (h1 : a ≤ 1) : (if 0 ≤ z then z else a * z) = score a z := by
  unfold score
  split
  · rw [max_eq_left]; nlinarith
  · rw [max_eq_right]; nlinarith

end Cert.Row

end
-- ==== Proof.PreB.lean ====
/- What the second graph layer's precondition says of one element: the adjacency is zero or one, the features and the weights
   are real. -/
module

public import proofs.«01_k».proof.Proof.Row
public import proofs.«01_k».proof.Proof.Gen.Pre_edges2
public import Idealize.ShloMosaic.PureOps.Ideal.Laws

@[expose] public section

set_option maxRecDepth 16384

noncomputable section

namespace Cert.PreB

open Idealize.ShloMosaic Cert.Pre_edges2

/-- A comparison that answers one holds. -/
theorem of_bool {p : Prop} [Decidable p] (h : BitVec.ofBool (decide p) = 1#1) : p := by
  by_contra q
  rw [decide_eq_false q] at h
  exact absurd h (by decide)

/-- One of two comparisons joined by or holds. -/
theorem of_or {p q : Prop} [Decidable p] [Decidable q]
    (h : IntOp.ori (BitVec.ofBool (decide p)) (BitVec.ofBool (decide q)) = 1#1) : p ∨ q := by
  by_contra r
  rw [not_or] at r
  rw [decide_eq_false r.1, decide_eq_false r.2] at h
  exact absurd h (by decide)

/-- The bits of one. -/
theorem one : Ideal.ofBits .f32 0x3F800000#32 = ((1 : ℝ) : EReal) := by
  simp [Ideal.ofBits, Ideal.ieee, -EReal.coe_mul]
  norm_num

/-- The bits of infinity. -/
theorem inf : Ideal.ofBits .f32 0x7F800000#32 = (⊤ : EReal) := by
  simp [Ideal.ofBits, Ideal.ieee, -EReal.coe_mul]

/-- A magnitude below infinity is a real's. -/
theorem real_of {x : EReal} (h : max x (-x) < Ideal.ofBits .f32 0x7F800000#32) : ∃ r : ℝ, x = r := by
  rw [inf] at h
  exact Row.real_of_abs_lt h

variable (X : FVec Ideal S4096x512 .bf16) (A : FVec Ideal S4096x4096 .bf16) (W : FVec Ideal S512x1152 .bf16)
  (D : FVec Ideal S128x512 .bf16) (FT : FVec Ideal S256x512 .bf16)

/-- The adjacency is zero or one. -/
theorem adj (h : (fn (F := Ideal) X A W D FT).1 = fun _ => 1#1) (y : S4096x4096.Idx) : ∃ r : ℝ, A y = r ∧ (r = 0 ∨ r = 1) := by
  have e : A y = Ideal.ofBits .f32 0x00000000#32 ∨ A y = Ideal.ofBits .f32 0x3F800000#32 := of_or (congrFun h y)
  rcases e with e | e
  · exact ⟨0, by rw [e, Ideal.ofBits_zero_f32, EReal.coe_zero], Or.inl rfl⟩
  · exact ⟨1, by rw [e, one], Or.inr rfl⟩

/-- The features are real. -/
theorem feats (h : (fn (F := Ideal) X A W D FT).2.1 = fun _ => 1#1) (y : S4096x512.Idx) : ∃ r : ℝ, X y = r :=
  real_of (of_bool (congrFun h y))

/-- The weights are real. -/
theorem weights (h : (fn (F := Ideal) X A W D FT).2.2.1 = fun _ => 1#1) (y : S512x1152.Idx) : ∃ r : ℝ, W y = r :=
  real_of (of_bool (congrFun h y))

/-- The destination vectors are real. -/
theorem dst (h : (fn (F := Ideal) X A W D FT).2.2.2 = fun _ => 1#1) (y : S128x512.Idx) : ∃ r : ℝ, D y = r :=
  real_of (of_bool (congrFun h y))

end Cert.PreB

end
-- ==== Proof.Head.lean ====
/- One entry of one graph attention head as the kernel computes it, at a slope given by its bits. -/
module

public import proofs.«01_k».proof.Proof.Row

@[expose] public section

noncomputable section

namespace Cert.Head

open Idealize.ShloMosaic

/-- One entry of one head: the weighted sum of the features over the weighted sum of the ones. -/
def headE (f1 : EReal) (f2 ad h one : Fin 4096 → EReal) : EReal :=
  (∑ j, Row.weight (Ideal.ofBits .f32 0x3E4CCCCD#32) ((53687091 / 67108864 : ℝ) : EReal) f1
      (Finset.univ.fold max ⊥ f2) (f2 j) (ad j) * h j)
    * Ideal.div 1 (max (∑ j, Row.weight (Ideal.ofBits .f32 0x3E4CCCCD#32) ((53687091 / 67108864 : ℝ) : EReal) f1
      (Finset.univ.fold max ⊥ f2) (f2 j) (ad j) * one j) ⊥)

/-- The bits of minus infinity. -/
theorem ninf : Ideal.ofBits .f32 0xFF800000#32 = (⊥ : EReal) := by
  simp [Ideal.ofBits, Ideal.ieee, -EReal.coe_mul]

/-- The bits of the slope. -/
theorem slope : Ideal.ofBits .f32 0x3E4CCCCD#32 = ((13421773 / 67108864 : ℝ) : EReal) := by
  simp [Ideal.ofBits, Ideal.ieee, -EReal.coe_mul]; norm_num

/-- The bits of one half. -/
theorem half : Ideal.ofBits .f32 0x3F000000#32 = ((1 / 2 : ℝ) : EReal) := by
  simp [Ideal.ofBits, Ideal.ieee, -EReal.coe_mul]; norm_num

/-- The bits of two. -/
theorem two : Ideal.ofBits .f32 0x40000000#32 = ((2 : ℝ) : EReal) := by
  simp [Ideal.ofBits, Ideal.ieee, -EReal.coe_mul]; norm_num

end Cert.Head

end
-- ==== Proof.Link.lean ====
/- The kernel's head and the reference's row, at real scores and an adjacency of zeros and ones, are one weighted mean. -/
module

public import proofs.«01_k».proof.Proof.Head

@[expose] public section

set_option maxRecDepth 16384

noncomputable section

namespace Cert.Link

open Idealize.ShloMosaic Cert.Head

/-- The slope of the leaky rectifier. -/
def sl : ℝ := 13421773 / 67108864

/-- A product of two families of reals summed is a real. -/
theorem dot_coe {n : ℕ} (f g : Fin n → ℝ) : ∑ k, (f k : EReal) * (g k : EReal) = ((∑ k, f k * g k : ℝ) : EReal) := by
  rw [← Row.coe_sum]
  exact Finset.sum_congr rfl fun k _ => (EReal.coe_mul _ _).symm

/-- The running maximum of reals and minus infinities is a real where one of them is a real. -/
theorem fold_real {n : ℕ} (f : Fin n → EReal) (ht : ∀ j, f j ≠ ⊤) (hb : ∃ j, f j ≠ ⊥) :
    ∃ x : ℝ, Finset.univ.fold max ⊥ f = x := Row.sup_real f ht hb

/-- The kernel's head at reals. -/
theorem headE_real (f1 : ℝ) (f2 w h : Fin 4096 → ℝ) (one : Fin 4096 → EReal) (hw : ∀ j, w j = 0 ∨ w j = 1)
    (h1 : ∀ j, one j = 1) :
    headE f1 (fun j => f2 j) (fun j => w j) (fun j => h j) one = ((Row.mean sl f1 f2 w h : ℝ) : EReal) := by
  obtain ⟨M, hM⟩ := fold_real (fun j => (f2 j : EReal)) (fun j => EReal.coe_ne_top _) ⟨0, EReal.coe_ne_bot _⟩
  have hk : ((53687091 / 67108864 : ℝ) : EReal) = ((1 - sl : ℝ) : EReal) := by
    refine congrArg Real.toEReal ?_
    unfold sl; norm_num
  have hs : Ideal.ofBits .f32 0x3E4CCCCD#32 = ((sl : ℝ) : EReal) := slope
  unfold headE
  rw [hM, hk, hs, ← Row.kernel_row sl f1 M f2 w h hw]
  simp only [h1]

/-- The reference's row at reals. -/
theorem ref_row (f1 : ℝ) (f2 w h : Fin 4096 → ℝ) (hw : ∀ j, w j = 0 ∨ w j = 1) (S E P A : Fin 4096 → EReal) (X : EReal)
    (hS : ∀ j, S j = (f1 : EReal) + f2 j)
    (hE : ∀ j, E j = if (0 : EReal) < w j then (if 0 ≤ S j then S j else Ideal.ofBits .f32 0x3E4CCCCD#32 * S j)
      else Ideal.ofBits .f32 0xFF800000#32)
    (hX : X = max (Ideal.ofBits .f32 0xFF800000#32) (Finset.univ.fold max ⊥ E))
    (hP : ∀ j, P j = Ideal.exp (E j - X))
    (hA : ∀ j, A j = if (0 : EReal) < w j then Ideal.div (P j) (∑ k, P k) else 0) :
    ∑ j, A j * (h j : EReal) = ((Row.mean sl f1 f2 w h : ℝ) : EReal) := by
  have e : ∀ j, E j = Row.masked (w j) (Row.score sl (f1 + f2 j)) := by
    intro j
    have hs : Ideal.ofBits .f32 0x3E4CCCCD#32 = ((sl : ℝ) : EReal) := slope
    rw [hE j, hS j, hs, ninf, Row.masked]
    rcases hw j with q | q
    · rw [q, if_pos rfl, EReal.coe_zero, if_neg (lt_irrefl _)]
    · rw [q, if_neg one_ne_zero, EReal.coe_one, if_pos zero_lt_one, ← Row.leaky sl _ (by unfold sl; norm_num) (by unfold sl; norm_num)]
      rw [← EReal.coe_add, ← EReal.coe_mul, ← EReal.coe_zero]
      by_cases z : (0 : ℝ) ≤ f1 + f2 j
      · rw [if_pos z, if_pos (EReal.coe_le_coe_iff.2 z)]
      · rw [if_neg z, if_neg (fun q => z (EReal.coe_le_coe_iff.1 q))]
  have hx : (∃ j, w j = 1) → ∃ x : ℝ, X = x := by
    rintro ⟨j, q⟩
    obtain ⟨x, r⟩ := fold_real E (fun i => by
      rw [e i, Row.masked]; split
      · exact bot_ne_top
      · exact EReal.coe_ne_top _) ⟨j, by rw [e j, Row.masked, q, if_neg one_ne_zero]; exact EReal.coe_ne_bot _⟩
    exact ⟨x, by rw [hX, ninf, r, max_eq_right bot_le]⟩
  rw [← Row.softmax_row sl f1 f2 w h hw X hx]
  have p : ∀ j, P j = Ideal.exp (Row.masked (w j) (Row.score sl (f1 + f2 j)) - X) := fun j => by rw [hP j, e j]
  refine Finset.sum_congr rfl fun j _ => ?_
  rw [hA j]
  simp only [p]
  rcases hw j with q | q
  · have hp : ¬ (0 : EReal) < w j := by rw [q, EReal.coe_zero]; exact lt_irrefl _
    rw [if_pos q, if_neg hp]
  · have hn : ¬ w j = 0 := by rw [q]; exact one_ne_zero
    have hp : (0 : EReal) < w j := by rw [q, EReal.coe_one]; exact zero_lt_one
    rw [if_neg hn, if_pos hp]

/-- Half of a sum of reals. -/
theorem halve (a b : ℝ) :
    Ideal.div ((a : EReal) + b) (Ideal.ofBits .f32 0x40000000#32) = Ideal.ofBits .f32 0x3F000000#32 * ((a : EReal) + b) := by
  rw [two, half, ← EReal.coe_add, Row.div_coe _ _ two_ne_zero, ← EReal.coe_mul]
  congr 1; ring

end Cert.Link

end
-- ==== Proof.LBPay.lean ====
/- The stored values of the second graph layer's kernel, read at one element. -/
module

public import proofs.«01_k».proof.Proof.Head
public import proofs.«01_k».proof.Proof.Gen.LayerBIdeal.Skeleton
public import Idealize.ShloMosaic.Lib.Pointwise
public import Idealize.ShloMosaic.PureOps.IdealRules

@[expose] public section

set_option maxRecDepth 16384

noncomputable section

namespace Cert.LBPay

open Idealize.ShloMosaic Idealize.ShloMosaic.TcCoe Idealize.SL.Sem
open Cert.Head Cert.LayerBIdeal Cert.LayerBIdeal.Gen

/-- The named slope is its exact value. -/
theorem coslope : (Named.named (F := Ideal) κ "coslope" 0x3F4CCCCD#32 : Ideal .f32) = ((53687091 / 67108864 : ℝ) : EReal) :=
  IdealRules.named_const.ideal_named_scalar _ _ _ _ rfl

/-- The named floor is minus infinity. -/
theorem floor : (Named.named (F := Ideal) κ "floor" 0x0DA24260#32 : Ideal .f32) = (⊥ : EReal) :=
  IdealRules.named_const.ideal_named_scalar _ _ _ _ rfl

/-- The first head's part at an element. -/
theorem pay69 (ad : FVec Ideal S512x4096 .bf16) (fs : FVec Ideal S512x128 .f32) (f2 : FVec Ideal S1x4096 .f32)
    (h : FVec Ideal S4096x640 .bf16) (r : Fin 512) (l : Fin 512) :
    k0_pay69 (F := Ideal) ad fs f2 h (ix2 r l)
      = headE (fs (ix2 r 0)) (fun j => f2 (ix2 0 j)) (fun j => ad (ix2 r j)) (fun j => h (ix2 j ⟨l.val, by omega⟩))
          (fun j => h (ix2 j 512)) := by
  pointwise [k0_pay69]
  rw [coslope, floor, ninf]
  rfl

/-- The second head's source score is its column. -/
theorem pay70 (fs : FVec Ideal S512x128 .f32) (r : Fin 512) :
    k0_pay70 (F := Ideal) fs (ix2 r 0) = fs (ix2 r 1) := by
  pointwise [k0_pay70]

/-- The stored output at an element. -/
theorem pay1 (ad : FVec Ideal S512x4096 .bf16) (p : FVec Ideal S512x512 .f32) (f1 : FVec Ideal S512x1 .f32)
    (f2 : FVec Ideal S1x4096 .f32) (h : FVec Ideal S4096x640 .bf16) (ft : FVec Ideal S256x512 .bf16)
    (b : Fin 256) (r : Fin 512) :
    k0_pay1 (F := Ideal) ad p f1 f2 h ft (ix2 b r)
      = Ideal.logistic (∑ d : Fin 512, ft (ix2 b d) * (Ideal.ofBits .f32 0x3F000000#32 * (p (ix2 r d)
          + headE (f1 (ix2 r 0)) (fun j => f2 (ix2 0 j)) (fun j => ad (ix2 r j)) (fun j => h (ix2 j ⟨d.val, by omega⟩))
          (fun j => h (ix2 j 512))))) := by
  pointwise [k0_pay1]
  rw [coslope, floor, ninf]
  rfl

end Cert.LBPay

end
-- ==== Proof.LBSc0.lean ====
/- What the first point leaves in the scratch of the two heads' features. -/
module

public import proofs.«01_k».proof.Proof.LBPay
public import proofs.«01_k».proof.Proof.Gen.LayerBIdeal.Value
public import Idealize.ShloMosaic.Lib.Pipeline.ValueKit

@[expose] public section

set_option maxRecDepth 16384

noncomputable section

namespace Cert.LBSc

open Idealize.ShloMosaic Idealize.ShloMosaic.TcCoe Idealize.SL.Sem
open Cert.LayerBIdeal Cert.LayerBIdeal.Gen

variable (m : (ℓ : Loc nD τ sig) → Buf (Elt Ideal) ℓ)

/-- The first head's features, a band of ones, the second head's features and a band of ones again. -/
def SC0 (x : FVec Ideal S4096x512 .bf16) (w : FVec Ideal S512x1152 .bf16) : FVec Ideal S4096x1280 .bf16 :=
  fun j => if h : (j 1).val < 512 then ∑ k : Fin 512, x (ix2 (j 0) k) * w (ix2 k ⟨(j 1).val, by omega⟩)
    else if (j 1).val < 640 then 1
    else if h : (j 1).val < 1152 then ∑ k : Fin 512, x (ix2 (j 0) k) * w (ix2 k ⟨(j 1).val - 128, by omega⟩)
    else 1

/-- The first head's columns. -/
theorem SC0_a (x : FVec Ideal S4096x512 .bf16) (w : FVec Ideal S512x1152 .bf16) (y : S4096x1280.Idx) (q : (y 1).val < 512) :
    SC0 x w y = ∑ k : Fin 512, x (ix2 (y 0) k) * w (ix2 k ⟨(y 1).val, by omega⟩) := by
  rw [SC0, dif_pos q]

/-- The first band of ones. -/
theorem SC0_b (x : FVec Ideal S4096x512 .bf16) (w : FVec Ideal S512x1152 .bf16) (y : S4096x1280.Idx)
    (q : 512 ≤ (y 1).val ∧ (y 1).val < 640) : SC0 x w y = 1 := by
  rw [SC0, dif_neg (by omega), if_pos q.2]

/-- The second head's columns. -/
theorem SC0_c (x : FVec Ideal S4096x512 .bf16) (w : FVec Ideal S512x1152 .bf16) (y : S4096x1280.Idx)
    (q : 640 ≤ (y 1).val ∧ (y 1).val < 1152) :
    SC0 x w y = ∑ k : Fin 512, x (ix2 (y 0) k) * w (ix2 k ⟨(y 1).val - 128, by omega⟩) := by
  rw [SC0, dif_neg (by omega), if_neg (by omega), dif_pos q.2]

/-- The second band of ones. -/
theorem SC0_d (x : FVec Ideal S4096x512 .bf16) (w : FVec Ideal S512x1152 .bf16) (y : S4096x1280.Idx)
    (q : 1152 ≤ (y 1).val) : SC0 x w y = 1 := by
  rw [SC0, dif_neg (by omega), if_neg (by omega), dif_neg (by omega)]

/-- The first point leaves the features. -/
theorem sc0 (c : Dev nD) (t : Fin cfg0.N) (tz : t.val % 8 = 0) (y : S4096x1280.Idx) :
    (outsAt0 m c t.val t.isLt).2.1 y = SC0 (iblk m c 0 t) (iblk m c 2 t) y := by
  rw [outsAt0_A m c t tz]
  dsimp only
  frame_out
  canon_tiles x h using View.cover_of_tiledBy _ ![512, 128] (by sl_kernel_rfl) _
  all_goals open_payloads
  all_goals pointwise
  all_goals first
    | exact (SC0_b _ _ y (by omega)).symm
    | exact (SC0_d _ _ y (by omega)).symm
    | (rw [SC0_a _ _ y (by omega)]
       exact Finset.sum_congr rfl fun k _ => Ideal.mul_congr (congrArg _ ((ix2_inj ..).2 ⟨Fin.ext h0.symm, rfl⟩)) (congrArg _ ((ix2_inj ..).2 ⟨rfl, Fin.ext h1.symm⟩)))
    | (rw [SC0_c _ _ y (by omega)]
       exact Finset.sum_congr rfl fun k _ => Ideal.mul_congr (congrArg _ ((ix2_inj ..).2 ⟨Fin.ext h0.symm, rfl⟩)) (congrArg _ ((ix2_inj ..).2 ⟨rfl, Fin.ext (by simp only []; omega)⟩)))

end Cert.LBSc

end
-- ==== Proof.LBSc2.lean ====
/- What the first point leaves in the scratch of the destination scores. -/
module

public import proofs.«01_k».proof.Proof.LBPay
public import proofs.«01_k».proof.Proof.Gen.LayerBIdeal.Value
public import Idealize.ShloMosaic.Lib.Pipeline.ValueKit

@[expose] public section

set_option maxRecDepth 16384

noncomputable section

namespace Cert.LBSc

open Idealize.ShloMosaic Idealize.ShloMosaic.TcCoe Idealize.SL.Sem
open Cert.LayerBIdeal Cert.LayerBIdeal.Gen

variable (m : (ℓ : Loc nD τ sig) → Buf (Elt Ideal) ℓ)

/-- The destination scores at a node. -/
def SC2 (x : FVec Ideal S4096x512 .bf16) (a : FVec Ideal S128x512 .bf16) : FVec Ideal S128x4096 .f32 :=
  fun j => ∑ k : Fin 512, a (ix2 (j 0) k) * x (ix2 (j 1) k)

/-- The first point leaves the destination scores. -/
theorem sc2 (c : Dev nD) (t : Fin cfg0.N) (tz : t.val % 8 = 0) (y : S128x4096.Idx) :
    (outsAt0 m c t.val t.isLt).2.2.2 y = SC2 (iblk m c 0 t) (iblk m c 3 t) y := by
  rw [outsAt0_A m c t tz]
  dsimp only
  frame_out
  canon_tiles x h
  all_goals open_payloads
  all_goals pointwise [SC2]
  all_goals exact Finset.sum_congr rfl fun k _ => Ideal.mul_congr (congrArg _ ((ix2_inj ..).2 ⟨Fin.ext h0.symm, rfl⟩)) (congrArg _ ((ix2_inj ..).2 ⟨Fin.ext h1.symm, rfl⟩))

/-- The source scores at a node. -/
def SC1 (x : FVec Ideal S4096x512 .bf16) (w : FVec Ideal S512x1152 .bf16) : FVec Ideal S4096x128 .f32 :=
  fun j => ∑ k : Fin 512, x (ix2 (j 0) k) * w (ix2 k ⟨1024 + (j 1).val, by have h : (j 1).val < 128 := (j 1).isLt; omega⟩)

/-- The first point leaves the source scores. -/
theorem sc1 (c : Dev nD) (t : Fin cfg0.N) (tz : t.val % 8 = 0) (y : S4096x128.Idx) :
    (outsAt0 m c t.val t.isLt).2.2.1 y = SC1 (iblk m c 0 t) (iblk m c 2 t) y := by
  rw [outsAt0_A m c t tz]
  dsimp only
  frame_out
  canon_tiles x h
  all_goals open_payloads
  all_goals pointwise [SC1]
  all_goals exact Finset.sum_congr rfl fun k _ => Ideal.mul_congr (congrArg _ ((ix2_inj ..).2 ⟨Fin.ext h0.symm, rfl⟩)) (congrArg _ ((ix2_inj ..).2 ⟨rfl, Fin.ext (congrArg (1024 + ·) h1.symm)⟩))

end Cert.LBSc

end
-- ==== Proof.LBOut.lean ====
/- What a point leaves in the output's block, over the scratches it reads. -/
module

public import proofs.«01_k».proof.Proof.LBPay
public import proofs.«01_k».proof.Proof.LBSc0
public import proofs.«01_k».proof.Proof.LBSc2
public import proofs.«01_k».proof.Proof.Gen.LayerBIdeal.Value
public import Idealize.ShloMosaic.Lib.Pipeline.ValueKit
public import Idealize.ShloMosaic.Lib.Pipeline.ReadBack

@[expose] public section

set_option maxRecDepth 16384

noncomputable section

namespace Cert.LBOut

open Idealize.ShloMosaic Idealize.ShloMosaic.TcCoe Idealize.SL.Sem
open Cert.Head Cert.LBPay Cert.LBSc Cert.LayerBIdeal Cert.LayerBIdeal.Gen

variable (m : (ℓ : Loc nD τ sig) → Buf (Elt Ideal) ℓ)

/-- The output at graph node `n` and batch row `b`, over the three scratches, the node's row of the adjacency and the features. -/
def OUT (s0 : FVec Ideal S4096x1280 .bf16) (s1 : FVec Ideal S4096x128 .f32) (s2 : FVec Ideal S128x4096 .f32)
    (ad : Fin 4096 → EReal) (ft : FVec Ideal S256x512 .bf16) (n : Fin 4096) (b : Fin 256) : EReal :=
  Ideal.logistic (∑ d : Fin 512, ft (ix2 b d) * (Ideal.ofBits .f32 0x3F000000#32 *
    (headE (s1 (ix2 n 0)) (fun j => s2 (ix2 0 j)) ad (fun j => s0 (ix2 j ⟨d.val, by omega⟩)) (fun j => s0 (ix2 j 512))
      + headE (s1 (ix2 n 1)) (fun j => s2 (ix2 1 j)) ad (fun j => s0 (ix2 j ⟨640 + d.val, by omega⟩))
          (fun j => s0 (ix2 j 1152)))))

/-- The grid's coordinate is the point's number. -/
theorem coord : ∀ t : Fin cfg0.N, (grid0.coords t 0).val = t.val := (by decide +kernel : ∀ t : Fin grid0.N, _)

/-- The node of a block's row. -/
def node (t : Fin cfg0.N) (r : Fin 512) : Fin 4096 :=
  ⟨512 * t.val + r.val, by have h : t.val < 8 := lt_of_lt_of_eq t.isLt N_0; omega⟩

/-- A later point stores the output over the scratches it was left. -/
theorem outB (c : Dev nD) (t : Fin cfg0.N) (tz : ¬ t.val % 8 = 0) (b : Fin 256) (r : Fin 512) :
    (outsAt0 m c t.val t.isLt).1 (ix2 b r)
      = OUT (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2
          (fun j => iblk m c 1 t (ix2 r j)) (iblk m c 4 t) (node t r) b := by
  rw [outsAt0_B m c t tz]
  dsimp only
  frame_out
  simp only [read_unread_whole]
  pointwise [pay1, pay69, pay70]
  simp only [k0_off1_eq, coord]
  rfl

/-- The first point stores the output over the scratches it fills. -/
theorem outA (c : Dev nD) (t : Fin cfg0.N) (tz : t.val % 8 = 0) (b : Fin 256) (r : Fin 512) :
    (outsAt0 m c t.val t.isLt).1 (ix2 b r)
      = OUT (SC0 (iblk m c 0 t) (iblk m c 2 t)) (SC1 (iblk m c 0 t) (iblk m c 2 t)) (SC2 (iblk m c 0 t) (iblk m c 3 t))
          (fun j => iblk m c 1 t (ix2 r j)) (iblk m c 4 t) (node t r) b := by
  have q0 := funext (sc0 m c t tz)
  have q1 := funext (sc1 m c t tz)
  have q2 := funext (sc2 m c t tz)
  rw [outsAt0_A m c t tz] at q0 q1 q2 ⊢
  dsimp only at q0 q1 q2 ⊢
  frame_out at q0
  frame_out at q1
  frame_out at q2
  frame_out
  simp only [View.readCov_eq_canon']
  rw [q0, q1, q2]
  clear q0 q1 q2
  pointwise [pay1, pay69, pay70]
  simp only [k0_off1_eq, coord]
  rfl

end Cert.LBOut

end
-- ==== Proof.LBFinal.lean ====
/- The array the second graph layer's kernel ends with. -/
module

public import proofs.«01_k».proof.Proof.LBOut

@[expose] public section

set_option maxRecDepth 16384

noncomputable section

namespace Cert.LBFinal

open Idealize.ShloMosaic Idealize.ShloMosaic.TcCoe Idealize.SL.Sem
open Cert.Head Cert.LBPay Cert.LBSc Cert.LBOut Cert.LayerBIdeal Cert.LayerBIdeal.Gen
open Idealize.ShloMosaic.Pipeline (Dat)

variable (m : (ℓ : Loc nD τ sig) → Buf (Elt Ideal) ℓ)

/-- The windows' block indices. -/
theorem idx : ∀ t : Fin cfg0.N, win0_0.index t = ![0, 0] ∧ win0_1.index t = ![t.val, 0] ∧ win0_2.index t = ![0, 0]
    ∧ win0_3.index t = ![0, 0] ∧ win0_4.index t = ![0, 0] ∧ win0_5.index t = ![0, t.val] :=
  (by decide +kernel : ∀ t : Fin grid0.N, _)

/-- The nodes' features are read whole. -/
theorem b0 (c : Dev nD) (t : Fin cfg0.N) : iblk m c 0 t = m ((c.tc : Thread nD τ).loc main_arg0) := by
  funext y
  blk_point [iblk, V, idx t]

/-- The weights are read whole. -/
theorem b2 (c : Dev nD) (t : Fin cfg0.N) : iblk m c 2 t = m ((c.tc : Thread nD τ).loc main_arg2) := by
  funext y
  blk_point [iblk, V, idx t]

/-- The destination vectors are read whole. -/
theorem b3 (c : Dev nD) (t : Fin cfg0.N) : iblk m c 3 t = m ((c.tc : Thread nD τ).loc main_arg3) := by
  funext y
  blk_point [iblk, V, idx t]

/-- The batch features are read whole. -/
theorem b4 (c : Dev nD) (t : Fin cfg0.N) : iblk m c 4 t = m ((c.tc : Thread nD τ).loc main_arg4) := by
  funext y
  blk_point [iblk, V, idx t]

/-- The adjacency is read by blocks of rows. -/
theorem b1 (c : Dev nD) (t : Fin cfg0.N) (r : Fin 512) (j : Fin 4096) :
    iblk m c 1 t (ix2 r j) = m ((c.tc : Thread nD τ).loc main_arg1) (ix2 (node t r) j) := by
  blk_point [iblk, V, idx t, node]

/-- Every point leaves the scratches as the first point filled them. -/
theorem scratch (c : Dev nD) : ∀ (n : ℕ) (hn : n < cfg0.N),
    (outsAt0 m c n hn).2.1 = SC0 (m ((c.tc : Thread nD τ).loc main_arg0)) (m ((c.tc : Thread nD τ).loc main_arg2))
      ∧ (outsAt0 m c n hn).2.2.1 = SC1 (m ((c.tc : Thread nD τ).loc main_arg0)) (m ((c.tc : Thread nD τ).loc main_arg2))
      ∧ (outsAt0 m c n hn).2.2.2 = SC2 (m ((c.tc : Thread nD τ).loc main_arg0)) (m ((c.tc : Thread nD τ).loc main_arg3))
  | 0, hn => by
    have q0 := funext (sc0 m c ⟨0, hn⟩ rfl)
    have q1 := funext (sc1 m c ⟨0, hn⟩ rfl)
    have q2 := funext (sc2 m c ⟨0, hn⟩ rfl)
    rw [b0, b2] at q0 q1
    rw [b0, b3] at q2
    exact ⟨q0, q1, q2⟩
  | n + 1, hn => by
    obtain ⟨q0, q1, q2⟩ := scratch c n (Nat.lt_of_succ_lt hn)
    have tz : ¬ (n + 1) % 8 = 0 := by
      have h : n + 1 < 8 := lt_of_lt_of_eq hn N_0
      omega
    rw [outsAt0_B m c ⟨n + 1, hn⟩ tz]
    exact ⟨q0, q1, q2⟩

/-- The output over the arguments. -/
def FIN (x : FVec Ideal S4096x512 .bf16) (a : FVec Ideal S4096x4096 .bf16) (w : FVec Ideal S512x1152 .bf16)
    (d : FVec Ideal S128x512 .bf16) (ft : FVec Ideal S256x512 .bf16) : FVec Ideal S256x4096 .f32 :=
  fun i => OUT (SC0 x w) (SC1 x w) (SC2 x d) (fun j => a (ix2 (i 1) j)) ft (i 1) (i 0)

/-- What a point leaves in its block. -/
theorem point (c : Dev nD) (t : Fin cfg0.N) (b : Fin 256) (r : Fin 512) :
    (outsAt0 m c t.val t.isLt).1 (ix2 b r)
      = FIN (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (ix2 b (node t r)) := by
  have e : (fun j => iblk m c 1 t (ix2 r j)) = fun j => m ((c.tc : Thread nD τ).loc main_arg1) (ix2 (node t r) j) :=
    funext (b1 m c t r)
  by_cases tz : t.val % 8 = 0
  · rw [outA m c t tz, b0, b2, b3, b4, e]
    rfl
  · obtain ⟨q0, q1, q2⟩ := scratch m c (t.val - 1) (Nat.lt_of_le_of_lt (Nat.sub_le _ _) t.isLt)
    rw [outB m c t tz, q0, q1, q2, b4, e]
    rfl

/-- The array after the run. -/
theorem final (c : Dev nD) :
    (dats m 0 c).arrAt 5 (cfgs 0).N
      = FIN (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  refine (dats m 0 c).arrAt_eq_of_covers 5 _ (by decide +kernel) fun t hf y => ?_
  blk_simp
  rw [after0_5]
  idx_vars y
  refine (point m c t _ _).trans (congrArg _ ?_)
  blk_ext [idx t, node]

end Cert.LBFinal

end
-- ==== Proof.RBDefs.lean ====
/- The reference of the second graph layer, read at one element. -/
module

public import proofs.«01_k».proof.Proof.Head
public import proofs.«01_k».proof.Proof.Gen.RefBIdeal.Run
public import Idealize.ShloMosaic.Lib.Pointwise

@[expose] public section

set_option maxRecDepth 16384

noncomputable section

namespace Cert.RB

open Idealize.ShloMosaic Idealize.ShloMosaic.TcCoe Idealize.SL.Sem
open Cert.Head Cert.RefBIdeal Cert.RefBIdeal.Gen

variable (X : FVec Ideal S4096x512 .bf16) (A : FVec Ideal S4096x4096 .bf16) (W : FVec Ideal S512x1152 .bf16)
  (D : FVec Ideal S128x512 .bf16) (FT : FVec Ideal S256x512 .bf16)

/-- The scores of the edges. -/
def rS : FVec Ideal S2x4096x4096 .f32 :=
  addf (broadcastInDim S2x4096x4096 ![0, 1, 2] bcast_S2x4096x1_S2x4096x4096_0_1_2 (broadcastInDim S2x4096x1 ![0, 1] bcast_S2x4096_S2x4096x1_0_1 (Host.dotGeneral dot_S512x2_S4096x512_S2x4096_0_1_1_0_n_n none (extractStridedSlice S512x2 ![0, 1024] (extf .f32 W bitsLt_bf16_f32) slices_S512x1152_S512x2_0_1024) (extf .f32 X bitsLt_bf16_f32)))) (broadcastInDim S2x4096x4096 ![0, 1, 2] bcast_S2x1x4096_S2x4096x4096_0_1_2 (broadcastInDim S2x1x4096 ![0, 2] bcast_S2x4096_S2x1x4096_0_2 (Host.dotGeneral dot_S2x512_S4096x512_S2x4096_1_1_0_0_n_n none (extractStridedSlice S2x512 ![0, 0] (extf .f32 D bitsLt_bf16_f32) slices_S128x512_S2x512_0_0) (extf .f32 X bitsLt_bf16_f32))))

/-- The mask of the edges. -/
def rM : Vec Ideal S2x4096x4096 .i1 :=
  broadcastInDim S2x4096x4096 ![0, 1, 2] bcast_S1x4096x4096_S2x4096x4096_0_1_2 (broadcastInDim S1x4096x4096 ![1, 2] bcast_S4096x4096_S1x4096x4096_1_2 (cmpf .ogt (extf .f32 A bitsLt_bf16_f32) (broadcastInDim S4096x4096 ![] bcast_S_S4096x4096 (constant S_ .f32 0x00000000#32))))

/-- The masked scores. -/
def rE : FVec Ideal S2x4096x4096 .f32 :=
  select (rM A) (select (cmpf .oge (rS X W D) (broadcastInDim S2x4096x4096 ![] bcast_S_S2x4096x4096 (constant S_ .f32 0x00000000#32))) (rS X W D) (mulf (broadcastInDim S2x4096x4096 ![] bcast_S_S2x4096x4096 (id (constant S_ .f32 0x3E4CCCCD#32))) (rS X W D))) (broadcastInDim S2x4096x4096 ![] bcast_S_S2x4096x4096 (id (constant S_ .f32 0xFF800000#32)))

/-- The largest masked score of a row. -/
def rX : FVec Ideal S2x4096 .f32 :=
  maximumf (broadcastInDim S2x4096 ![] bcast_S_S2x4096 (constant S_ .f32 0xFF800000#32)) (Host.reduce FloatOps.maximumf (rE X A W D) (constant S_ .f32 0xFF800000#32) reducesTo_S2x4096x4096_S2x4096_d2 h_S_)

/-- The exponentials. -/
def rP : FVec Ideal S2x4096x4096 .f32 :=
  Host.exp (subf (rE X A W D) (broadcastInDim S2x4096x4096 ![0, 1, 2] bcast_S2x4096x1_S2x4096x4096_0_1_2 (broadcastInDim S2x4096x1 ![0, 1] bcast_S2x4096_S2x4096x1_0_1 (rX X A W D))))

/-- The attention weights. -/
def rA : FVec Ideal S2x4096x4096 .f32 :=
  select (rM A) (Host.divf (rP X A W D) (broadcastInDim S2x4096x4096 ![0, 1, 2] bcast_S2x4096x1_S2x4096x4096_0_1_2 (broadcastInDim S2x4096x1 ![0, 1] bcast_S2x4096_S2x4096x1_0_1 (Host.reduceAdd (rP X A W D) (constant S_ .f32 0x00000000#32) reducesTo_S2x4096x4096_S2x4096_d2 h_S_)))) (broadcastInDim S2x4096x4096 ![] bcast_S_S2x4096x4096 (id (constant S_ .f32 0x00000000#32)))

/-- The two heads' features. -/
def rH : FVec Ideal S2x4096x512 .f32 :=
  concatenate S2x4096x512 0 [⟨S1x4096x512, (broadcastInDim S1x4096x512 ![1, 2] bcast_S4096x512_S1x4096x512_1_2 (Host.dotGeneral dot_S4096x512_S512x512_S4096x512_1_0_0_1_n_n none (extf .f32 X bitsLt_bf16_f32) (extractStridedSlice S512x512 ![0, 0] (extf .f32 W bitsLt_bf16_f32) slices_S512x1152_S512x512_0_0)))⟩, ⟨S1x4096x512, (broadcastInDim S1x4096x512 ![1, 2] bcast_S4096x512_S1x4096x512_1_2 (Host.dotGeneral dot_S4096x512_S512x512_S4096x512_1_0_0_1_n_n none (extf .f32 X bitsLt_bf16_f32) (extractStridedSlice S512x512 ![0, 512] (extf .f32 W bitsLt_bf16_f32) slices_S512x1152_S512x512_0_512)))⟩] concatenates_S1x4096x512_S1x4096x512_S2x4096x512_d0

/-- The mean of the two heads. -/
def rO : FVec Ideal S4096x512 .f32 :=
  Host.divf (Host.reduceAdd (Host.dotGeneral dot_S2x4096x4096_S2x4096x512_S2x4096x512_2_1_1_2_0_0 none (rA X A W D) (rH X W)) (constant S_ .f32 0x00000000#32) reducesTo_S2x4096x512_S4096x512_d0 h_S_) (broadcastInDim S4096x512 ![] bcast_S_S4096x512 (constant S_ .f32 0x40000000#32))

/-- The output. -/
def REF : FVec Ideal S256x4096 .f32 :=
  Host.divf (broadcastInDim S256x4096 ![] bcast_S_S256x4096 (constant S_ .f32 0x3F800000#32)) (addf (broadcastInDim S256x4096 ![] bcast_S_S256x4096 (constant S_ .f32 0x3F800000#32)) (Host.exp (Host.negf (Host.dotGeneral dot_S256x512_S512x4096_S256x4096_1_0_0_1_n_n none (extf .f32 FT bitsLt_bf16_f32) (transpose S512x4096 [1, 0] (rO X A W D) transposes_S4096x512_S512x4096_1_0)))))

end Cert.RB

end
-- ==== Proof.RB.lean ====
/- The reference of the second graph layer, read at one element. -/
module

public import proofs.«01_k».proof.Proof.Head
public import proofs.«01_k».proof.Proof.RBDefs
public import Idealize.ShloMosaic.Lib.Pointwise

@[expose] public section

set_option maxRecDepth 16384

noncomputable section

namespace Cert.RB

open Idealize.ShloMosaic Idealize.ShloMosaic.TcCoe Idealize.SL.Sem
open Cert.Head Cert.RefBIdeal Cert.RefBIdeal.Gen

variable (X : FVec Ideal S4096x512 .bf16) (A : FVec Ideal S4096x4096 .bf16) (W : FVec Ideal S512x1152 .bf16)
  (D : FVec Ideal S128x512 .bf16) (FT : FVec Ideal S256x512 .bf16)

/-- The reduced shape drops the last axis. -/
theorem red : S2x4096x4096.Reduces [2] S2x4096 := by decide

/-- A row's maximum is the fold over the row. -/
theorem redmax (x : FVec Ideal S2x4096x4096 .f32) (h : Fin 2) (n : Fin 4096) :
    Host.reduce FloatOps.maximumf x (constant (F := Ideal) S_ .f32 0xFF800000#32) reducesTo_S2x4096x4096_S2x4096_d2 h_S_ (ix2 h n)
      = Finset.univ.fold max (⊥ : EReal) (fun j : Fin 4096 => x (ix3 h n j)) := by
  refine (Host.reduce_eq_fold_single (max : EReal → EReal → EReal) x _ _ red _ _).trans ?_
  have e : (x ∘ red.lift (ix2 h n) : Fin 4096 → EReal) = fun j => x (ix3 h n j) := by
    funext j
    refine congrArg x (funext fun a => Fin.ext ?_)
    match a with
    | ⟨0, _⟩ => rfl
    | ⟨1, _⟩ => rfl
    | ⟨2, _⟩ => rfl
  have e0 : constant (F := Ideal) S_ .f32 0xFF800000#32 (Shape.Idx.first h_S_) = (⊥ : EReal) := ninf
  exact (congrArg (fun i => Finset.univ.fold max i (x ∘ red.lift (ix2 h n))) e0).trans
    (congrArg (fun f : Fin 4096 → EReal => Finset.univ.fold max (⊥ : EReal) f) e)

/-- The scores at an edge. -/
theorem rS_at (h : Fin 2) (n j : Fin 4096) : rS X W D (ix3 h n j)
    = ∑ k : Fin 512, W (ix2 k ⟨1024 + h.val, by omega⟩) * X (ix2 n k) + ∑ k : Fin 512, D (ix2 ⟨h.val, by omega⟩ k) * X (ix2 j k) := by
  pointwise [rS]

/-- The masked score. -/
theorem rE_at (h : Fin 2) (n j : Fin 4096) : rE X A W D (ix3 h n j)
    = if 0 < A (ix2 n j) then (if 0 ≤ rS X W D (ix3 h n j) then rS X W D (ix3 h n j)
        else Ideal.ofBits .f32 0x3E4CCCCD#32 * rS X W D (ix3 h n j)) else Ideal.ofBits .f32 0xFF800000#32 := by
  pointwise [rE, rM]
  rfl

/-- The larger of minus infinity and an entry. -/
theorem maxrow (v : FVec Ideal S2x4096 .f32) (h : Fin 2) (n : Fin 4096) :
    maximumf (broadcastInDim S2x4096 ![] bcast_S_S2x4096 (constant (F := Ideal) S_ .f32 0xFF800000#32)) v (ix2 h n)
      = max (Ideal.ofBits .f32 0xFF800000#32) (v (ix2 h n)) := rfl

/-- The row's maximum. -/
theorem rX_at (h : Fin 2) (n : Fin 4096) : rX X A W D (ix2 h n)
    = max (Ideal.ofBits .f32 0xFF800000#32) (Finset.univ.fold max (⊥ : EReal) fun j : Fin 4096 => rE X A W D (ix3 h n j)) :=
  (maxrow (Host.reduce FloatOps.maximumf (rE X A W D) (constant (F := Ideal) S_ .f32 0xFF800000#32)
    reducesTo_S2x4096x4096_S2x4096_d2 h_S_) h n).trans (congrArg (max (Ideal.ofBits .f32 0xFF800000#32)) (redmax (rE X A W D) h n))

/-- The exponential. -/
theorem rP_at (h : Fin 2) (n j : Fin 4096) : rP X A W D (ix3 h n j) = Ideal.exp (rE X A W D (ix3 h n j) - rX X A W D (ix2 h n)) := by
  pointwise [rP]

/-- The attention weight. -/
theorem rA_at (h : Fin 2) (n j : Fin 4096) : rA X A W D (ix3 h n j)
    = if 0 < A (ix2 n j) then Ideal.div (rP X A W D (ix3 h n j)) (∑ k : Fin 4096, rP X A W D (ix3 h n k))
      else 0 := by
  pointwise [rA, rM]
  exact ite_congr rfl (fun _ => rfl) fun _ => Ideal.ofBits_zero_f32

/-- The first head's features. -/
theorem rH_0 (n : Fin 4096) (l : Fin 512) : rH X W (ix3 0 n l) = ∑ k : Fin 512, X (ix2 n k) * W (ix2 k ⟨l.val, by omega⟩) := by
  pointwise [rH]

/-- The second head's features. -/
theorem rH_1 (n : Fin 4096) (l : Fin 512) : rH X W (ix3 1 n l) = ∑ k : Fin 512, X (ix2 n k) * W (ix2 k ⟨512 + l.val, by omega⟩) := by
  pointwise [rH]

/-- The mean of the two heads. -/
theorem rO_at (n : Fin 4096) (l : Fin 512) : rO X A W D (ix2 n l)
    = Ideal.div (∑ h : Fin 2, ∑ j : Fin 4096, rA X A W D (ix3 h n j) * rH X W (ix3 h j l)) (Ideal.ofBits .f32 0x40000000#32) := by
  pointwise [rO]

/-- The output at a batch row and a node. -/
theorem REF_at (b : Fin 256) (n : Fin 4096) : REF X A W D FT (ix2 b n)
    = Ideal.div 1 (1 + Ideal.exp (-∑ k : Fin 512, FT (ix2 b k) * rO X A W D (ix2 n k))) := by
  pointwise [REF]

/-- The run's term is the staged one. -/
theorem REF_run (m : (ℓ : Loc nD τ sig) → Buf (Elt Ideal) ℓ) (c : Dev nD) :
    Value.res_main_v49 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  by
  unfold Value.res_main_v49 REF rO rA rP rX rE rM rS rH
  rfl

end Cert.RB

end
-- ==== Proof.LBLink.lean ====
/- The second graph layer's kernel and its reference give one array, at real features and weights and an adjacency of zeros
   and ones. -/
module

public import proofs.«01_k».proof.Proof.Link
public import proofs.«01_k».proof.Proof.LBFinal
public import proofs.«01_k».proof.Proof.RB

@[expose] public section

set_option maxRecDepth 16384

noncomputable section

namespace Cert.LBLink

open Idealize.ShloMosaic Idealize.ShloMosaic.TcCoe Idealize.SL.Sem
open Cert.Head Cert.Link Cert.LBSc Cert.LBOut Cert.LBFinal Cert.RB Cert.LayerBIdeal Cert.LayerBIdeal.Gen

/-- A node's source score in a head. -/
def f1 (x : S4096x512.Idx → ℝ) (w : S512x1152.Idx → ℝ) (h : Fin 2) (n : Fin 4096) : ℝ :=
  ∑ k : Fin 512, x (ix2 n k) * w (ix2 k ⟨1024 + h.val, by omega⟩)

/-- A node's destination score in a head. -/
def f2 (x : S4096x512.Idx → ℝ) (d : S128x512.Idx → ℝ) (h : Fin 2) (j : Fin 4096) : ℝ :=
  ∑ k : Fin 512, d (ix2 ⟨h.val, by omega⟩ k) * x (ix2 j k)

/-- A node's features in a head. -/
def hf (x : S4096x512.Idx → ℝ) (w : S512x1152.Idx → ℝ) (h : Fin 2) (l : Fin 512) (j : Fin 4096) : ℝ :=
  ∑ k : Fin 512, x (ix2 j k) * w (ix2 k ⟨512 * h.val + l.val, by omega⟩)

variable (X : FVec Ideal S4096x512 .bf16) (A : FVec Ideal S4096x4096 .bf16) (W : FVec Ideal S512x1152 .bf16)
  (D : FVec Ideal S128x512 .bf16) (FT : FVec Ideal S256x512 .bf16)
  (x : S4096x512.Idx → ℝ) (a : S4096x4096.Idx → ℝ) (w : S512x1152.Idx → ℝ) (d : S128x512.Idx → ℝ)

/-- The kernel's source scores are real. -/
theorem sc1_real (hX : ∀ y, X y = (x y : EReal)) (hW : ∀ y, W y = (w y : EReal)) (h : Fin 2) (n : Fin 4096) :
    SC1 X W (ix2 n ⟨h.val, by omega⟩) = ((f1 x w h n : ℝ) : EReal) := by
  unfold SC1 f1
  rw [← dot_coe]
  exact Finset.sum_congr rfl fun k _ => Ideal.mul_congr (hX _) (hW _)

/-- The kernel's destination scores are real. -/
theorem sc2_real (hX : ∀ y, X y = (x y : EReal)) (hD : ∀ y, D y = (d y : EReal)) (h : Fin 2) (j : Fin 4096) :
    SC2 X D (ix2 ⟨h.val, by omega⟩ j) = ((f2 x d h j : ℝ) : EReal) := by
  unfold SC2 f2
  rw [← dot_coe]
  exact Finset.sum_congr rfl fun k _ => Ideal.mul_congr (hD _) (hX _)

/-- The features the two programs form are real. -/
theorem feat_real (hX : ∀ y, X y = (x y : EReal)) (hW : ∀ y, W y = (w y : EReal)) (h : Fin 2) (l : Fin 512) (j : Fin 4096) :
    ∑ k : Fin 512, X (ix2 j k) * W (ix2 k ⟨512 * h.val + l.val, by omega⟩) = ((hf x w h l j : ℝ) : EReal) := by
  unfold hf
  rw [← dot_coe]
  exact Finset.sum_congr rfl fun k _ => Ideal.mul_congr (hX _) (hW _)

/-- The kernel's features of the first head. -/
theorem sc0_first (hX : ∀ y, X y = (x y : EReal)) (hW : ∀ y, W y = (w y : EReal)) (l : Fin 512) (j : Fin 4096) :
    SC0 X W (ix2 j ⟨l.val, by omega⟩) = ((hf x w 0 l j : ℝ) : EReal) := by
  rw [SC0_a X W _ l.isLt, ← feat_real X W x w hX hW 0 l j]
  refine Finset.sum_congr rfl fun k _ => Ideal.mul_congr rfl (congrArg W ((ix2_inj ..).2 ⟨rfl, Fin.ext ?_⟩))
  show l.val = 512 * 0 + l.val
  omega

/-- The kernel's features of the second head. -/
theorem sc0_second (hX : ∀ y, X y = (x y : EReal)) (hW : ∀ y, W y = (w y : EReal)) (l : Fin 512) (j : Fin 4096) :
    SC0 X W (ix2 j ⟨640 + l.val, by omega⟩) = ((hf x w 1 l j : ℝ) : EReal) := by
  have q : 640 ≤ 640 + l.val ∧ 640 + l.val < 1152 := by omega
  rw [SC0_c X W (ix2 j ⟨640 + l.val, by omega⟩) q, ← feat_real X W x w hX hW 1 l j]
  refine Finset.sum_congr rfl fun k _ => Ideal.mul_congr rfl (congrArg W ((ix2_inj ..).2 ⟨rfl, Fin.ext ?_⟩))
  show 640 + l.val - 128 = 512 * 1 + l.val
  omega

/-- The kernel's first head. -/
theorem head_first (hX : ∀ y, X y = (x y : EReal)) (hW : ∀ y, W y = (w y : EReal)) (hD : ∀ y, D y = (d y : EReal))
    (hA : ∀ y, A y = (a y : EReal)) (ha : ∀ y, a y = 0 ∨ a y = 1) (n : Fin 4096) (l : Fin 512) :
    headE (SC1 X W (ix2 n 0)) (fun j => SC2 X D (ix2 0 j)) (fun j => A (ix2 n j)) (fun j => SC0 X W (ix2 j ⟨l.val, by omega⟩))
        (fun j => SC0 X W (ix2 j 512))
      = ((Row.mean sl (f1 x w 0 n) (f2 x d 0) (fun j => a (ix2 n j)) (hf x w 0 l) : ℝ) : EReal) := by
  have e1 : SC1 X W (ix2 n 0) = ((f1 x w 0 n : ℝ) : EReal) := sc1_real X W x w hX hW 0 n
  have e2 : (fun j => SC2 X D (ix2 0 j)) = fun j => ((f2 x d 0 j : ℝ) : EReal) := funext fun j => sc2_real X D x d hX hD 0 j
  have e3 : (fun j => A (ix2 n j)) = fun j => ((a (ix2 n j) : ℝ) : EReal) := funext fun j => hA _
  have e4 : (fun j => SC0 X W (ix2 j ⟨l.val, by omega⟩)) = fun j => ((hf x w 0 l j : ℝ) : EReal) :=
    funext fun j => sc0_first X W x w hX hW l j
  rw [e1, e2, e3, e4]
  exact headE_real _ _ _ _ _ (fun j => ha _) fun j => SC0_b X W _ ⟨(by decide : 512 ≤ 512), (by decide : 512 < 640)⟩

/-- The kernel's second head. -/
theorem head_second (hX : ∀ y, X y = (x y : EReal)) (hW : ∀ y, W y = (w y : EReal)) (hD : ∀ y, D y = (d y : EReal))
    (hA : ∀ y, A y = (a y : EReal)) (ha : ∀ y, a y = 0 ∨ a y = 1) (n : Fin 4096) (l : Fin 512) :
    headE (SC1 X W (ix2 n 1)) (fun j => SC2 X D (ix2 1 j)) (fun j => A (ix2 n j)) (fun j => SC0 X W (ix2 j ⟨640 + l.val, by omega⟩))
        (fun j => SC0 X W (ix2 j 1152))
      = ((Row.mean sl (f1 x w 1 n) (f2 x d 1) (fun j => a (ix2 n j)) (hf x w 1 l) : ℝ) : EReal) := by
  have e1 : SC1 X W (ix2 n 1) = ((f1 x w 1 n : ℝ) : EReal) := sc1_real X W x w hX hW 1 n
  have e2 : (fun j => SC2 X D (ix2 1 j)) = fun j => ((f2 x d 1 j : ℝ) : EReal) := funext fun j => sc2_real X D x d hX hD 1 j
  have e3 : (fun j => A (ix2 n j)) = fun j => ((a (ix2 n j) : ℝ) : EReal) := funext fun j => hA _
  have e4 : (fun j => SC0 X W (ix2 j ⟨640 + l.val, by omega⟩)) = fun j => ((hf x w 1 l j : ℝ) : EReal) :=
    funext fun j => sc0_second X W x w hX hW l j
  rw [e1, e2, e3, e4]
  exact headE_real _ _ _ _ _ (fun j => ha _) fun j => SC0_d X W _ (by decide : 1152 ≤ 1152)

/-- The reference's features. -/
theorem rH_real (hX : ∀ y, X y = (x y : EReal)) (hW : ∀ y, W y = (w y : EReal)) (h : Fin 2) (j : Fin 4096) (l : Fin 512) :
    rH X W (ix3 h j l) = ((hf x w h l j : ℝ) : EReal) := by
  match h with
  | 0 =>
    rw [rH_0, ← feat_real X W x w hX hW 0 l j]
    refine Finset.sum_congr rfl fun k _ => Ideal.mul_congr rfl (congrArg W ((ix2_inj ..).2 ⟨rfl, Fin.ext ?_⟩))
    show l.val = 512 * 0 + l.val
    omega
  | 1 =>
    rw [rH_1, ← feat_real X W x w hX hW 1 l j]
    rfl

/-- The reference's row of a head. -/
theorem row (hX : ∀ y, X y = (x y : EReal)) (hW : ∀ y, W y = (w y : EReal)) (hD : ∀ y, D y = (d y : EReal))
    (hA : ∀ y, A y = (a y : EReal)) (ha : ∀ y, a y = 0 ∨ a y = 1) (h : Fin 2) (n : Fin 4096) (l : Fin 512) :
    ∑ j : Fin 4096, rA X A W D (ix3 h n j) * rH X W (ix3 h j l)
      = ((Row.mean sl (f1 x w h n) (f2 x d h) (fun j => a (ix2 n j)) (hf x w h l) : ℝ) : EReal) := by
  have e : ∀ j, rA X A W D (ix3 h n j) * rH X W (ix3 h j l) = rA X A W D (ix3 h n j) * ((hf x w h l j : ℝ) : EReal) :=
    fun j => by rw [rH_real X W x w hX hW h j l]
  rw [Finset.sum_congr rfl fun j _ => e j]
  refine ref_row (f1 x w h n) (f2 x d h) (fun j => a (ix2 n j)) (hf x w h l) (fun j => ha _) (fun j => rS X W D (ix3 h n j))
    (fun j => rE X A W D (ix3 h n j)) (fun j => rP X A W D (ix3 h n j)) (fun j => rA X A W D (ix3 h n j)) (rX X A W D (ix2 h n))
    (fun j => ?_) (fun j => ?_) (rX_at X A W D h n) (fun j => rP_at X A W D h n j) (fun j => ?_)
  · show rS X W D (ix3 h n j) = _
    rw [rS_at, ← sc1_real X W x w hX hW h n, ← sc2_real X D x d hX hD h j]
    refine congrArg (· + _) (Finset.sum_congr rfl fun k _ => ?_)
    exact mul_comm _ _
  · show rE X A W D (ix3 h n j) = _
    rw [rE_at, hA]
  · show rA X A W D (ix3 h n j) = _
    rw [rA_at, hA]

/-- The kernel's array at a batch row and a node. -/
theorem FIN_at (b : Fin 256) (n : Fin 4096) :
    FIN X A W D FT (ix2 b n) = OUT (SC0 X W) (SC1 X W) (SC2 X D) (fun j => A (ix2 n j)) FT n b := rfl

/-- The two programs' arrays are one. -/
theorem bridge (hX : ∀ y, X y = (x y : EReal)) (hW : ∀ y, W y = (w y : EReal)) (hD : ∀ y, D y = (d y : EReal))
    (hA : ∀ y, A y = (a y : EReal)) (ha : ∀ y, a y = 0 ∨ a y = 1) : FIN X A W D FT = REF X A W D FT := by
  funext i
  obtain ⟨b, n, rfl⟩ : ∃ (b : Fin 256) (n : Fin 4096), i = ix2 b n := ⟨i 0, i 1, eq_ix2 i⟩
  rw [FIN_at, REF_at]
  unfold OUT Ideal.logistic
  refine congrArg (fun z => Ideal.div 1 (1 + Ideal.exp (-z))) (Finset.sum_congr rfl fun l _ => congrArg (FT (ix2 b l) * ·) ?_)
  rw [rO_at, Fin.sum_univ_two, row X A W D x a w d hX hW hD hA ha 0 n l, row X A W D x a w d hX hW hD hA ha 1 n l, halve]
  refine congrArg (Ideal.ofBits .f32 0x3F000000#32 * ·) ?_
  exact congr (congrArg (· + ·) (head_first X A W D x a w d hX hW hD hA ha n l)) (head_second X A W D x a w d hX hW hD hA ha n l)

end Cert.LBLink

end
-- ==== Proof.AlgB.lean ====
/- The second graph layer: the kernel's run and the reference's run end with one array. -/
module

public import proofs.«01_k».proof.Defs
public import proofs.«01_k».proof.Proof.PreB
public import proofs.«01_k».proof.Proof.LBLink
public import Idealize.ShloMosaic.Lib.Claim

@[expose] public section

set_option maxRecDepth 16384

noncomputable section

namespace Cert.AlgB

open Idealize.ShloMosaic Idealize.SL.Sem

/-- Under the precondition the two programs' arrays are one. -/
theorem same (m : (ℓ : Loc Cert.LayerBIdeal.nD Cert.LayerBIdeal.τ Cert.LayerBIdeal.sig) → Buf (Elt Ideal) ℓ)
    (hpre : Cert.Pre_LayerBIdeal_edges2 m) (c : Dev Cert.LayerBIdeal.nD) :
    Cert.LBFinal.FIN (m ((c.tc : Thread Cert.LayerBIdeal.nD Cert.LayerBIdeal.τ).loc Cert.LayerBIdeal.main_arg0))
        (m ((c.tc : Thread Cert.LayerBIdeal.nD Cert.LayerBIdeal.τ).loc Cert.LayerBIdeal.main_arg1))
        (m ((c.tc : Thread Cert.LayerBIdeal.nD Cert.LayerBIdeal.τ).loc Cert.LayerBIdeal.main_arg2))
        (m ((c.tc : Thread Cert.LayerBIdeal.nD Cert.LayerBIdeal.τ).loc Cert.LayerBIdeal.main_arg3))
        (m ((c.tc : Thread Cert.LayerBIdeal.nD Cert.LayerBIdeal.τ).loc Cert.LayerBIdeal.main_arg4))
      = Cert.RB.REF (m ((c.tc : Thread Cert.LayerBIdeal.nD Cert.LayerBIdeal.τ).loc Cert.LayerBIdeal.main_arg0))
        (m ((c.tc : Thread Cert.LayerBIdeal.nD Cert.LayerBIdeal.τ).loc Cert.LayerBIdeal.main_arg1))
        (m ((c.tc : Thread Cert.LayerBIdeal.nD Cert.LayerBIdeal.τ).loc Cert.LayerBIdeal.main_arg2))
        (m ((c.tc : Thread Cert.LayerBIdeal.nD Cert.LayerBIdeal.τ).loc Cert.LayerBIdeal.main_arg3))
        (m ((c.tc : Thread Cert.LayerBIdeal.nD Cert.LayerBIdeal.τ).loc Cert.LayerBIdeal.main_arg4)) := by
  obtain ⟨p0, p1, p2, p3⟩ := hpre c
  choose a ha using PreB.adj _ _ _ _ _ p0
  choose x hx using PreB.feats _ _ _ _ _ p1
  choose w hw using PreB.weights _ _ _ _ _ p2
  choose d hd using PreB.dst _ _ _ _ _ p3
  exact LBLink.bridge _ _ _ _ _ x a w d hx hw hd (fun y => (ha y).1) (fun y => (ha y).2)

/-- The kernel and the reference agree. -/
theorem algebraic : Cert.algebraic_LayerBIdeal_RefBIdeal_pre_edges2 := by
  pair_intro
  · run_from Cert.LayerBIdeal.Gen.run_main m g
  · run_from Cert.RefBIdeal.Value.run m' g'
    rw [Cert.RB.REF_run]
    obtain ⟨a0, a1, a2, a3, a4⟩ := hagree c
    rw [a0, a1, a2, a3, a4]
    exact ((Cert.LBFinal.final m c).trans (same m hpre c)).symm

end Cert.AlgB

end
-- ==== Proof.PreA.lean ====
/- What the first graph layer's precondition says of one element: the adjacency is zero or one, the features and the weights
   are real. -/
module

public import proofs.«01_k».proof.Proof.PreB
public import proofs.«01_k».proof.Proof.Gen.Pre_edges1
public import Idealize.ShloMosaic.PureOps.Ideal.Laws

@[expose] public section

set_option maxRecDepth 16384

noncomputable section

namespace Cert.PreA

open Idealize.ShloMosaic Cert.Pre_edges1 Cert.PreB

variable (X : FVec Ideal S4096x300 .bf16) (A : FVec Ideal S4096x4096 .bf16) (W : FVec Ideal S300x1152 .bf16)
  (D : FVec Ideal S128x300 .bf16)

/-- The adjacency is zero or one. -/
theorem adj (h : (fn (F := Ideal) X A W D).1 = fun _ => 1#1) (y : S4096x4096.Idx) : ∃ r : ℝ, A y = r ∧ (r = 0 ∨ r = 1) := by
  have e : A y = Ideal.ofBits .f32 0x00000000#32 ∨ A y = Ideal.ofBits .f32 0x3F800000#32 := of_or (congrFun h y)
  rcases e with e | e
  · exact ⟨0, by rw [e, Ideal.ofBits_zero_f32, EReal.coe_zero], Or.inl rfl⟩
  · exact ⟨1, by rw [e, one], Or.inr rfl⟩

/-- The features are real. -/
theorem feats (h : (fn (F := Ideal) X A W D).2.1 = fun _ => 1#1) (y : S4096x300.Idx) : ∃ r : ℝ, X y = r :=
  real_of (of_bool (congrFun h y))

/-- The weights are real. -/
theorem weights (h : (fn (F := Ideal) X A W D).2.2.1 = fun _ => 1#1) (y : S300x1152.Idx) : ∃ r : ℝ, W y = r :=
  real_of (of_bool (congrFun h y))

/-- The destination vectors are real. -/
theorem dst (h : (fn (F := Ideal) X A W D).2.2.2 = fun _ => 1#1) (y : S128x300.Idx) : ∃ r : ℝ, D y = r :=
  real_of (of_bool (congrFun h y))

end Cert.PreA

end
-- ==== Proof.LAPay.lean ====
/- The stored values of the first graph layer's kernel, read at one element. -/
module

public import proofs.«01_k».proof.Proof.Head
public import proofs.«01_k».proof.Proof.Gen.LayerAIdeal.Skeleton
public import Idealize.ShloMosaic.Lib.Pointwise
public import Idealize.ShloMosaic.PureOps.IdealRules

@[expose] public section

set_option maxRecDepth 16384

noncomputable section

namespace Cert.LAPay

open Idealize.ShloMosaic Idealize.ShloMosaic.TcCoe Idealize.SL.Sem
open Cert.Head Cert.LayerAIdeal Cert.LayerAIdeal.Gen

/-- The named slope is its exact value. -/
theorem coslope : (Named.named (F := Ideal) κ "coslope" 0x3F4CCCCD#32 : Ideal .f32) = ((53687091 / 67108864 : ℝ) : EReal) :=
  IdealRules.named_const.ideal_named_scalar _ _ _ _ rfl

/-- The named floor is minus infinity. -/
theorem floor : (Named.named (F := Ideal) κ "floor" 0x0DA24260#32 : Ideal .f32) = (⊥ : EReal) :=
  IdealRules.named_const.ideal_named_scalar _ _ _ _ rfl

/-- The exponential linear unit: a positive number itself, else its exponential less one. -/
def elu (z : EReal) : EReal := if 0 < z then z else Ideal.exp z - 1

/-- The first head's part at an element. -/
theorem pay68 (ad : FVec Ideal S512x4096 .bf16) (fs : FVec Ideal S512x128 .f32) (f2 : FVec Ideal S1x4096 .f32)
    (h : FVec Ideal S4096x640 .bf16) (r : Fin 512) (l : Fin 512) :
    k0_pay68 (F := Ideal) ad fs f2 h (ix2 r l)
      = headE (fs (ix2 r 0)) (fun j => f2 (ix2 0 j)) (fun j => ad (ix2 r j)) (fun j => h (ix2 j ⟨l.val, by omega⟩))
          (fun j => h (ix2 j 512)) := by
  pointwise [k0_pay68]
  rw [coslope, floor, ninf]
  rfl

/-- The second head's source score is its column. -/
theorem pay69 (fs : FVec Ideal S512x128 .f32) (r : Fin 512) :
    k0_pay69 (F := Ideal) fs (ix2 r 0) = fs (ix2 r 1) := by
  pointwise [k0_pay69]

/-- The stored output at an element. -/
theorem pay70 (ad : FVec Ideal S512x4096 .bf16) (p : FVec Ideal S512x512 .f32) (f1 : FVec Ideal S512x1 .f32)
    (f2 : FVec Ideal S1x4096 .f32) (h : FVec Ideal S4096x640 .bf16) (r : Fin 512) (d : Fin 512) :
    k0_pay70 (F := Ideal) ad p f1 f2 h (ix2 r d)
      = elu (Ideal.ofBits .f32 0x3F000000#32 * (p (ix2 r d)
          + headE (f1 (ix2 r 0)) (fun j => f2 (ix2 0 j)) (fun j => ad (ix2 r j)) (fun j => h (ix2 j ⟨d.val, by omega⟩))
          (fun j => h (ix2 j 512)))) := by
  pointwise [k0_pay70]
  rw [coslope, floor, ninf]
  rfl

end Cert.LAPay

end
-- ==== Proof.LASc0.lean ====
/- What the first point leaves in the scratch of the two heads' features. -/
module

public import proofs.«01_k».proof.Proof.LAPay
public import proofs.«01_k».proof.Proof.Gen.LayerAIdeal.Value
public import Idealize.ShloMosaic.Lib.Pipeline.ValueKit

@[expose] public section

set_option maxRecDepth 16384

noncomputable section

namespace Cert.LASc

open Idealize.ShloMosaic Idealize.ShloMosaic.TcCoe Idealize.SL.Sem
open Cert.LayerAIdeal Cert.LayerAIdeal.Gen

variable (m : (ℓ : Loc nD τ sig) → Buf (Elt Ideal) ℓ)

/-- The first head's features, a band of ones, the second head's features and a band of ones again. -/
def SC0 (x : FVec Ideal S4096x300 .bf16) (w : FVec Ideal S300x1152 .bf16) : FVec Ideal S4096x1280 .bf16 :=
  fun j => if h : (j 1).val < 512 then ∑ k : Fin 300, x (ix2 (j 0) k) * w (ix2 k ⟨(j 1).val, by omega⟩)
    else if (j 1).val < 640 then 1
    else if h : (j 1).val < 1152 then ∑ k : Fin 300, x (ix2 (j 0) k) * w (ix2 k ⟨(j 1).val - 128, by omega⟩)
    else 1

/-- The first head's columns. -/
theorem SC0_a (x : FVec Ideal S4096x300 .bf16) (w : FVec Ideal S300x1152 .bf16) (y : S4096x1280.Idx) (q : (y 1).val < 512) :
    SC0 x w y = ∑ k : Fin 300, x (ix2 (y 0) k) * w (ix2 k ⟨(y 1).val, by omega⟩) := by
  rw [SC0, dif_pos q]

/-- The first band of ones. -/
theorem SC0_b (x : FVec Ideal S4096x300 .bf16) (w : FVec Ideal S300x1152 .bf16) (y : S4096x1280.Idx)
    (q : 512 ≤ (y 1).val ∧ (y 1).val < 640) : SC0 x w y = 1 := by
  rw [SC0, dif_neg (by omega), if_pos q.2]

/-- The second head's columns. -/
theorem SC0_c (x : FVec Ideal S4096x300 .bf16) (w : FVec Ideal S300x1152 .bf16) (y : S4096x1280.Idx)
    (q : 640 ≤ (y 1).val ∧ (y 1).val < 1152) :
    SC0 x w y = ∑ k : Fin 300, x (ix2 (y 0) k) * w (ix2 k ⟨(y 1).val - 128, by omega⟩) := by
  rw [SC0, dif_neg (by omega), if_neg (by omega), dif_pos q.2]

/-- The second band of ones. -/
theorem SC0_d (x : FVec Ideal S4096x300 .bf16) (w : FVec Ideal S300x1152 .bf16) (y : S4096x1280.Idx)
    (q : 1152 ≤ (y 1).val) : SC0 x w y = 1 := by
  rw [SC0, dif_neg (by omega), if_neg (by omega), dif_neg (by omega)]

/-- The first point leaves the features. -/
theorem sc0 (c : Dev nD) (t : Fin cfg0.N) (tz : t.val % 8 = 0) (y : S4096x1280.Idx) :
    (outsAt0 m c t.val t.isLt).2.1 y = SC0 (iblk m c 0 t) (iblk m c 2 t) y := by
  rw [outsAt0_A m c t tz]
  dsimp only
  frame_out
  canon_tiles x h using View.cover_of_tiledBy _ ![512, 128] (by sl_kernel_rfl) _
  all_goals open_payloads
  all_goals pointwise
  all_goals first
    | exact (SC0_b _ _ y (by omega)).symm
    | exact (SC0_d _ _ y (by omega)).symm
    | (rw [SC0_a _ _ y (by omega)]
       exact Finset.sum_congr rfl fun k _ => Ideal.mul_congr (congrArg _ ((ix2_inj ..).2 ⟨Fin.ext h0.symm, rfl⟩)) (congrArg _ ((ix2_inj ..).2 ⟨rfl, Fin.ext h1.symm⟩)))
    | (rw [SC0_c _ _ y (by omega)]
       exact Finset.sum_congr rfl fun k _ => Ideal.mul_congr (congrArg _ ((ix2_inj ..).2 ⟨Fin.ext h0.symm, rfl⟩)) (congrArg _ ((ix2_inj ..).2 ⟨rfl, Fin.ext (by simp only []; omega)⟩)))

end Cert.LASc

end
-- ==== Proof.LASc2.lean ====
/- What the first point leaves in the scratch of the destination scores. -/
module

public import proofs.«01_k».proof.Proof.LAPay
public import proofs.«01_k».proof.Proof.Gen.LayerAIdeal.Value
public import Idealize.ShloMosaic.Lib.Pipeline.ValueKit

@[expose] public section

set_option maxRecDepth 16384

noncomputable section

namespace Cert.LASc

open Idealize.ShloMosaic Idealize.ShloMosaic.TcCoe Idealize.SL.Sem
open Cert.LayerAIdeal Cert.LayerAIdeal.Gen

variable (m : (ℓ : Loc nD τ sig) → Buf (Elt Ideal) ℓ)

/-- The destination scores at a node. -/
def SC2 (x : FVec Ideal S4096x300 .bf16) (a : FVec Ideal S128x300 .bf16) : FVec Ideal S128x4096 .f32 :=
  fun j => ∑ k : Fin 300, a (ix2 (j 0) k) * x (ix2 (j 1) k)

/-- The first point leaves the destination scores. -/
theorem sc2 (c : Dev nD) (t : Fin cfg0.N) (tz : t.val % 8 = 0) (y : S128x4096.Idx) :
    (outsAt0 m c t.val t.isLt).2.2.2 y = SC2 (iblk m c 0 t) (iblk m c 3 t) y := by
  rw [outsAt0_A m c t tz]
  dsimp only
  frame_out
  canon_tiles x h
  all_goals open_payloads
  all_goals pointwise [SC2]
  all_goals exact Finset.sum_congr rfl fun k _ => Ideal.mul_congr (congrArg _ ((ix2_inj ..).2 ⟨Fin.ext h0.symm, rfl⟩)) (congrArg _ ((ix2_inj ..).2 ⟨Fin.ext h1.symm, rfl⟩))

/-- The source scores at a node. -/
def SC1 (x : FVec Ideal S4096x300 .bf16) (w : FVec Ideal S300x1152 .bf16) : FVec Ideal S4096x128 .f32 :=
  fun j => ∑ k : Fin 300, x (ix2 (j 0) k) * w (ix2 k ⟨1024 + (j 1).val, by have h : (j 1).val < 128 := (j 1).isLt; omega⟩)

/-- The first point leaves the source scores. -/
theorem sc1 (c : Dev nD) (t : Fin cfg0.N) (tz : t.val % 8 = 0) (y : S4096x128.Idx) :
    (outsAt0 m c t.val t.isLt).2.2.1 y = SC1 (iblk m c 0 t) (iblk m c 2 t) y := by
  rw [outsAt0_A m c t tz]
  dsimp only
  frame_out
  canon_tiles x h
  all_goals open_payloads
  all_goals pointwise [SC1]
  all_goals exact Finset.sum_congr rfl fun k _ => Ideal.mul_congr (congrArg _ ((ix2_inj ..).2 ⟨Fin.ext h0.symm, rfl⟩)) (congrArg _ ((ix2_inj ..).2 ⟨rfl, Fin.ext (congrArg (1024 + ·) h1.symm)⟩))

end Cert.LASc

end
-- ==== Proof.LAOut.lean ====
/- What a point leaves in the output's block, over the scratches it reads. -/
module

public import proofs.«01_k».proof.Proof.LAPay
public import proofs.«01_k».proof.Proof.LASc0
public import proofs.«01_k».proof.Proof.LASc2
public import proofs.«01_k».proof.Proof.Gen.LayerAIdeal.Value
public import Idealize.ShloMosaic.Lib.Pipeline.ValueKit
public import Idealize.ShloMosaic.Lib.Pipeline.ReadBack

@[expose] public section

set_option maxRecDepth 16384

noncomputable section

namespace Cert.LAOut

open Idealize.ShloMosaic Idealize.ShloMosaic.TcCoe Idealize.SL.Sem
open Cert.Head Cert.LAPay Cert.LASc Cert.LayerAIdeal Cert.LayerAIdeal.Gen

variable (m : (ℓ : Loc nD τ sig) → Buf (Elt Ideal) ℓ)

/-- The output at graph node `n` and column `d`, over the three scratches and the node's row of the adjacency. -/
def OUT (s0 : FVec Ideal S4096x1280 .bf16) (s1 : FVec Ideal S4096x128 .f32) (s2 : FVec Ideal S128x4096 .f32)
    (ad : Fin 4096 → EReal) (n : Fin 4096) (d : Fin 512) : EReal :=
  elu (Ideal.ofBits .f32 0x3F000000#32 *
    (headE (s1 (ix2 n 0)) (fun j => s2 (ix2 0 j)) ad (fun j => s0 (ix2 j ⟨d.val, by omega⟩)) (fun j => s0 (ix2 j 512))
      + headE (s1 (ix2 n 1)) (fun j => s2 (ix2 1 j)) ad (fun j => s0 (ix2 j ⟨640 + d.val, by omega⟩))
          (fun j => s0 (ix2 j 1152))))

/-- The grid's coordinate is the point's number. -/
theorem coord : ∀ t : Fin cfg0.N, (grid0.coords t 0).val = t.val := (by decide +kernel : ∀ t : Fin grid0.N, _)

/-- The node of a block's row. -/
def node (t : Fin cfg0.N) (r : Fin 512) : Fin 4096 :=
  ⟨512 * t.val + r.val, by have h : t.val < 8 := lt_of_lt_of_eq t.isLt N_0; omega⟩

/-- A later point stores the output over the scratches it was left. -/
theorem outB (c : Dev nD) (t : Fin cfg0.N) (tz : ¬ t.val % 8 = 0) (r : Fin 512) (d : Fin 512) :
    (outsAt0 m c t.val t.isLt).1 (ix2 r d)
      = OUT (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2
          (fun j => iblk m c 1 t (ix2 r j)) (node t r) d := by
  rw [outsAt0_B m c t tz]
  dsimp only
  frame_out
  simp only [read_unread_whole]
  pointwise [LAPay.pay70, LAPay.pay68, LAPay.pay69]
  simp only [k0_off1_eq, coord]
  rfl

/-- The first point stores the output over the scratches it fills. -/
theorem outA (c : Dev nD) (t : Fin cfg0.N) (tz : t.val % 8 = 0) (r : Fin 512) (d : Fin 512) :
    (outsAt0 m c t.val t.isLt).1 (ix2 r d)
      = OUT (SC0 (iblk m c 0 t) (iblk m c 2 t)) (SC1 (iblk m c 0 t) (iblk m c 2 t)) (SC2 (iblk m c 0 t) (iblk m c 3 t))
          (fun j => iblk m c 1 t (ix2 r j)) (node t r) d := by
  have q0 := funext (sc0 m c t tz)
  have q1 := funext (sc1 m c t tz)
  have q2 := funext (sc2 m c t tz)
  rw [outsAt0_A m c t tz] at q0 q1 q2 ⊢
  dsimp only at q0 q1 q2 ⊢
  frame_out at q0
  frame_out at q1
  frame_out at q2
  frame_out
  simp only [View.readCov_eq_canon']
  rw [q0, q1, q2]
  clear q0 q1 q2
  pointwise [LAPay.pay70, LAPay.pay68, LAPay.pay69]
  simp only [k0_off1_eq, coord]
  rfl

end Cert.LAOut

end
-- ==== Proof.LAFinal.lean ====
/- The array the first graph layer's kernel ends with. -/
module

public import proofs.«01_k».proof.Proof.LAOut

@[expose] public section

set_option maxRecDepth 16384

noncomputable section

namespace Cert.LAFinal

open Idealize.ShloMosaic Idealize.ShloMosaic.TcCoe Idealize.SL.Sem
open Cert.Head Cert.LAPay Cert.LASc Cert.LAOut Cert.LayerAIdeal Cert.LayerAIdeal.Gen
open Idealize.ShloMosaic.Pipeline (Dat)

variable (m : (ℓ : Loc nD τ sig) → Buf (Elt Ideal) ℓ)

/-- The windows' block indices. -/
theorem idx : ∀ t : Fin cfg0.N, win0_0.index t = ![0, 0] ∧ win0_1.index t = ![t.val, 0] ∧ win0_2.index t = ![0, 0]
    ∧ win0_3.index t = ![0, 0] ∧ win0_4.index t = ![t.val, 0] :=
  (by decide +kernel : ∀ t : Fin grid0.N, _)

/-- The nodes' features are read whole. -/
theorem b0 (c : Dev nD) (t : Fin cfg0.N) : iblk m c 0 t = m ((c.tc : Thread nD τ).loc main_arg0) := by
  funext y
  blk_point [iblk, V, idx t]

/-- The weights are read whole. -/
theorem b2 (c : Dev nD) (t : Fin cfg0.N) : iblk m c 2 t = m ((c.tc : Thread nD τ).loc main_arg2) := by
  funext y
  blk_point [iblk, V, idx t]

/-- The destination vectors are read whole. -/
theorem b3 (c : Dev nD) (t : Fin cfg0.N) : iblk m c 3 t = m ((c.tc : Thread nD τ).loc main_arg3) := by
  funext y
  blk_point [iblk, V, idx t]

/-- The adjacency is read by blocks of rows. -/
theorem b1 (c : Dev nD) (t : Fin cfg0.N) (r : Fin 512) (j : Fin 4096) :
    iblk m c 1 t (ix2 r j) = m ((c.tc : Thread nD τ).loc main_arg1) (ix2 (node t r) j) := by
  blk_point [iblk, V, idx t, node]

/-- Every point leaves the scratches as the first point filled them. -/
theorem scratch (c : Dev nD) : ∀ (n : ℕ) (hn : n < cfg0.N),
    (outsAt0 m c n hn).2.1 = SC0 (m ((c.tc : Thread nD τ).loc main_arg0)) (m ((c.tc : Thread nD τ).loc main_arg2))
      ∧ (outsAt0 m c n hn).2.2.1 = SC1 (m ((c.tc : Thread nD τ).loc main_arg0)) (m ((c.tc : Thread nD τ).loc main_arg2))
      ∧ (outsAt0 m c n hn).2.2.2 = SC2 (m ((c.tc : Thread nD τ).loc main_arg0)) (m ((c.tc : Thread nD τ).loc main_arg3))
  | 0, hn => by
    have q0 := funext (sc0 m c ⟨0, hn⟩ rfl)
    have q1 := funext (sc1 m c ⟨0, hn⟩ rfl)
    have q2 := funext (sc2 m c ⟨0, hn⟩ rfl)
    rw [b0, b2] at q0 q1
    rw [b0, b3] at q2
    exact ⟨q0, q1, q2⟩
  | n + 1, hn => by
    obtain ⟨q0, q1, q2⟩ := scratch c n (Nat.lt_of_succ_lt hn)
    have tz : ¬ (n + 1) % 8 = 0 := by
      have h : n + 1 < 8 := lt_of_lt_of_eq hn N_0
      omega
    rw [outsAt0_B m c ⟨n + 1, hn⟩ tz]
    exact ⟨q0, q1, q2⟩

/-- The output over the arguments. -/
def FIN (x : FVec Ideal S4096x300 .bf16) (a : FVec Ideal S4096x4096 .bf16) (w : FVec Ideal S300x1152 .bf16)
    (d : FVec Ideal S128x300 .bf16) : FVec Ideal S4096x512 .bf16 :=
  fun i => OUT (SC0 x w) (SC1 x w) (SC2 x d) (fun j => a (ix2 (i 0) j)) (i 0) (i 1)

/-- What a point leaves in its block. -/
theorem point (c : Dev nD) (t : Fin cfg0.N) (r : Fin 512) (d : Fin 512) :
    (outsAt0 m c t.val t.isLt).1 (ix2 r d)
      = FIN (m ((c.tc : Thread nD τ).loc main_arg0)) (m ((c.tc : Thread nD τ).loc main_arg1))
          (m ((c.tc : Thread nD τ).loc main_arg2)) (m ((c.tc : Thread nD τ).loc main_arg3)) (ix2 (node t r) d) := by
  have e : (fun j => iblk m c 1 t (ix2 r j)) = fun j => m ((c.tc : Thread nD τ).loc main_arg1) (ix2 (node t r) j) :=
    funext (b1 m c t r)
  by_cases tz : t.val % 8 = 0
  · rw [outA m c t tz, b0, b2, b3, e]
    rfl
  · obtain ⟨q0, q1, q2⟩ := scratch m c (t.val - 1) (Nat.lt_of_le_of_lt (Nat.sub_le _ _) t.isLt)
    rw [outB m c t tz, q0, q1, q2, e]
    rfl

/-- The array after the run. -/
theorem final (c : Dev nD) :
    (dats m 0 c).arrAt 4 (cfgs 0).N
      = FIN (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  refine (point m c t _ _).trans (congrArg _ ?_)
  blk_ext [idx t, node]

end Cert.LAFinal

end
-- ==== Proof.RADefs.lean ====
/- The reference of the first graph layer, read at one element. -/
module

public import proofs.«01_k».proof.Proof.Head
public import proofs.«01_k».proof.Proof.Gen.RefAIdeal
public import Idealize.ShloMosaic.Lib.Pointwise

@[expose] public section

set_option maxRecDepth 16384

noncomputable section

namespace Cert.RA

open Idealize.ShloMosaic Idealize.ShloMosaic.TcCoe Idealize.SL.Sem
open Cert.Head Cert.RefAIdeal Cert.RefAIdeal.Gen

variable (X : FVec Ideal S4096x300 .bf16) (A : FVec Ideal S4096x4096 .bf16) (W : FVec Ideal S300x1152 .bf16)
  (D : FVec Ideal S128x300 .bf16)

/-- The scores of the edges. -/
def rS : FVec Ideal S2x4096x4096 .f32 :=
  addf (broadcastInDim S2x4096x4096 ![0, 1, 2] bcast_S2x4096x1_S2x4096x4096_0_1_2 (broadcastInDim S2x4096x1 ![0, 1] bcast_S2x4096_S2x4096x1_0_1 (Host.dotGeneral dot_S300x2_S4096x300_S2x4096_0_1_1_0_n_n none (extractStridedSlice S300x2 ![0, 1024] (extf .f32 W bitsLt_bf16_f32) slices_S300x1152_S300x2_0_1024) (extf .f32 X bitsLt_bf16_f32)))) (broadcastInDim S2x4096x4096 ![0, 1, 2] bcast_S2x1x4096_S2x4096x4096_0_1_2 (broadcastInDim S2x1x4096 ![0, 2] bcast_S2x4096_S2x1x4096_0_2 (Host.dotGeneral dot_S2x300_S4096x300_S2x4096_1_1_0_0_n_n none (extractStridedSlice S2x300 ![0, 0] (extf .f32 D bitsLt_bf16_f32) slices_S128x300_S2x300_0_0) (extf .f32 X bitsLt_bf16_f32))))

/-- The mask of the edges. -/
def rM : Vec Ideal S2x4096x4096 .i1 :=
  broadcastInDim S2x4096x4096 ![0, 1, 2] bcast_S1x4096x4096_S2x4096x4096_0_1_2 (broadcastInDim S1x4096x4096 ![1, 2] bcast_S4096x4096_S1x4096x4096_1_2 (cmpf .ogt (extf .f32 A bitsLt_bf16_f32) (broadcastInDim S4096x4096 ![] bcast_S_S4096x4096 (constant S_ .f32 0x00000000#32))))

/-- The masked scores. -/
def rE : FVec Ideal S2x4096x4096 .f32 :=
  select (rM A) (select (cmpf .oge (rS X W D) (broadcastInDim S2x4096x4096 ![] bcast_S_S2x4096x4096 (constant S_ .f32 0x00000000#32))) (rS X W D) (mulf (broadcastInDim S2x4096x4096 ![] bcast_S_S2x4096x4096 (id (constant S_ .f32 0x3E4CCCCD#32))) (rS X W D))) (broadcastInDim S2x4096x4096 ![] bcast_S_S2x4096x4096 (id (constant S_ .f32 0xFF800000#32)))

/-- The largest masked score of a row. -/
def rX : FVec Ideal S2x4096 .f32 :=
  maximumf (broadcastInDim S2x4096 ![] bcast_S_S2x4096 (constant S_ .f32 0xFF800000#32)) (Host.reduce FloatOps.maximumf (rE X A W D) (constant S_ .f32 0xFF800000#32) reducesTo_S2x4096x4096_S2x4096_d2 h_S_)

/-- The exponentials. -/
def rP : FVec Ideal S2x4096x4096 .f32 :=
  Host.exp (subf (rE X A W D) (broadcastInDim S2x4096x4096 ![0, 1, 2] bcast_S2x4096x1_S2x4096x4096_0_1_2 (broadcastInDim S2x4096x1 ![0, 1] bcast_S2x4096_S2x4096x1_0_1 (rX X A W D))))

/-- The attention weights. -/
def rA : FVec Ideal S2x4096x4096 .f32 :=
  select (rM A) (Host.divf (rP X A W D) (broadcastInDim S2x4096x4096 ![0, 1, 2] bcast_S2x4096x1_S2x4096x4096_0_1_2 (broadcastInDim S2x4096x1 ![0, 1] bcast_S2x4096_S2x4096x1_0_1 (Host.reduceAdd (rP X A W D) (constant S_ .f32 0x00000000#32) reducesTo_S2x4096x4096_S2x4096_d2 h_S_)))) (broadcastInDim S2x4096x4096 ![] bcast_S_S2x4096x4096 (id (constant S_ .f32 0x00000000#32)))

/-- The two heads' features. -/
def rH : FVec Ideal S2x4096x512 .f32 :=
  concatenate S2x4096x512 0 [⟨S1x4096x512, (broadcastInDim S1x4096x512 ![1, 2] bcast_S4096x512_S1x4096x512_1_2 (Host.dotGeneral dot_S4096x300_S300x512_S4096x512_1_0_0_1_n_n none (extf .f32 X bitsLt_bf16_f32) (extractStridedSlice S300x512 ![0, 0] (extf .f32 W bitsLt_bf16_f32) slices_S300x1152_S300x512_0_0)))⟩, ⟨S1x4096x512, (broadcastInDim S1x4096x512 ![1, 2] bcast_S4096x512_S1x4096x512_1_2 (Host.dotGeneral dot_S4096x300_S300x512_S4096x512_1_0_0_1_n_n none (extf .f32 X bitsLt_bf16_f32) (extractStridedSlice S300x512 ![0, 512] (extf .f32 W bitsLt_bf16_f32) slices_S300x1152_S300x512_0_512)))⟩] concatenates_S1x4096x512_S1x4096x512_S2x4096x512_d0

/-- The mean of the two heads. -/
def rO : FVec Ideal S4096x512 .f32 :=
  Host.divf (Host.reduceAdd (Host.dotGeneral dot_S2x4096x4096_S2x4096x512_S2x4096x512_2_1_1_2_0_0 none (rA X A W D) (rH X W)) (constant S_ .f32 0x00000000#32) reducesTo_S2x4096x512_S4096x512_d0 h_S_) (broadcastInDim S4096x512 ![] bcast_S_S4096x512 (constant S_ .f32 0x40000000#32))

/-- The output. -/
def REF : FVec Ideal S4096x512 .bf16 :=
  truncf .bf16 (select (cmpf .ogt (rO X A W D) (broadcastInDim S4096x512 ![] bcast_S_S4096x512 (constant S_ .f32 0x00000000#32))) (rO X A W D) (mulf (broadcastInDim S4096x512 ![] bcast_S_S4096x512 (constant S_ .f32 0x3F800000#32)) (Host.expm1 (select (cmpf .ogt (rO X A W D) (broadcastInDim S4096x512 ![] bcast_S_S4096x512 (constant S_ .f32 0x00000000#32))) (broadcastInDim S4096x512 ![] bcast_S_S4096x512 (id (constant S_ .f32 0x00000000#32))) (rO X A W D))))) bitsLt_bf16_f32
-- ==== Proof.RA.lean ====
/- The reference of the first graph layer, read at one element. -/
module

public import proofs.«01_k».proof.Proof.Head
public import proofs.«01_k».proof.Proof.RADefs
public import Idealize.ShloMosaic.Lib.Pointwise

@[expose] public section

set_option maxRecDepth 16384

noncomputable section

namespace Cert.RA

open Idealize.ShloMosaic Idealize.ShloMosaic.TcCoe Idealize.SL.Sem
open Cert.Head Cert.RefAIdeal Cert.RefAIdeal.Gen

variable (X : FVec Ideal S4096x300 .bf16) (A : FVec Ideal S4096x4096 .bf16) (W : FVec Ideal S300x1152 .bf16)
  (D : FVec Ideal S128x300 .bf16)

/-- The reduced shape drops the last axis. -/
theorem red : S2x4096x4096.Reduces [2] S2x4096 := by decide

/-- A row's maximum is the fold over the row. -/
theorem redmax (x : FVec Ideal S2x4096x4096 .f32) (h : Fin 2) (n : Fin 4096) :
    Host.reduce FloatOps.maximumf x (constant (F := Ideal) S_ .f32 0xFF800000#32) reducesTo_S2x4096x4096_S2x4096_d2 h_S_ (ix2 h n)
      = Finset.univ.fold max (⊥ : EReal) (fun j : Fin 4096 => x (ix3 h n j)) := by
  refine (Host.reduce_eq_fold_single (max : EReal → EReal → EReal) x _ _ red _ _).trans ?_
  have e : (x ∘ red.lift (ix2 h n) : Fin 4096 → EReal) = fun j => x (ix3 h n j) := by
    funext j
    refine congrArg x (funext fun a => Fin.ext ?_)
    match a with
    | ⟨0, _⟩ => rfl
    | ⟨1, _⟩ => rfl
    | ⟨2, _⟩ => rfl
  have e0 : constant (F := Ideal) S_ .f32 0xFF800000#32 (Shape.Idx.first h_S_) = (⊥ : EReal) := ninf
  exact (congrArg (fun i => Finset.univ.fold max i (x ∘ red.lift (ix2 h n))) e0).trans
    (congrArg (fun f : Fin 4096 → EReal => Finset.univ.fold max (⊥ : EReal) f) e)

/-- The exponential linear unit as the reference spells it. -/
def eluR (z : EReal) : EReal := if 0 < z then z else Ideal.exp (if 0 < z then 0 else z) - 1

/-- The scores at an edge. -/
theorem rS_at (h : Fin 2) (n j : Fin 4096) : rS X W D (ix3 h n j)
    = ∑ k : Fin 300, W (ix2 k ⟨1024 + h.val, by omega⟩) * X (ix2 n k) + ∑ k : Fin 300, D (ix2 ⟨h.val, by omega⟩ k) * X (ix2 j k) := by
  pointwise [rS]

/-- The masked score. -/
theorem rE_at (h : Fin 2) (n j : Fin 4096) : rE X A W D (ix3 h n j)
    = if 0 < A (ix2 n j) then (if 0 ≤ rS X W D (ix3 h n j) then rS X W D (ix3 h n j)
        else Ideal.ofBits .f32 0x3E4CCCCD#32 * rS X W D (ix3 h n j)) else Ideal.ofBits .f32 0xFF800000#32 := by
  pointwise [rE, rM]
  rfl

/-- The larger of minus infinity and an entry. -/
theorem maxrow (v : FVec Ideal S2x4096 .f32) (h : Fin 2) (n : Fin 4096) :
    maximumf (broadcastInDim S2x4096 ![] bcast_S_S2x4096 (constant (F := Ideal) S_ .f32 0xFF800000#32)) v (ix2 h n)
      = max (Ideal.ofBits .f32 0xFF800000#32) (v (ix2 h n)) := rfl

/-- The row's maximum. -/
theorem rX_at (h : Fin 2) (n : Fin 4096) : rX X A W D (ix2 h n)
    = max (Ideal.ofBits .f32 0xFF800000#32) (Finset.univ.fold max (⊥ : EReal) fun j : Fin 4096 => rE X A W D (ix3 h n j)) :=
  (maxrow (Host.reduce FloatOps.maximumf (rE X A W D) (constant (F := Ideal) S_ .f32 0xFF800000#32)
    reducesTo_S2x4096x4096_S2x4096_d2 h_S_) h n).trans (congrArg (max (Ideal.ofBits .f32 0xFF800000#32)) (redmax (rE X A W D) h n))

/-- The exponential. -/
theorem rP_at (h : Fin 2) (n j : Fin 4096) : rP X A W D (ix3 h n j) = Ideal.exp (rE X A W D (ix3 h n j) - rX X A W D (ix2 h n)) := by
  pointwise [rP]

/-- The attention weight. -/
theorem rA_at (h : Fin 2) (n j : Fin 4096) : rA X A W D (ix3 h n j)
    = if 0 < A (ix2 n j) then Ideal.div (rP X A W D (ix3 h n j)) (∑ k : Fin 4096, rP X A W D (ix3 h n k))
      else 0 := by
  pointwise [rA, rM]
  exact ite_congr rfl (fun _ => rfl) fun _ => Ideal.ofBits_zero_f32

/-- The first head's features. -/
theorem rH_0 (n : Fin 4096) (l : Fin 512) : rH X W (ix3 0 n l) = ∑ k : Fin 300, X (ix2 n k) * W (ix2 k ⟨l.val, by omega⟩) := by
  pointwise [rH]

/-- The second head's features. -/
theorem rH_1 (n : Fin 4096) (l : Fin 512) : rH X W (ix3 1 n l) = ∑ k : Fin 300, X (ix2 n k) * W (ix2 k ⟨512 + l.val, by omega⟩) := by
  pointwise [rH]

/-- The mean of the two heads. -/
theorem rO_at (n : Fin 4096) (l : Fin 512) : rO X A W D (ix2 n l)
    = Ideal.div (∑ h : Fin 2, ∑ j : Fin 4096, rA X A W D (ix3 h n j) * rH X W (ix3 h j l)) (Ideal.ofBits .f32 0x40000000#32) := by
  pointwise [rO]

/-- The output at a node and a column. -/
theorem REF_at (n : Fin 4096) (l : Fin 512) : REF X A W D (ix2 n l) = eluR (rO X A W D (ix2 n l)) := by
  pointwise [REF]
  exact ite_congr rfl (fun _ => rfl) fun _ => congrArg (fun z => Ideal.exp z - 1)
    (ite_congr rfl (fun _ => Ideal.ofBits_zero_f32) fun _ => rfl)

end Cert.RA

end
-- ==== Proof.LALink.lean ====
/- The first graph layer's kernel and its reference give one array, at real features and weights and an adjacency of zeros
   and ones. -/
module

public import proofs.«01_k».proof.Proof.Link
public import proofs.«01_k».proof.Proof.LAFinal
public import proofs.«01_k».proof.Proof.RA

@[expose] public section

set_option maxRecDepth 16384

noncomputable section

namespace Cert.LALink

open Idealize.ShloMosaic Idealize.ShloMosaic.TcCoe Idealize.SL.Sem
open Cert.Head Cert.Link Cert.LASc Cert.LAOut Cert.LAPay Cert.LAFinal Cert.RA Cert.LayerAIdeal Cert.LayerAIdeal.Gen

/-- A node's source score in a head. -/
def f1 (x : S4096x300.Idx → ℝ) (w : S300x1152.Idx → ℝ) (h : Fin 2) (n : Fin 4096) : ℝ :=
  ∑ k : Fin 300, x (ix2 n k) * w (ix2 k ⟨1024 + h.val, by omega⟩)

/-- A node's destination score in a head. -/
def f2 (x : S4096x300.Idx → ℝ) (d : S128x300.Idx → ℝ) (h : Fin 2) (j : Fin 4096) : ℝ :=
  ∑ k : Fin 300, d (ix2 ⟨h.val, by omega⟩ k) * x (ix2 j k)

/-- A node's features in a head. -/
def hf (x : S4096x300.Idx → ℝ) (w : S300x1152.Idx → ℝ) (h : Fin 2) (l : Fin 512) (j : Fin 4096) : ℝ :=
  ∑ k : Fin 300, x (ix2 j k) * w (ix2 k ⟨512 * h.val + l.val, by omega⟩)

variable (X : FVec Ideal S4096x300 .bf16) (A : FVec Ideal S4096x4096 .bf16) (W : FVec Ideal S300x1152 .bf16)
  (D : FVec Ideal S128x300 .bf16)
  (x : S4096x300.Idx → ℝ) (a : S4096x4096.Idx → ℝ) (w : S300x1152.Idx → ℝ) (d : S128x300.Idx → ℝ)

/-- The kernel's source scores are real. -/
theorem sc1_real (hX : ∀ y, X y = (x y : EReal)) (hW : ∀ y, W y = (w y : EReal)) (h : Fin 2) (n : Fin 4096) :
    SC1 X W (ix2 n ⟨h.val, by omega⟩) = ((f1 x w h n : ℝ) : EReal) := by
  unfold SC1 f1
  rw [← dot_coe]
  exact Finset.sum_congr rfl fun k _ => Ideal.mul_congr (hX _) (hW _)

/-- The kernel's destination scores are real. -/
theorem sc2_real (hX : ∀ y, X y = (x y : EReal)) (hD : ∀ y, D y = (d y : EReal)) (h : Fin 2) (j : Fin 4096) :
    SC2 X D (ix2 ⟨h.val, by omega⟩ j) = ((f2 x d h j : ℝ) : EReal) := by
  unfold SC2 f2
  rw [← dot_coe]
  exact Finset.sum_congr rfl fun k _ => Ideal.mul_congr (hD _) (hX _)

/-- The features the two programs form are real. -/
theorem feat_real (hX : ∀ y, X y = (x y : EReal)) (hW : ∀ y, W y = (w y : EReal)) (h : Fin 2) (l : Fin 512) (j : Fin 4096) :
    ∑ k : Fin 300, X (ix2 j k) * W (ix2 k ⟨512 * h.val + l.val, by omega⟩) = ((hf x w h l j : ℝ) : EReal) := by
  unfold hf
  rw [← dot_coe]
  exact Finset.sum_congr rfl fun k _ => Ideal.mul_congr (hX _) (hW _)

/-- The kernel's features of the first head. -/
theorem sc0_first (hX : ∀ y, X y = (x y : EReal)) (hW : ∀ y, W y = (w y : EReal)) (l : Fin 512) (j : Fin 4096) :
    SC0 X W (ix2 j ⟨l.val, by omega⟩) = ((hf x w 0 l j : ℝ) : EReal) := by
  rw [SC0_a X W _ l.isLt, ← feat_real X W x w hX hW 0 l j]
  refine Finset.sum_congr rfl fun k _ => Ideal.mul_congr rfl (congrArg W ((ix2_inj ..).2 ⟨rfl, Fin.ext ?_⟩))
  show l.val = 512 * 0 + l.val
  omega

/-- The kernel's features of the second head. -/
theorem sc0_second (hX : ∀ y, X y = (x y : EReal)) (hW : ∀ y, W y = (w y : EReal)) (l : Fin 512) (j : Fin 4096) :
    SC0 X W (ix2 j ⟨640 + l.val, by omega⟩) = ((hf x w 1 l j : ℝ) : EReal) := by
  have q : 640 ≤ 640 + l.val ∧ 640 + l.val < 1152 := by omega
  rw [SC0_c X W (ix2 j ⟨640 + l.val, by omega⟩) q, ← feat_real X W x w hX hW 1 l j]
  refine Finset.sum_congr rfl fun k _ => Ideal.mul_congr rfl (congrArg W ((ix2_inj ..).2 ⟨rfl, Fin.ext ?_⟩))
  show 640 + l.val - 128 = 512 * 1 + l.val
  omega

/-- The kernel's first head. -/
theorem head_first (hX : ∀ y, X y = (x y : EReal)) (hW : ∀ y, W y = (w y : EReal)) (hD : ∀ y, D y = (d y : EReal))
    (hA : ∀ y, A y = (a y : EReal)) (ha : ∀ y, a y = 0 ∨ a y = 1) (n : Fin 4096) (l : Fin 512) :
    headE (SC1 X W (ix2 n 0)) (fun j => SC2 X D (ix2 0 j)) (fun j => A (ix2 n j)) (fun j => SC0 X W (ix2 j ⟨l.val, by omega⟩))
        (fun j => SC0 X W (ix2 j 512))
      = ((Row.mean sl (f1 x w 0 n) (f2 x d 0) (fun j => a (ix2 n j)) (hf x w 0 l) : ℝ) : EReal) := by
  have e1 : SC1 X W (ix2 n 0) = ((f1 x w 0 n : ℝ) : EReal) := sc1_real X W x w hX hW 0 n
  have e2 : (fun j => SC2 X D (ix2 0 j)) = fun j => ((f2 x d 0 j : ℝ) : EReal) := funext fun j => sc2_real X D x d hX hD 0 j
  have e3 : (fun j => A (ix2 n j)) = fun j => ((a (ix2 n j) : ℝ) : EReal) := funext fun j => hA _
  have e4 : (fun j => SC0 X W (ix2 j ⟨l.val, by omega⟩)) = fun j => ((hf x w 0 l j : ℝ) : EReal) :=
    funext fun j => sc0_first X W x w hX hW l j
  rw [e1, e2, e3, e4]
  exact headE_real _ _ _ _ _ (fun j => ha _) fun j => SC0_b X W _ ⟨(by decide : 512 ≤ 512), (by decide : 512 < 640)⟩

/-- The kernel's second head. -/
theorem head_second (hX : ∀ y, X y = (x y : EReal)) (hW : ∀ y, W y = (w y : EReal)) (hD : ∀ y, D y = (d y : EReal))
    (hA : ∀ y, A y = (a y : EReal)) (ha : ∀ y, a y = 0 ∨ a y = 1) (n : Fin 4096) (l : Fin 512) :
    headE (SC1 X W (ix2 n 1)) (fun j => SC2 X D (ix2 1 j)) (fun j => A (ix2 n j)) (fun j => SC0 X W (ix2 j ⟨640 + l.val, by omega⟩))
        (fun j => SC0 X W (ix2 j 1152))
      = ((Row.mean sl (f1 x w 1 n) (f2 x d 1) (fun j => a (ix2 n j)) (hf x w 1 l) : ℝ) : EReal) := by
  have e1 : SC1 X W (ix2 n 1) = ((f1 x w 1 n : ℝ) : EReal) := sc1_real X W x w hX hW 1 n
  have e2 : (fun j => SC2 X D (ix2 1 j)) = fun j => ((f2 x d 1 j : ℝ) : EReal) := funext fun j => sc2_real X D x d hX hD 1 j
  have e3 : (fun j => A (ix2 n j)) = fun j => ((a (ix2 n j) : ℝ) : EReal) := funext fun j => hA _
  have e4 : (fun j => SC0 X W (ix2 j ⟨640 + l.val, by omega⟩)) = fun j => ((hf x w 1 l j : ℝ) : EReal) :=
    funext fun j => sc0_second X W x w hX hW l j
  rw [e1, e2, e3, e4]
  exact headE_real _ _ _ _ _ (fun j => ha _) fun j => SC0_d X W _ (by decide : 1152 ≤ 1152)

/-- The reference's features. -/
theorem rH_real (hX : ∀ y, X y = (x y : EReal)) (hW : ∀ y, W y = (w y : EReal)) (h : Fin 2) (j : Fin 4096) (l : Fin 512) :
    rH X W (ix3 h j l) = ((hf x w h l j : ℝ) : EReal) := by
  match h with
  | 0 =>
    rw [rH_0, ← feat_real X W x w hX hW 0 l j]
    refine Finset.sum_congr rfl fun k _ => Ideal.mul_congr rfl (congrArg W ((ix2_inj ..).2 ⟨rfl, Fin.ext ?_⟩))
    show l.val = 512 * 0 + l.val
    omega
  | 1 =>
    rw [rH_1, ← feat_real X W x w hX hW 1 l j]
    rfl

/-- The reference's row of a head. -/
theorem row (hX : ∀ y, X y = (x y : EReal)) (hW : ∀ y, W y = (w y : EReal)) (hD : ∀ y, D y = (d y : EReal))
    (hA : ∀ y, A y = (a y : EReal)) (ha : ∀ y, a y = 0 ∨ a y = 1) (h : Fin 2) (n : Fin 4096) (l : Fin 512) :
    ∑ j : Fin 4096, rA X A W D (ix3 h n j) * rH X W (ix3 h j l)
      = ((Row.mean sl (f1 x w h n) (f2 x d h) (fun j => a (ix2 n j)) (hf x w h l) : ℝ) : EReal) := by
  have e : ∀ j, rA X A W D (ix3 h n j) * rH X W (ix3 h j l) = rA X A W D (ix3 h n j) * ((hf x w h l j : ℝ) : EReal) :=
    fun j => by rw [rH_real X W x w hX hW h j l]
  rw [Finset.sum_congr rfl fun j _ => e j]
  refine ref_row (f1 x w h n) (f2 x d h) (fun j => a (ix2 n j)) (hf x w h l) (fun j => ha _) (fun j => rS X W D (ix3 h n j))
    (fun j => rE X A W D (ix3 h n j)) (fun j => rP X A W D (ix3 h n j)) (fun j => rA X A W D (ix3 h n j)) (rX X A W D (ix2 h n))
    (fun j => ?_) (fun j => ?_) (rX_at X A W D h n) (fun j => rP_at X A W D h n j) (fun j => ?_)
  · show rS X W D (ix3 h n j) = _
    rw [rS_at, ← sc1_real X W x w hX hW h n, ← sc2_real X D x d hX hD h j]
    refine congrArg (· + _) (Finset.sum_congr rfl fun k _ => ?_)
    exact mul_comm _ _
  · show rE X A W D (ix3 h n j) = _
    rw [rE_at, hA]
  · show rA X A W D (ix3 h n j) = _
    rw [rA_at, hA]

/-- The exponential linear unit in its two spellings. -/
theorem elu_eq (z : EReal) : elu z = eluR z := by
  unfold elu eluR
  by_cases h : 0 < z
  · rw [if_pos h, if_pos h]
  · rw [if_neg h, if_neg h, if_neg h]

/-- The kernel's array at a node and a column. -/
theorem FIN_at (n : Fin 4096) (l : Fin 512) :
    FIN X A W D (ix2 n l) = OUT (SC0 X W) (SC1 X W) (SC2 X D) (fun j => A (ix2 n j)) n l := rfl

/-- The two programs' arrays are one. -/
theorem bridge (hX : ∀ y, X y = (x y : EReal)) (hW : ∀ y, W y = (w y : EReal)) (hD : ∀ y, D y = (d y : EReal))
    (hA : ∀ y, A y = (a y : EReal)) (ha : ∀ y, a y = 0 ∨ a y = 1) : FIN X A W D = REF X A W D := by
  funext i
  obtain ⟨n, l, rfl⟩ : ∃ (n : Fin 4096) (l : Fin 512), i = ix2 n l := ⟨i 0, i 1, eq_ix2 i⟩
  rw [FIN_at, REF_at, ← elu_eq]
  unfold OUT
  refine congrArg elu ?_
  rw [rO_at, Fin.sum_univ_two, row X A W D x a w d hX hW hD hA ha 0 n l, row X A W D x a w d hX hW hD hA ha 1 n l, halve]
  refine congrArg (Ideal.ofBits .f32 0x3F000000#32 * ·) ?_
  exact congr (congrArg (· + ·) (head_first X A W D x a w d hX hW hD hA ha n l)) (head_second X A W D x a w d hX hW hD hA ha n l)

end Cert.LALink

end
-- ==== Proof.RARun.lean ====
/- The first graph layer's reference, run: its result is the staged term at its arguments, which end unchanged. -/
module

public import proofs.«01_k».proof.Proof.RADefs
public import Idealize.ShloMosaic.Lib.Claim
public import Idealize.ShloMosaic.Adequacy
public import Idealize.ShloMosaic.Init

@[expose] public section

set_option maxRecDepth 16384

noncomputable section

namespace Cert.RARun

open Idealize.ShloMosaic Idealize.SL.Sem Cert.RefAIdeal

set_option maxHeartbeats 4000000 in
/-- The reference's run. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v42) = Cert.RA.REF (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  simp only [StableHlo.TRef.toBuf, StableHlo.TRef.ofBuf, cast_eq]
  unfold Cert.RA.REF Cert.RA.rO Cert.RA.rA Cert.RA.rP Cert.RA.rX Cert.RA.rE Cert.RA.rM Cert.RA.rS Cert.RA.rH
  rfl

end Cert.RARun

end
-- ==== Proof.AlgA.lean ====
/- The first graph layer: the kernel's run and the reference's run end with one array. -/
module

public import proofs.«01_k».proof.Defs
public import proofs.«01_k».proof.Proof.PreA
public import proofs.«01_k».proof.Proof.LALink
public import proofs.«01_k».proof.Proof.RARun
public import Idealize.ShloMosaic.Lib.Claim

@[expose] public section

set_option maxRecDepth 16384

noncomputable section

namespace Cert.AlgA

open Idealize.ShloMosaic Idealize.SL.Sem

/-- Under the precondition the two programs' arrays are one. -/
theorem same (m : (ℓ : Loc Cert.LayerAIdeal.nD Cert.LayerAIdeal.τ Cert.LayerAIdeal.sig) → Buf (Elt Ideal) ℓ)
    (hpre : Cert.Pre_LayerAIdeal_edges1 m) (c : Dev Cert.LayerAIdeal.nD) :
    Cert.LAFinal.FIN (m ((c.tc : Thread Cert.LayerAIdeal.nD Cert.LayerAIdeal.τ).loc Cert.LayerAIdeal.main_arg0))
        (m ((c.tc : Thread Cert.LayerAIdeal.nD Cert.LayerAIdeal.τ).loc Cert.LayerAIdeal.main_arg1))
        (m ((c.tc : Thread Cert.LayerAIdeal.nD Cert.LayerAIdeal.τ).loc Cert.LayerAIdeal.main_arg2))
        (m ((c.tc : Thread Cert.LayerAIdeal.nD Cert.LayerAIdeal.τ).loc Cert.LayerAIdeal.main_arg3))
      = Cert.RA.REF (m ((c.tc : Thread Cert.LayerAIdeal.nD Cert.LayerAIdeal.τ).loc Cert.LayerAIdeal.main_arg0))
        (m ((c.tc : Thread Cert.LayerAIdeal.nD Cert.LayerAIdeal.τ).loc Cert.LayerAIdeal.main_arg1))
        (m ((c.tc : Thread Cert.LayerAIdeal.nD Cert.LayerAIdeal.τ).loc Cert.LayerAIdeal.main_arg2))
        (m ((c.tc : Thread Cert.LayerAIdeal.nD Cert.LayerAIdeal.τ).loc Cert.LayerAIdeal.main_arg3)) := by
  obtain ⟨p0, p1, p2, p3⟩ := hpre c
  choose a ha using PreA.adj _ _ _ _ p0
  choose x hx using PreA.feats _ _ _ _ p1
  choose w hw using PreA.weights _ _ _ _ p2
  choose d hd using PreA.dst _ _ _ _ p3
  exact LALink.bridge _ _ _ _ x a w d hx hw hd (fun y => (ha y).1) (fun y => (ha y).2)

/-- The kernel and the reference agree. -/
theorem algebraic : Cert.algebraic_LayerAIdeal_RefAIdeal_pre_edges1 := by
  pair_intro
  · run_from Cert.LayerAIdeal.Gen.run_main m g
  · run_from Cert.RARun.run m' g'
    exact ((Cert.LAFinal.final m c).trans (same m hpre c)).symm

end Cert.AlgA

end
-- ==== Proof.KIR0A.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's first branch, from the grid coordinates. -/
abbrev cond (i : grid0.Coords) : Prop := (Scalar.cmpi .ne (Scalar.extui (Scalar.cmpi .eq (BitVec.ofNat 32 (i 0).val) 0#32)) 0#32) = 1#1
/-- It holds at the first point only. -/
theorem hcond : ∀ t : Fin cfg0.N, cond (grid0.coords t) ↔ t.val = 0 :=
  (by decide +kernel : ∀ t : Fin grid0.N, cond (grid0.coords t) ↔ t.val = 0)
/-- The second branch is taken at every point but the last. -/
theorem hcond2 : ∀ t : Fin cfg0.N, k0_cond2 (grid0.coords t) = 1#1 ↔ t.val ≠ 9 :=
  (by decide +kernel : ∀ t : Fin grid0.N, k0_cond2 (grid0.coords t) = 1#1 ↔ t.val ≠ 9)
/-- The third is taken at the last point only. -/
theorem hcond3 : ∀ t : Fin cfg0.N, k0_cond3 (grid0.coords t) = 1#1 ↔ t.val = 9 :=
  (by decide +kernel : ∀ t : Fin grid0.N, k0_cond3 (grid0.coords t) = 1#1 ↔ t.val = 9)
/-- The fourth likewise. -/
theorem hcond4 : ∀ t : Fin cfg0.N, k0_cond4 (grid0.coords t) = 1#1 ↔ t.val = 9 :=
  (by decide +kernel : ∀ t : Fin grid0.N, k0_cond4 (grid0.coords t) = 1#1 ↔ t.val = 9)

set_option maxHeartbeats 4000000 in
/-- The body run whole at the first point: from the inputs at their contents it ends with the inputs as they
    were, the adjacency block and the two carried arrays written piece by piece as listed. -/
noncomputable def runA (c : Dev nD) (i : grid0.Coords) (arg1 : Memref sig .tc .vmem S10x256x301 .bf16) (harg1 : arg1.IsWhole) (arg2 : Memref sig .tc .vmem S416x4096 .f32) (harg2 : arg2.IsWhole) (arg3 : Memref sig .tc .vmem S301x1024 .bf16) (harg3 : arg3.IsWhole) (arg4 : Memref sig .tc .vmem S256x1024 .bf16) (harg4 : arg4.IsWhole) (arg5 : Memref sig .tc .vmem S301x1024 .bf16) (harg5 : arg5.IsWhole) (arg6 : Memref sig .tc .vmem S256x512 .f32) (harg6 : arg6.IsWhole) (arg7 : Memref sig .tc .vmem S416x4096 .bf16) (harg7 : arg7.IsWhole) (arg8 : Memref sig .tc .vmem S256x256 .bf16) (harg8 : arg8.IsWhole) (arg9 : Memref sig .tc .vmem S256x256 .f32) (harg9 : arg9.IsWhole) (hc1 : cond i) (hc2 : k0_cond2 i = 1#1) (hc3 : ¬k0_cond3 i = 1#1) (hc4 : ¬k0_cond4 i = 1#1)
    (x0 : Vec F S10x256x301 .bf16) (x1 : Vec F S416x4096 .f32) (x2 : Vec F S301x1024 .bf16) (x3 : Vec F S256x1024 .bf16) (x4 : Vec F S301x1024 .bf16) (x5 : Vec F S256x512 .f32) :
    Σ' (L6 : List (View.Piece (Elt F) S416x4096 .bf16)), Σ' (LS0 : List (View.Piece (Elt F) S256x256 .bf16)), { LS1 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.R0

end
-- ==== Proof.KIR0B.lean ====
module

public import proofs.«01_k».proof.Proof.KIR0A

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body run whole at a point strictly between: from the inputs at their contents it ends with the inputs as they
    were, the adjacency block and the two carried arrays written piece by piece as listed. -/
noncomputable def runB (c : Dev nD) (i : grid0.Coords) (arg1 : Memref sig .tc .vmem S10x256x301 .bf16) (harg1 : arg1.IsWhole) (arg2 : Memref sig .tc .vmem S416x4096 .f32) (harg2 : arg2.IsWhole) (arg3 : Memref sig .tc .vmem S301x1024 .bf16) (harg3 : arg3.IsWhole) (arg4 : Memref sig .tc .vmem S256x1024 .bf16) (harg4 : arg4.IsWhole) (arg5 : Memref sig .tc .vmem S301x1024 .bf16) (harg5 : arg5.IsWhole) (arg6 : Memref sig .tc .vmem S256x512 .f32) (harg6 : arg6.IsWhole) (arg7 : Memref sig .tc .vmem S416x4096 .bf16) (harg7 : arg7.IsWhole) (arg8 : Memref sig .tc .vmem S256x256 .bf16) (harg8 : arg8.IsWhole) (arg9 : Memref sig .tc .vmem S256x256 .f32) (harg9 : arg9.IsWhole) (hc1 : ¬cond i) (hc2 : k0_cond2 i = 1#1) (hc3 : ¬k0_cond3 i = 1#1) (hc4 : ¬k0_cond4 i = 1#1)
    (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) :
    Σ' (L6 : List (View.Piece (Elt F) S416x4096 .bf16)), Σ' (LS0 : List (View.Piece (Elt F) S256x256 .bf16)), { LS1 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5
    obtain rfl := harg8.eq_unread hfs0; obtain rfl := harg9.eq_unread hfs1
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.R0

end
-- ==== Proof.KIR0C.lean ====
module

public import proofs.«01_k».proof.Proof.KIR0B

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body run whole at the last point: from the inputs at their contents it ends with the inputs as they
    were, the adjacency block, the feature block and the two carried arrays written piece by piece as listed. -/
noncomputable def runC (c : Dev nD) (i : grid0.Coords) (arg1 : Memref sig .tc .vmem S10x256x301 .bf16) (harg1 : arg1.IsWhole) (arg2 : Memref sig .tc .vmem S416x4096 .f32) (harg2 : arg2.IsWhole) (arg3 : Memref sig .tc .vmem S301x1024 .bf16) (harg3 : arg3.IsWhole) (arg4 : Memref sig .tc .vmem S256x1024 .bf16) (harg4 : arg4.IsWhole) (arg5 : Memref sig .tc .vmem S301x1024 .bf16) (harg5 : arg5.IsWhole) (arg6 : Memref sig .tc .vmem S256x512 .f32) (harg6 : arg6.IsWhole) (arg7 : Memref sig .tc .vmem S416x4096 .bf16) (harg7 : arg7.IsWhole) (arg8 : Memref sig .tc .vmem S256x256 .bf16) (harg8 : arg8.IsWhole) (arg9 : Memref sig .tc .vmem S256x256 .f32) (harg9 : arg9.IsWhole) (hc1 : ¬cond i) (hc2 : ¬k0_cond2 i = 1#1) (hc3 : k0_cond3 i = 1#1) (hc4 : k0_cond4 i = 1#1)
    (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) :
    Σ' (L5 : List (View.Piece (Elt F) S256x512 .f32)), Σ' (L6 : List (View.Piece (Elt F) S416x4096 .bf16)), Σ' (LS0 : List (View.Piece (Elt F) S256x256 .bf16)), { LS1 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__lstm_body_eq_skeleton]; unfold cc0__lstm_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.KernelIdeal.R0

end
-- ==== Proof.KIR0.lean ====
module

public import proofs.«01_k».proof.Proof.KIR0C
public import Idealize.ShloMosaic.Lib.Pipeline.ValueKit

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S10x256x301 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S416x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S301x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S301x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S416x4096 .bf16 := win0_6.stage (cfg0.slots t 6)
abbrev hs6 (t : Fin cfg0.N) : (ms6 t).IsWhole := hstage0_6 ((cfg0.slots t 6).cast nbuf0_6)
abbrev scM0 : Memref sig .tc .vmem S256x256 .bf16 := Memref.whole cc0_scratch0
abbrev VS0 : View sig .tc .vmem S256x256 .bf16 := scM0.view
abbrev scM1 : Memref sig .tc .vmem S256x256 .f32 := Memref.whole cc0_scratch1
abbrev VS1 : View sig .tc .vmem S256x256 .f32 := scM1.view
/-- Staging buffers of the two output windows, through which their contents are stated. -/
abbrev VO5 : View sig .tc .vmem S256x512 .f32 := (Memref.whole cc0_stg5_0 : Memref sig .tc .vmem S256x512 .f32).view
abbrev VO6 : View sig .tc .vmem S416x4096 .bf16 := (Memref.whole cc0_stg6_0 : Memref sig .tc .vmem S416x4096 .bf16).view
/-- Fillers for what the runs do not read. -/
def z1 : Vec F S416x4096 .f32 := fun _ => Scalar.ofBits .f32 0#32
def z5 : Vec F S256x512 .f32 := fun _ => Scalar.ofBits .f32 0#32

/-- The first point's run at the pipeline's own buffers. -/
abbrev rA (c : Dev nD) (t : Fin cfg0.N) (h0 : t.val = 0) (x0 : Vec F S10x256x301 .bf16) (x1 : Vec F S416x4096 .f32) (x2 : Vec F S301x1024 .bf16) (x3 : Vec F S256x1024 .bf16) (x4 : Vec F S301x1024 .bf16) (x5 : Vec F S256x512 .f32) :=
  runA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcond t).mpr h0) ((hcond2 t).mpr (by omega)) (fun h => by have := (hcond3 t).mp h; omega) (fun h => by have := (hcond4 t).mp h; omega) x0 x1 x2 x3 x4 x5
/-- The pieces it writes to the two carried arrays, which the adjacency block and the feature buffer do not enter. -/
def lA0 (c : Dev nD) (t : Fin cfg0.N) (h0 : t.val = 0) (x0 : Vec F S10x256x301 .bf16) (x2 : Vec F S301x1024 .bf16) (x3 : Vec F S256x1024 .bf16) (x4 : Vec F S301x1024 .bf16) := (rA c t h0 x0 z1 x2 x3 x4 z5).2.1
def lA1 (c : Dev nD) (t : Fin cfg0.N) (h0 : t.val = 0) (x0 : Vec F S10x256x301 .bf16) (x2 : Vec F S301x1024 .bf16) (x3 : Vec F S256x1024 .bf16) (x4 : Vec F S301x1024 .bf16) := (rA c t h0 x0 z1 x2 x3 x4 z5).2.2.1
theorem lA0_eq (c : Dev nD) (t : Fin cfg0.N) (h0 : t.val = 0) (x0 : Vec F S10x256x301 .bf16) (x1 : Vec F S416x4096 .f32) (x2 : Vec F S301x1024 .bf16) (x3 : Vec F S256x1024 .bf16) (x4 : Vec F S301x1024 .bf16) (x5 : Vec F S256x512 .f32) : (rA c t h0 x0 x1 x2 x3 x4 x5).2.1 = lA0 c t h0 x0 x2 x3 x4 := rfl
theorem lA1_eq (c : Dev nD) (t : Fin cfg0.N) (h0 : t.val = 0) (x0 : Vec F S10x256x301 .bf16) (x1 : Vec F S416x4096 .f32) (x2 : Vec F S301x1024 .bf16) (x3 : Vec F S256x1024 .bf16) (x4 : Vec F S301x1024 .bf16) (x5 : Vec F S256x512 .f32) : (rA c t h0 x0 x1 x2 x3 x4 x5).2.2.1 = lA1 c t h0 x0 x2 x3 x4 := rfl
theorem scoverA0 (c : Dev nD) (t : Fin cfg0.N) (h0 : t.val = 0) (x0 : Vec F S10x256x301 .bf16) (x2 : Vec F S301x1024 .bf16) (x3 : Vec F S256x1024 .bf16) (x4 : Vec F S301x1024 .bf16) (y : S256x256.Idx) : ∃ pc ∈ lA0 c t h0 x0 x2 x3 x4, y ∈ pc.1.set :=
  View.cover_of_wholeMem _ (by unfold lA0; sl_whole_mem) y
theorem scoverA1 (c : Dev nD) (t : Fin cfg0.N) (h0 : t.val = 0) (x0 : Vec F S10x256x301 .bf16) (x2 : Vec F S301x1024 .bf16) (x3 : Vec F S256x1024 .bf16) (x4 : Vec F S301x1024 .bf16) (y : S256x256.Idx) : ∃ pc ∈ lA1 c t h0 x0 x2 x3 x4, y ∈ pc.1.set :=
  View.cover_of_wholeMem _ (by unfold lA1; sl_whole_mem) y
theorem coverA6 (c : Dev nD) (t : Fin cfg0.N) (h0 : t.val = 0) (x0 : Vec F S10x256x301 .bf16) (x1 : Vec F S416x4096 .f32) (x2 : Vec F S301x1024 .bf16) (x3 : Vec F S256x1024 .bf16) (x4 : Vec F S301x1024 .bf16) (x5 : Vec F S256x512 .f32) (y : S416x4096.Idx) : ∃ pc ∈ (rA c t h0 x0 x1 x2 x3 x4 x5).1, y ∈ pc.1.set :=
  View.cover_of_tiledL _ S416x4096.size (by sl_kernel_rfl) y
/-- What it leaves in the carried arrays. -/
def sA0 (c : Dev nD) (t : Fin cfg0.N) (h0 : t.val = 0) (x0 : Vec F S10x256x301 .bf16) (x2 : Vec F S301x1024 .bf16) (x3 : Vec F S256x1024 .bf16) (x4 : Vec F S301x1024 .bf16) : Vec F S256x256 .bf16 := VS0.read (Elt F) (VS0.writes (Elt F) VS0.junk (lA0 c t h0 x0 x2 x3 x4))
def sA1 (c : Dev nD) (t : Fin cfg0.N) (h0 : t.val = 0) (x0 : Vec F S10x256x301 .bf16) (x2 : Vec F S301x1024 .bf16) (x3 : Vec F S256x1024 .bf16) (x4 : Vec F S301x1024 .bf16) : Vec F S256x256 .f32 := VS1.read (Elt F) (VS1.writes (Elt F) VS1.junk (lA1 c t h0 x0 x2 x3 x4))
/-- And in the adjacency block: the block it read, masked. -/
theorem out6A (c : Dev nD) (t : Fin cfg0.N) (h0 : t.val = 0) (x0 : Vec F S10x256x301 .bf16) (x1 : Vec F S416x4096 .f32) (x2 : Vec F S301x1024 .bf16) (x3 : Vec F S256x1024 .bf16) (x4 : Vec F S301x1024 .bf16) (x5 : Vec F S256x512 .f32) :
    VO6.read (Elt F) (VO6.writes (Elt F) VO6.junk (rA c t h0 x0 x1 x2 x3 x4 x5).1) = k0_pay8 x1 := by
  unfold rA
  rw [View.read_writes_junk_eq_canon]; unfold runA; frame_out
/-- An inner point's run at the pipeline's own buffers. -/
abbrev rB (c : Dev nD) (t : Fin cfg0.N) (h0 : t.val ≠ 0) (h9 : t.val ≠ 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) :=
  runB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcond t).mp h)) ((hcond2 t).mpr h9) (fun h => h9 ((hcond3 t).mp h)) (fun h => h9 ((hcond4 t).mp h)) x0 x1 x2 x3 x4 xs0 xs1 x5
/-- The pieces it writes to the two carried arrays, which the adjacency block and the feature buffer do not enter. -/
def lB0 (c : Dev nD) (t : Fin cfg0.N) (h0 : t.val ≠ 0) (h9 : t.val ≠ 9) (x0 : Vec F S10x256x301 .bf16) (x2 : Vec F S301x1024 .bf16) (x3 : Vec F S256x1024 .bf16) (x4 : Vec F S301x1024 .bf16) (xs0 : Vec F S256x256 .bf16) (xs1 : Vec F S256x256 .f32) := (rB c t h0 h9 x0 z1 x2 x3 x4 xs0 xs1 z5).2.1
def lB1 (c : Dev nD) (t : Fin cfg0.N) (h0 : t.val ≠ 0) (h9 : t.val ≠ 9) (x0 : Vec F S10x256x301 .bf16) (x2 : Vec F S301x1024 .bf16) (x3 : Vec F S256x1024 .bf16) (x4 : Vec F S301x1024 .bf16) (xs0 : Vec F S256x256 .bf16) (xs1 : Vec F S256x256 .f32) := (rB c t h0 h9 x0 z1 x2 x3 x4 xs0 xs1 z5).2.2.1
theorem lB0_eq (c : Dev nD) (t : Fin cfg0.N) (h0 : t.val ≠ 0) (h9 : t.val ≠ 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) : (rB c t h0 h9 x0 x1 x2 x3 x4 xs0 xs1 x5).2.1 = lB0 c t h0 h9 x0 x2 x3 x4 xs0 xs1 := rfl
theorem lB1_eq (c : Dev nD) (t : Fin cfg0.N) (h0 : t.val ≠ 0) (h9 : t.val ≠ 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) : (rB c t h0 h9 x0 x1 x2 x3 x4 xs0 xs1 x5).2.2.1 = lB1 c t h0 h9 x0 x2 x3 x4 xs0 xs1 := rfl
theorem scoverB0 (c : Dev nD) (t : Fin cfg0.N) (h0 : t.val ≠ 0) (h9 : t.val ≠ 9) (x0 : Vec F S10x256x301 .bf16) (x2 : Vec F S301x1024 .bf16) (x3 : Vec F S256x1024 .bf16) (x4 : Vec F S301x1024 .bf16) (xs0 : Vec F S256x256 .bf16) (xs1 : Vec F S256x256 .f32) (y : S256x256.Idx) : ∃ pc ∈ lB0 c t h0 h9 x0 x2 x3 x4 xs0 xs1, y ∈ pc.1.set :=
  View.cover_of_wholeMem _ (by unfold lB0; sl_whole_mem) y
theorem scoverB1 (c : Dev nD) (t : Fin cfg0.N) (h0 : t.val ≠ 0) (h9 : t.val ≠ 9) (x0 : Vec F S10x256x301 .bf16) (x2 : Vec F S301x1024 .bf16) (x3 : Vec F S256x1024 .bf16) (x4 : Vec F S301x1024 .bf16) (xs0 : Vec F S256x256 .bf16) (xs1 : Vec F S256x256 .f32) (y : S256x256.Idx) : ∃ pc ∈ lB1 c t h0 h9 x0 x2 x3 x4 xs0 xs1, y ∈ pc.1.set :=
  View.cover_of_wholeMem _ (by unfold lB1; sl_whole_mem) y
theorem coverB6 (c : Dev nD) (t : Fin cfg0.N) (h0 : t.val ≠ 0) (h9 : t.val ≠ 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) (y : S416x4096.Idx) : ∃ pc ∈ (rB c t h0 h9 x0 x1 x2 x3 x4 xs0 xs1 x5).1, y ∈ pc.1.set :=
  View.cover_of_tiledL _ S416x4096.size (by sl_kernel_rfl) y
/-- What it leaves in the carried arrays. -/
def sB0 (c : Dev nD) (t : Fin cfg0.N) (h0 : t.val ≠ 0) (h9 : t.val ≠ 9) (x0 : Vec F S10x256x301 .bf16) (x2 : Vec F S301x1024 .bf16) (x3 : Vec F S256x1024 .bf16) (x4 : Vec F S301x1024 .bf16) (xs0 : Vec F S256x256 .bf16) (xs1 : Vec F S256x256 .f32) : Vec F S256x256 .bf16 := VS0.read (Elt F) (VS0.writes (Elt F) VS0.junk (lB0 c t h0 h9 x0 x2 x3 x4 xs0 xs1))
def sB1 (c : Dev nD) (t : Fin cfg0.N) (h0 : t.val ≠ 0) (h9 : t.val ≠ 9) (x0 : Vec F S10x256x301 .bf16) (x2 : Vec F S301x1024 .bf16) (x3 : Vec F S256x1024 .bf16) (x4 : Vec F S301x1024 .bf16) (xs0 : Vec F S256x256 .bf16) (xs1 : Vec F S256x256 .f32) : Vec F S256x256 .f32 := VS1.read (Elt F) (VS1.writes (Elt F) VS1.junk (lB1 c t h0 h9 x0 x2 x3 x4 xs0 xs1))
/-- And in the adjacency block: the block it read, masked. -/
theorem out6B (c : Dev nD) (t : Fin cfg0.N) (h0 : t.val ≠ 0) (h9 : t.val ≠ 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) :
    VO6.read (Elt F) (VO6.writes (Elt F) VO6.junk (rB c t h0 h9 x0 x1 x2 x3 x4 xs0 xs1 x5).1) = k0_pay8 x1 := by
  unfold rB
  rw [View.read_writes_junk_eq_canon]; unfold runB; frame_out
/-- The last point's run at the pipeline's own buffers. -/
abbrev rC (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) :=
  runC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => by have := (hcond t).mp h; omega) (fun h => (hcond2 t).mp h h9) ((hcond3 t).mpr h9) ((hcond4 t).mpr h9) x0 x1 x2 x3 x4 xs0 xs1
/-- The pieces it writes to the two carried arrays, which the adjacency block and the feature buffer do not enter. -/
def lC0 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) := (rC c t h9 x0 z1 x2 x3 x4 xs0 xs1).2.2.1
def lC1 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) := (rC c t h9 x0 z1 x2 x3 x4 xs0 xs1).2.2.2.1
theorem lC0_eq (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) : (rC c t h9 x0 x1 x2 x3 x4 xs0 xs1).2.2.1 = lC0 c t h9 x0 x2 x3 x4 xs0 xs1 := rfl
theorem lC1_eq (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) : (rC c t h9 x0 x1 x2 x3 x4 xs0 xs1).2.2.2.1 = lC1 c t h9 x0 x2 x3 x4 xs0 xs1 := rfl
theorem scoverC0 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) (y : S256x256.Idx) : ∃ pc ∈ lC0 c t h9 x0 x2 x3 x4 xs0 xs1, y ∈ pc.1.set :=
  View.cover_of_wholeMem _ (by unfold lC0; sl_whole_mem) y
theorem scoverC1 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) (y : S256x256.Idx) : ∃ pc ∈ lC1 c t h9 x0 x2 x3 x4 xs0 xs1, y ∈ pc.1.set :=
  View.cover_of_wholeMem _ (by unfold lC1; sl_whole_mem) y
theorem coverC6 (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (y : S416x4096.Idx) : ∃ pc ∈ (rC c t h9 x0 x1 x2 x3 x4 xs0 xs1).2.1, y ∈ pc.1.set :=
  View.cover_of_tiledL _ S416x4096.size (by sl_kernel_rfl) y
/-- What it leaves in the carried arrays. -/
def sC0 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) : Vec F S256x256 .bf16 := VS0.read (Elt F) (VS0.writes (Elt F) VS0.junk (lC0 c t h9 x0 x2 x3 x4 xs0 xs1))
def sC1 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) : Vec F S256x256 .f32 := VS1.read (Elt F) (VS1.writes (Elt F) VS1.junk (lC1 c t h9 x0 x2 x3 x4 xs0 xs1))
/-- And in the adjacency block: the block it read, masked. -/
theorem out6C (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) :
    VO6.read (Elt F) (VO6.writes (Elt F) VO6.junk (rC c t h9 x0 x1 x2 x3 x4 xs0 xs1).2.1) = k0_pay9 (grid0.coords t) x1 := by
  unfold rC
  rw [View.read_writes_junk_eq_canon]; unfold runC; frame_out
/-- The feature block the last point writes. -/
def l5 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) := (rC c t h9 x0 z1 x2 x3 x4 xs0 xs1).1
theorem l5_eq (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) : (rC c t h9 x0 x1 x2 x3 x4 xs0 xs1).1 = l5 c t h9 x0 x2 x3 x4 xs0 xs1 := rfl
theorem cover5 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) (y : S256x512.Idx) : ∃ pc ∈ l5 c t h9 x0 x2 x3 x4 xs0 xs1, y ∈ pc.1.set :=
  View.cover_of_tiledL (rC c t h9 x0 z1 x2 x3 x4 xs0 xs1).1 ![256, 256] (by sl_kernel_rfl) y
def out5 (c : Dev nD) (t : Fin cfg0.N) (h9 : t.val = 9) (x0 : Vec F S10x256x301 .bf16) (x2 : Vec F S301x1024 .bf16) (x3 : Vec F S256x1024 .bf16) (x4 : Vec F S301x1024 .bf16) (xs0 : Vec F S256x256 .bf16) (xs1 : Vec F S256x256 .f32) : Vec F S256x512 .f32 := VO5.read (Elt F) (VO5.writes (Elt F) VO5.junk (l5 c t h9 x0 x2 x3 x4 xs0 xs1))

/-- The carried arrays after point `n`. -/
def st (c : Dev nD) : (n : ℕ) → n < cfg0.N → Vec F S256x256 .bf16 × Vec F S256x256 .f32
  | 0, h => (sA0 c ⟨0, h⟩ rfl (iblk V c 0 ⟨0, h⟩) (iblk V c 2 ⟨0, h⟩) (iblk V c 3 ⟨0, h⟩) (iblk V c 4 ⟨0, h⟩), sA1 c ⟨0, h⟩ rfl (iblk V c 0 ⟨0, h⟩) (iblk V c 2 ⟨0, h⟩) (iblk V c 3 ⟨0, h⟩) (iblk V c 4 ⟨0, h⟩))
  | n + 1, h =>
    if h9 : n + 1 = 9 then (sC0 c ⟨n + 1, h⟩ h9 (iblk V c 0 ⟨n + 1, h⟩) (iblk V c 2 ⟨n + 1, h⟩) (iblk V c 3 ⟨n + 1, h⟩) (iblk V c 4 ⟨n + 1, h⟩) (st c n (by omega)).1 (st c n (by omega)).2, sC1 c ⟨n + 1, h⟩ h9 (iblk V c 0 ⟨n + 1, h⟩) (iblk V c 2 ⟨n + 1, h⟩) (iblk V c 3 ⟨n + 1, h⟩) (iblk V c 4 ⟨n + 1, h⟩) (st c n (by omega)).1 (st c n (by omega)).2)
    else (sB0 c ⟨n + 1, h⟩ (Nat.succ_ne_zero n) h9 (iblk V c 0 ⟨n + 1, h⟩) (iblk V c 2 ⟨n + 1, h⟩) (iblk V c 3 ⟨n + 1, h⟩) (iblk V c 4 ⟨n + 1, h⟩) (st c n (by omega)).1 (st c n (by omega)).2, sB1 c ⟨n + 1, h⟩ (Nat.succ_ne_zero n) h9 (iblk V c 0 ⟨n + 1, h⟩) (iblk V c 2 ⟨n + 1, h⟩) (iblk V c 3 ⟨n + 1, h⟩) (iblk V c 4 ⟨n + 1, h⟩) (st c n (by omega)).1 (st c n (by omega)).2)
/-- The carried arrays before point `t`, a later one. -/
def sp (c : Dev nD) (t : Fin cfg0.N) (h0 : t.val ≠ 0) : Vec F S256x256 .bf16 × Vec F S256x256 .f32 := st V c (t.val - 1) (by have := t.isLt; omega)
theorem st_zero (c : Dev nD) (t : Fin cfg0.N) (h0 : t.val = 0) : st V c t.val t.isLt = (sA0 c t h0 (iblk V c 0 t) (iblk V c 2 t) (iblk V c 3 t) (iblk V c 4 t), sA1 c t h0 (iblk V c 0 t) (iblk V c 2 t) (iblk V c 3 t) (iblk V c 4 t)) := by
  obtain ⟨n, hn⟩ := t; cases (show n = 0 from h0); rfl
theorem st_inner (c : Dev nD) (t : Fin cfg0.N) (h0 : t.val ≠ 0) (h9 : t.val ≠ 9) :
    st V c t.val t.isLt = (sB0 c t h0 h9 (iblk V c 0 t) (iblk V c 2 t) (iblk V c 3 t) (iblk V c 4 t) (sp V c t h0).1 (sp V c t h0).2, sB1 c t h0 h9 (iblk V c 0 t) (iblk V c 2 t) (iblk V c 3 t) (iblk V c 4 t) (sp V c t h0).1 (sp V c t h0).2) := by
  obtain ⟨n, hn⟩ := t; cases n with
  | zero => exact absurd rfl h0
  | succ n => exact dif_neg h9
theorem st_last (c : Dev nD) (t : Fin cfg0.N) (h0 : t.val ≠ 0) (h9 : t.val = 9) :
    st V c t.val t.isLt = (sC0 c t h9 (iblk V c 0 t) (iblk V c 2 t) (iblk V c 3 t) (iblk V c 4 t) (sp V c t h0).1 (sp V c t h0).2, sC1 c t h9 (iblk V c 0 t) (iblk V c 2 t) (iblk V c 3 t) (iblk V c 4 t) (sp V c t h0).1 (sp V c t h0).2) := by
  obtain ⟨n, hn⟩ := t; cases n with
  | zero => exact absurd rfl h0
  | succ n => exact dif_pos h9

/-- The carried arrays owned at `s`, the other scoped buffers and the generator register at anything. -/
def carried (c : Dev nD) (s : Vec F S256x256 .bf16 × Vec F S256x256 .f32) : sProp 𝕄 :=
  iprop(iprop(iprop(owns (c : Thread nD τ) scM0 fullShare s.1 ∗ owns (c : Thread nD τ) scM1 fullShare s.2)
    ∗ Pipeline.scopedRestBut spec0 c [cc0_scratch0, cc0_scratch1]) ∗ (∃ r, prngReg c r))
/-- The region's invariant before position `t`. -/
def Phi (c : Dev nD) (t : Fin (cfg0.N + 1)) : sProp 𝕄 :=
  if h : t.val = 0 then Pipeline.ΦA spec0 c else carried c (st V c (t.val - 1) (by have := t.isLt; omega))
theorem scoped_split (c : Dev nD) : (Pipeline.scopedRest spec0 c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut spec0 c [cc0_scratch0, cc0_scratch1]) :=
  Pipeline.scopedRest_split_of_list spec0 c [cc0_scratch0, cc0_scratch1] (by decide) (by decide)
theorem PhiA_eq (c : Dev nD) :
    (Pipeline.ΦA spec0 c : sProp 𝕄)
      = iprop(iprop(iprop((∃ d, owns (c : Thread nD τ) scM0 fullShare d) ∗ (∃ d, owns (c : Thread nD τ) scM1 fullShare d))
        ∗ Pipeline.scopedRestBut spec0 c [cc0_scratch0, cc0_scratch1]) ∗ (∃ r, prngReg c r)) := by
  unfold Pipeline.ΦA; rw [scoped_split]; simp only [scM0, scM1, owns_whole]; try rfl

/-- The adjacency block, zero past the array's end. -/
def X1 (c : Dev nD) (t : Fin cfg0.N) : Vec F S416x4096 .f32 := win0_1.fill (grid0.coords t) z1 (iblk V c 1 t)
/-- The masked adjacency block. -/
def adj6 (c : Dev nD) (t : Fin cfg0.N) : Vec F S416x4096 .bf16 := if t.val = 9 then k0_pay9 (grid0.coords t) (X1 V c t) else k0_pay8 (X1 V c t)
/-- The feature block, written at the last point. -/
def feat5 (c : Dev nD) (t : Fin cfg0.N) : Vec F S256x512 .f32 :=
  if h9 : t.val = 9 then out5 c t h9 (iblk V c 0 t) (iblk V c 2 t) (iblk V c 3 t) (iblk V c 4 t) (sp V c t (by omega)).1 (sp V c t (by omega)).2 else z5

/-- The region's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => X1 V c t
    | ⟨2, _⟩ => iblk V c 2 t
    | ⟨3, _⟩ => iblk V c 3 t
    | ⟨4, _⟩ => iblk V c 4 t
    | ⟨5, _⟩ => feat5 V c t
    | ⟨6, _⟩ => adj6 V c t
  Φ t := Phi V c t
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = X1 V c t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = feat5 V c t := by dsimp only [dat]
theorem after6 (c : Dev nD) (t : Fin cfg0.N) : (dat V c).after 6 t = adj6 V c t := by dsimp only [dat]
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before1 (c : Dev nD) (t : Fin cfg0.N) (d) : (dat V c).before 1 t d = win0_1.fill (grid0.coords t) d (iblk V c 1 t) :=
  ((dat V c).before_fetched 1 t (fetch0_1 t) d).trans (by unfold Dat.fetched Dat.blockOf iblk; rw [A_eq]; try rfl)

/-- The rows and columns of the adjacency block inside the array. -/
theorem ext1 : ∀ t : Fin cfg0.N, (t.val ≠ 9 → win0_1.xsize (grid0.coords t) 0 = 416) ∧ (t.val = 9 → win0_1.xsize (grid0.coords t) 0 = 212) ∧ win0_1.xsize (grid0.coords t) 1 = 3956 :=
  (by decide +kernel : ∀ t : Fin grid0.N, (t.val ≠ 9 → win0_1.xsize (grid0.coords t) 0 = 416) ∧ (t.val = 9 → win0_1.xsize (grid0.coords t) 0 = 212) ∧ win0_1.xsize (grid0.coords t) 1 = 3956)

end Cert.KernelIdeal.R0

end
-- ==== Proof.KIR0S.lean ====
module

public import proofs.«01_k».proof.Proof.KIR0
public import Idealize.ShloMosaic.Lib.WordCmp

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A position past the array's width is masked out. -/
theorem bit_ge (n : ℕ) (h : 3956 ≤ n) (h' : n < 2147483648) : IntOp.cmpi .slt (BitVec.ofNat 32 n) 3956#32 = 0#1 := by
  have e : IntOp.cmpi .slt (BitVec.ofNat 32 n) (BitVec.ofNat 32 3956) = BitVec.ofBool (decide (n < 3956)) := by
    simp (disch := omega) only [hlo_ix]
  rw [show (3956#32 : BitVec 32) = BitVec.ofNat 32 3956 from rfl, e, decide_eq_false (by omega)]; rfl
/-- One inside is kept. -/
theorem bit_lt (n : ℕ) (h : n < 3956) : IntOp.cmpi .slt (BitVec.ofNat 32 n) 3956#32 = 1#1 := by
  have e : IntOp.cmpi .slt (BitVec.ofNat 32 n) (BitVec.ofNat 32 3956) = BitVec.ofBool (decide (n < 3956)) := by
    simp (disch := omega) only [hlo_ix]
  rw [show (3956#32 : BitVec 32) = BitVec.ofNat 32 3956 from rfl, e, decide_eq_true h]; rfl

/-- The column a lane of the block holds, as the mask's word. -/
theorem col_word (j : S416x4096.Idx) : iota .tc S416x4096 32 [1] iota_S416x4096_d1_w32 j = BitVec.ofNat 32 (j 1).val := by
  unfold iota; simp
theorem row_word (j : S416x4096.Idx) : iota .tc S416x4096 32 [0] iota_S416x4096_d0_w32 j = BitVec.ofNat 32 (j 0).val := by
  unfold iota; simp

/-- The masked block of every point but the last, lane by lane. -/
theorem pay8_at (v : Vec F S416x4096 .f32) (j : S416x4096.Idx) :
    k0_pay8 v j = FloatOps.truncf .bf16 bitsLt_bf16_f32 (if (j 1).val < 3956 then v j else Scalar.ofBits .f32 0x00000000#32) := by
  have h1 : (j 1).val < 4096 := (j 1).isLt
  show FloatOps.truncf .bf16 bitsLt_bf16_f32 (Scalar.select (IntOp.cmpi .slt (iota .tc S416x4096 32 [1] iota_S416x4096_d1_w32 j) 3956#32) (v j) (Scalar.ofBits .f32 0x00000000#32)) = _
  rw [col_word]
  by_cases h : (j 1).val < 3956
  · rw [bit_lt _ h, if_pos h]; rfl
  · rw [bit_ge _ (by omega) (by omega), if_neg h]; rfl
/-- And of the last, which masks the rows past the array's end too. -/
theorem pay9_at (i : grid0.Coords) (v : Vec F S416x4096 .f32) (j : S416x4096.Idx) (hi : (i 0).val < 10) :
    k0_pay9 i v j = FloatOps.truncf .bf16 bitsLt_bf16_f32 (if (j 1).val < 3956 ∧ (i 0).val * 416 + (j 0).val < 3956 then v j else Scalar.ofBits .f32 0x00000000#32) := by
  have h0 : (j 0).val < 416 := (j 0).isLt
  have h1 : (j 1).val < 4096 := (j 1).isLt
  show FloatOps.truncf .bf16 bitsLt_bf16_f32 (Scalar.select (IntOp.andi (IntOp.cmpi .slt (iota .tc S416x4096 32 [1] iota_S416x4096_d1_w32 j) 3956#32)
    (IntOp.cmpi .slt (IntOp.addi (iota .tc S416x4096 32 [0] iota_S416x4096_d0_w32 j) (IntOp.muli (BitVec.ofNat 32 (i 0).val) 416#32)) 3956#32)) (v j) (Scalar.ofBits .f32 0x00000000#32)) = _
  rw [col_word, row_word]
  have e : IntOp.addi (BitVec.ofNat 32 (j 0).val) (IntOp.muli (BitVec.ofNat 32 (i 0).val) 416#32) = BitVec.ofNat 32 ((i 0).val * 416 + (j 0).val) := by
    apply BitVec.eq_of_toNat_eq
    simp only [IntOp.addi, IntOp.muli, BitVec.toNat_add, BitVec.toNat_mul, BitVec.toNat_ofNat]
    omega
  rw [e]
  by_cases h : (j 1).val < 3956
  · by_cases h' : (i 0).val * 416 + (j 0).val < 3956
    · rw [bit_lt _ h, bit_lt _ h', if_pos ⟨h, h'⟩]; rfl
    · rw [bit_lt _ h, bit_ge _ (by omega) (by omega), if_neg (fun x => h' x.2)]; rfl
  · rw [bit_ge _ (by omega) (by omega), if_neg (fun x => h x.1)]
    by_cases h' : (i 0).val * 416 + (j 0).val < 3956
    · rw [bit_lt _ h']; rfl
    · rw [bit_ge _ (by omega) (by omega)]; rfl

/-- Where the transfer moved nothing, the position is past the array's end. -/
theorem fill_at (t : Fin cfg0.N) (d d' : Vec F S416x4096 .f32) (b : (win0_1.xblock (grid0.coords t)).Idx → Elt F .f32) (j : S416x4096.Idx)
    (h0 : (j 0).val < win0_1.xsize (grid0.coords t) 0) (h1 : (j 1).val < win0_1.xsize (grid0.coords t) 1) :
    win0_1.fill (grid0.coords t) d b j = win0_1.fill (grid0.coords t) d' b j := by
  have hm : win0_1.moved (grid0.coords t) j = true := (win0_1.moved_iff (grid0.coords t) j).mpr fun a => by
    match a with
    | ⟨0, _⟩ => exact h0
    | ⟨1, _⟩ => exact h1
  unfold Window.fill; rw [dif_pos hm, dif_pos hm]

theorem coord_lt : ∀ t : Fin cfg0.N, (grid0.coords t 0).val = t.val ∧ t.val < 10 :=
  (by decide +kernel : ∀ t : Fin grid0.N, (grid0.coords t 0).val = t.val ∧ t.val < 10)

/-- The masked block does not depend on what lies past the array's end. -/
theorem pay8_fill (t : Fin cfg0.N) (h9 : t.val ≠ 9) (d d' : Vec F S416x4096 .f32) (b : (win0_1.xblock (grid0.coords t)).Idx → Elt F .f32) :
    k0_pay8 (win0_1.fill (grid0.coords t) d b : Vec F S416x4096 .f32) = k0_pay8 (win0_1.fill (grid0.coords t) d' b : Vec F S416x4096 .f32) := by
  funext j
  obtain ⟨e0, -, e1⟩ := ext1 t
  have h0 : (j 0).val < 416 := (j 0).isLt
  rw [pay8_at, pay8_at]
  by_cases h : (j 1).val < 3956
  · rw [if_pos h, if_pos h, fill_at t d d' b j (by rw [e0 h9]; exact h0) (by rw [e1]; exact h)]
  · rw [if_neg h, if_neg h]
theorem pay9_fill (t : Fin cfg0.N) (h9 : t.val = 9) (d d' : Vec F S416x4096 .f32) (b : (win0_1.xblock (grid0.coords t)).Idx → Elt F .f32) :
    k0_pay9 (grid0.coords t) (win0_1.fill (grid0.coords t) d b : Vec F S416x4096 .f32) = k0_pay9 (grid0.coords t) (win0_1.fill (grid0.coords t) d' b : Vec F S416x4096 .f32) := by
  funext j
  obtain ⟨-, e0, e1⟩ := ext1 t
  obtain ⟨ec, ht⟩ := coord_lt t
  rw [pay9_at _ _ _ (by omega), pay9_at _ _ _ (by omega)]
  by_cases h : (j 1).val < 3956 ∧ (grid0.coords t 0).val * 416 + (j 0).val < 3956
  · rw [if_pos h, if_pos h, fill_at t d d' b j (by rw [e0 h9]; have := h.2; omega) (by rw [e1]; exact h.1)]
  · rw [if_neg h, if_neg h]

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))
/-- What it returns; the feature buffer `W5`, which only the last point writes, apart. -/
def bodyPost (c : Dev nD) (t : Fin cfg0.N) (W5 : sProp 𝕄) : sProp 𝕄 :=
  iprop((dat V c).Φ t.succ ∗ (dat V c).owesAt () t.succ
    ∗ owns (c : Thread nD τ) (ms0 t) fullShare ((dat V c).after 0 t)
    ∗ (∃ d, owns (c : Thread nD τ) (ms1 t) fullShare (win0_1.fill (grid0.coords t) d (win0_1.cut (grid0.coords t) ((dat V c).after 1 t))))
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ W5
    ∗ (∃ d, owns (c : Thread nD τ) (ms6 t) fullShare (win0_6.fill (grid0.coords t) d (win0_6.cut (grid0.coords t) ((dat V c).after 6 t)))))

theorem cut_X1 (c : Dev nD) (t : Fin cfg0.N) : win0_1.cut (grid0.coords t) (X1 V c t) = iblk V c 1 t := win0_1.cut_fill _ _ _
theorem fill_adj (c : Dev nD) (t : Fin cfg0.N) : win0_6.fill (grid0.coords t) (adj6 V c t) (win0_6.cut (grid0.coords t) (adj6 V c t)) = adj6 V c t := win0_6.fill_cut _ _
theorem Phi_succ (c : Dev nD) (t : Fin cfg0.N) : (dat V c).Φ t.succ = carried c (st V c t.val t.isLt) :=
  (dif_neg (Nat.succ_ne_zero t.val) : Phi V c t.succ = _)
theorem Phi_first (c : Dev nD) (t : Fin cfg0.N) (h0 : t.val = 0) : (dat V c).Φ t.castSucc = Pipeline.ΦA spec0 c :=
  (dif_pos h0 : Phi V c t.castSucc = _)
theorem Phi_later (c : Dev nD) (t : Fin cfg0.N) (h0 : t.val ≠ 0) : (dat V c).Φ t.castSucc = carried c (sp V c t h0) :=
  (dif_neg h0 : Phi V c t.castSucc = _)

end Cert.KernelIdeal.R0

end
-- ==== Proof.KIR0SA.lean ====
module

public import proofs.«01_k».proof.Proof.KIR0S

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 6400000 in
/-- The body at the first point: what it leaves, contents stated. -/
theorem specA (c : Dev nD) (t : Fin cfg0.N) (h0 : t.val = 0) (x0 : Vec F S10x256x301 .bf16) (x1 : Vec F S416x4096 .f32) (x2 : Vec F S301x1024 .bf16) (x3 : Vec F S256x1024 .bf16) (x4 : Vec F S301x1024 .bf16) (x5 : Vec F S256x512 .f32) (K : PUnit → sProp 𝕄) :
    iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ (∃ d, owns (c : Thread nD τ) (ms6 t) fullShare d) ∗ (∃ d, owns (c : Thread nD τ) scM0 fullShare d) ∗ (∃ d, owns (c : Thread nD τ) scM1 fullShare d)
      ∗ (iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ owns (c : Thread nD τ) (ms6 t) fullShare (k0_pay8 x1) ∗ owns (c : Thread nD τ) scM0 fullShare (sA0 c t h0 x0 x2 x3 x4) ∗ owns (c : Thread nD τ) scM1 fullShare (sA1 c t h0 x0 x2 x3 x4)) -∗ K ⟨⟩))
      ⊢ wp frame (wpE (defs₀ (F := F)) Variants.none c none) Set.univ (bodyAt0 t) K := by
  have key := (rA c t h0 x0 x1 x2 x3 x4 x5).2.2.2 Set.univ K
  have e0 := lA0_eq c t h0 x0 x1 x2 x3 x4 x5
  have e1 := lA1_eq c t h0 x0 x1 x2 x3 x4 x5
  have e6 := out6A c t h0 x0 x1 x2 x3 x4 x5
  have v6 := coverA6 c t h0 x0 x1 x2 x3 x4 x5

  unfold sA0 sA1
  rw [← e0, ← e1, ← e6]
  have v0 := scoverA0 c t h0 x0 x2 x3 x4
  have v1 := scoverA1 c t h0 x0 x2 x3 x4

  rw [← e0] at v0
  rw [← e1] at v1

  revert key e0 e1 e6 v6 v0 v1
  generalize rA c t h0 x0 x1 x2 x3 x4 x5 = R
  intro key _ _ _ v6 v0 v1
  refine BIBase.Entails.trans ?_ key
  iintro ⟨H0, H1, H2, H3, H4, H5, H6, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]
  · iexact H5
  isplitl [H6]
  · unfold owns; iexists _; isplitr
    swap; · iexact H6
    ipureintro; exact View.read_writes_of_cover _ _ _ _ _ v6
  isplitl [HS0]
  · unfold owns; iexists _; isplitr
    swap; · iexact HS0
    ipureintro; exact View.read_writes_of_cover _ _ _ _ _ v0
  unfold owns; iexists _; isplitr
  swap; · iexact HS1
  ipureintro; exact View.read_writes_of_cover _ _ _ _ _ v1

set_option maxHeartbeats 6400000 in
/-- The same from the pipeline's buffers. -/
theorem soundA (c : Dev nD) (t : Fin cfg0.N) (h0 : t.val = 0) :
    bodyPre V c t ⊢ wp frame (wpE (defs₀ (F := F)) Variants.none c none) Set.univ (bodyAt0 t)
      (fun _ => bodyPost V c t iprop(∃ d, owns (c : Thread nD τ) (ms5 t) fullShare ((dat V c).before 5 t d))) := by
  unfold bodyPre bodyPost
  simp only [before0, before1, before2, before3, before4]
  rw [show (dat V c).owesAt () t.succ = (dat V c).owesAt () t.castSucc from rfl,
    after0, after1, after2, after3, after4, after6, cut_X1, Phi_succ, Phi_first V c t h0, PhiA_eq, st_zero V c t h0]

  unfold carried
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (specA c t h0 (iblk V c 0 t) (win0_1.fill (grid0.coords t) d1 (iblk V c 1 t)) (iblk V c 2 t) (iblk V c 3 t) (iblk V c 4 t) ((dat V c).before 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0 HS1 Hr]
    · isplitl [HS0 HS1]
      · isplitl [HS0]; · iexact HS0
        iexact HS1
      iexact Hr
    iexact Hg
  isplitl [Ho]; · iexact Ho
  isplitl [H0]; · iexact H0
  isplitl [H1]; · iexists d1; iexact H1
  isplitl [H2]; · iexact H2
  isplitl [H3]; · iexact H3
  isplitl [H4]; · iexact H4
  isplitl [H5]; · iexists d5; iexact H5
  iexists (adj6 V c t)
  rw [fill_adj, show adj6 V c t = k0_pay8 (X1 V c t) from if_neg (by omega)]
  unfold X1
  rw [pay8_fill t (by omega) d1 z1 (iblk V c 1 t)]
  iexact H6

end Cert.KernelIdeal.R0

end
-- ==== Proof.KIR0SB.lean ====
module

public import proofs.«01_k».proof.Proof.KIR0S

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 6400000 in
/-- The body at an inner point: what it leaves, contents stated. -/
theorem specB (c : Dev nD) (t : Fin cfg0.N) (h0 : t.val ≠ 0) (h9 : t.val ≠ 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (x5 : Vec F S256x512 .f32) (K : PUnit → sProp 𝕄) :
    iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ (∃ d, owns (c : Thread nD τ) (ms6 t) fullShare d) ∗ owns (c : Thread nD τ) scM0 fullShare xs0 ∗ owns (c : Thread nD τ) scM1 fullShare xs1
      ∗ (iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ owns (c : Thread nD τ) (ms6 t) fullShare (k0_pay8 x1) ∗ owns (c : Thread nD τ) scM0 fullShare (sB0 c t h0 h9 x0 x2 x3 x4 xs0 xs1) ∗ owns (c : Thread nD τ) scM1 fullShare (sB1 c t h0 h9 x0 x2 x3 x4 xs0 xs1)) -∗ K ⟨⟩))
      ⊢ wp frame (wpE (defs₀ (F := F)) Variants.none c none) Set.univ (bodyAt0 t) K := by
  have key := (rB c t h0 h9 x0 x1 x2 x3 x4 xs0 xs1 x5).2.2.2 Set.univ K
  have e0 := lB0_eq c t h0 h9 x0 x1 x2 x3 x4 xs0 xs1 x5
  have e1 := lB1_eq c t h0 h9 x0 x1 x2 x3 x4 xs0 xs1 x5
  have e6 := out6B c t h0 h9 x0 x1 x2 x3 x4 xs0 xs1 x5
  have v6 := coverB6 c t h0 h9 x0 x1 x2 x3 x4 xs0 xs1 x5

  unfold sB0 sB1
  rw [← e0, ← e1, ← e6]
  have v0 := scoverB0 c t h0 h9 x0 x2 x3 x4 xs0 xs1
  have v1 := scoverB1 c t h0 h9 x0 x2 x3 x4 xs0 xs1

  rw [← e0] at v0
  rw [← e1] at v1

  revert key e0 e1 e6 v6 v0 v1
  generalize rB c t h0 h9 x0 x1 x2 x3 x4 xs0 xs1 x5 = R
  intro key _ _ _ v6 v0 v1
  refine BIBase.Entails.trans ?_ key
  iintro ⟨H0, H1, H2, H3, H4, H5, H6, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]
  · iexact H5
  isplitl [H6]
  · unfold owns; iexists _; isplitr
    swap; · iexact H6
    ipureintro; exact View.read_writes_of_cover _ _ _ _ _ v6
  isplitl [HS0]
  · unfold owns; iexists _; isplitr
    swap; · iexact HS0
    ipureintro; exact View.read_writes_of_cover _ _ _ _ _ v0
  unfold owns; iexists _; isplitr
  swap; · iexact HS1
  ipureintro; exact View.read_writes_of_cover _ _ _ _ _ v1

set_option maxHeartbeats 6400000 in
/-- The same from the pipeline's buffers. -/
theorem soundB (c : Dev nD) (t : Fin cfg0.N) (h0 : t.val ≠ 0) (h9 : t.val ≠ 9) :
    bodyPre V c t ⊢ wp frame (wpE (defs₀ (F := F)) Variants.none c none) Set.univ (bodyAt0 t)
      (fun _ => bodyPost V c t iprop(∃ d, owns (c : Thread nD τ) (ms5 t) fullShare ((dat V c).before 5 t d))) := by
  unfold bodyPre bodyPost
  simp only [before0, before1, before2, before3, before4]
  rw [show (dat V c).owesAt () t.succ = (dat V c).owesAt () t.castSucc from rfl,
    after0, after1, after2, after3, after4, after6, cut_X1, Phi_succ, Phi_later V c t h0, st_inner V c t h0 h9]

  unfold carried
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (specB c t h0 h9 (iblk V c 0 t) (win0_1.fill (grid0.coords t) d1 (iblk V c 1 t)) (iblk V c 2 t) (iblk V c 3 t) (iblk V c 4 t) (sp V c t h0).1 (sp V c t h0).2 ((dat V c).before 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0 HS1 Hr]
    · isplitl [HS0 HS1]
      · isplitl [HS0]; · iexact HS0
        iexact HS1
      iexact Hr
    iexact Hg
  isplitl [Ho]; · iexact Ho
  isplitl [H0]; · iexact H0
  isplitl [H1]; · iexists d1; iexact H1
  isplitl [H2]; · iexact H2
  isplitl [H3]; · iexact H3
  isplitl [H4]; · iexact H4
  isplitl [H5]; · iexists d5; iexact H5
  iexists (adj6 V c t)
  rw [fill_adj, show adj6 V c t = k0_pay8 (X1 V c t) from if_neg h9]
  unfold X1
  rw [pay8_fill t (by omega) d1 z1 (iblk V c 1 t)]
  iexact H6

end Cert.KernelIdeal.R0

end
-- ==== Proof.KIR0SC.lean ====
module

public import proofs.«01_k».proof.Proof.KIR0S

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 6400000 in
/-- The body at the last point: what it leaves, contents stated. -/
theorem specC (c : Dev nD) (t : Fin cfg0.N) (h9 : t.val = 9) (x0 : Vec F S10x256x301 .bf16) (x1 : Vec F S416x4096 .f32) (x2 : Vec F S301x1024 .bf16) (x3 : Vec F S256x1024 .bf16) (x4 : Vec F S301x1024 .bf16) (xs0 : Vec F S256x256 .bf16) (xs1 : Vec F S256x256 .f32) (K : PUnit → sProp 𝕄) :
    iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ (∃ d, owns (c : Thread nD τ) (ms5 t) fullShare d) ∗ (∃ d, owns (c : Thread nD τ) (ms6 t) fullShare d) ∗ owns (c : Thread nD τ) scM0 fullShare xs0 ∗ owns (c : Thread nD τ) scM1 fullShare xs1
      ∗ (iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare (out5 c t h9 x0 x2 x3 x4 xs0 xs1) ∗ owns (c : Thread nD τ) (ms6 t) fullShare (k0_pay9 (grid0.coords t) x1) ∗ owns (c : Thread nD τ) scM0 fullShare (sC0 c t h9 x0 x2 x3 x4 xs0 xs1) ∗ owns (c : Thread nD τ) scM1 fullShare (sC1 c t h9 x0 x2 x3 x4 xs0 xs1)) -∗ K ⟨⟩))
      ⊢ wp frame (wpE (defs₀ (F := F)) Variants.none c none) Set.univ (bodyAt0 t) K := by
  have key := (rC c t h9 x0 x1 x2 x3 x4 xs0 xs1).2.2.2.2 Set.univ K
  have e0 := lC0_eq c t h9 x0 x1 x2 x3 x4 xs0 xs1
  have e1 := lC1_eq c t h9 x0 x1 x2 x3 x4 xs0 xs1
  have e6 := out6C c t h9 x0 x1 x2 x3 x4 xs0 xs1
  have v6 := coverC6 c t h9 x0 x1 x2 x3 x4 xs0 xs1
  have e5 := l5_eq c t h9 x0 x1 x2 x3 x4 xs0 xs1
  unfold sC0 sC1 out5
  rw [← e0, ← e1, ← e5, ← e6]
  have v0 := scoverC0 c t h9 x0 x2 x3 x4 xs0 xs1
  have v1 := scoverC1 c t h9 x0 x2 x3 x4 xs0 xs1
  have v5 := cover5 c t h9 x0 x2 x3 x4 xs0 xs1
  rw [← e0] at v0
  rw [← e1] at v1
  rw [← e5] at v5
  revert key e0 e1 e6 v6 v0 v1 e5 v5
  generalize rC c t h9 x0 x1 x2 x3 x4 xs0 xs1 = R
  intro key _ _ _ v6 _ v0 v1 v5
  refine BIBase.Entails.trans ?_ key
  iintro ⟨H0, H1, H2, H3, H4, H5, H6, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, ⟨%e5, H5⟩, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ v5
  isplitl [H6]
  · unfold owns; iexists _; isplitr
    swap; · iexact H6
    ipureintro; exact View.read_writes_of_cover _ _ _ _ _ v6
  isplitl [HS0]
  · unfold owns; iexists _; isplitr
    swap; · iexact HS0
    ipureintro; exact View.read_writes_of_cover _ _ _ _ _ v0
  unfold owns; iexists _; isplitr
  swap; · iexact HS1
  ipureintro; exact View.read_writes_of_cover _ _ _ _ _ v1

set_option maxHeartbeats 6400000 in
/-- The same from the pipeline's buffers. -/
theorem soundC (c : Dev nD) (t : Fin cfg0.N) (h0 : t.val ≠ 0) (h9 : t.val = 9) :
    bodyPre V c t ⊢ wp frame (wpE (defs₀ (F := F)) Variants.none c none) Set.univ (bodyAt0 t)
      (fun _ => bodyPost V c t (owns (c : Thread nD τ) (ms5 t) fullShare ((dat V c).after 5 t))) := by
  unfold bodyPre bodyPost
  simp only [before0, before1, before2, before3, before4]
  rw [show (dat V c).owesAt () t.succ = (dat V c).owesAt () t.castSucc from rfl,
    after0, after1, after2, after3, after4, after6, cut_X1, Phi_succ, Phi_later V c t h0, st_last V c t h0 h9]
  rw [after5, show feat5 V c t = out5 c t h9 (iblk V c 0 t) (iblk V c 2 t) (iblk V c 3 t) (iblk V c 4 t) (sp V c t h0).1 (sp V c t h0).2 from dif_pos h9]
  unfold carried
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (specC c t h9 (iblk V c 0 t) (win0_1.fill (grid0.coords t) d1 (iblk V c 1 t)) (iblk V c 2 t) (iblk V c 3 t) (iblk V c 4 t) (sp V c t h0).1 (sp V c t h0).2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0 HS1 Hr]
    · isplitl [HS0 HS1]
      · isplitl [HS0]; · iexact HS0
        iexact HS1
      iexact Hr
    iexact Hg
  isplitl [Ho]; · iexact Ho
  isplitl [H0]; · iexact H0
  isplitl [H1]; · iexists d1; iexact H1
  isplitl [H2]; · iexact H2
  isplitl [H3]; · iexact H3
  isplitl [H4]; · iexact H4
  isplitl [H5]; · iexact H5
  iexists (adj6 V c t)
  rw [fill_adj, show adj6 V c t = k0_pay9 (grid0.coords t) (X1 V c t) from if_pos h9]
  unfold X1
  rw [pay9_fill t h9 d1 z1 (iblk V c 1 t)]
  iexact H6

end Cert.KernelIdeal.R0

end
-- ==== Proof.KIR0T.lean ====
module

public import proofs.«01_k».proof.Proof.KIR0SA
public import proofs.«01_k».proof.Proof.KIR0SB
public import proofs.«01_k».proof.Proof.KIR0SC

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem defs₀_row (t : Fin cfg0.N) :
    defs₀ (F := F) .tc cfg0.body (cfg0.bodyArgs t (cfg0.slots t)) = bodyAt0 t := by
  unfold defs₀; rw [Defs.onTc_tc]

/-- Where the feature buffer is idle. -/
theorem idle5 (t : Fin cfg0.N) : cfg0.idle 5 (grid0.coords t) = !(k0_cond4 (grid0.coords t) == 1#1) := rfl

/-- The library's body obligation, at every point. -/
theorem body_obligation (c : Dev nD) : Pipeline.BodyObligationLoose (dat (F := F) V c) (defs₀ (F := F)) Variants.none () Set.univ := fun t => by
  rw [bigSep_W0, bigSep_W0, defs₀_row]
  by_cases h9 : t.val = 9
  · have h0 : t.val ≠ 0 := by omega
    have hi : idle0 5 (grid0.coords t) = false := by
      show (!(k0_cond4 (grid0.coords t) == 1#1)) = false
      rw [(hcond4 t).mpr h9]; rfl
    have hi6 : idle0 6 (grid0.coords t) = false := by
      show (!(k0_cond2 (grid0.coords t) == 1#1) && !(k0_cond3 (grid0.coords t) == 1#1)) = false
      rw [(hcond3 t).mpr h9]; simp
    simp only [hi, hi6]
    exact soundC V c t h0 h9
  · have hi : idle0 5 (grid0.coords t) = true := by
      show (!(k0_cond4 (grid0.coords t) == 1#1)) = true
      have : k0_cond4 (grid0.coords t) ≠ 1#1 := fun h => h9 ((hcond4 t).mp h)
      simp [this]
    have hi6 : idle0 6 (grid0.coords t) = false := by
      show (!(k0_cond2 (grid0.coords t) == 1#1) && !(k0_cond3 (grid0.coords t) == 1#1)) = false
      rw [(hcond2 t).mpr h9]; rfl
    have hf : (win0 5).flush t = false := by
      have := (flush0_5 t); have h10 := (coord_lt t).2
      by_contra hh
      exact h9 (by have := this.mp (by simpa using hh); omega)
    simp only [hi, hi6, hf]
    by_cases h0 : t.val = 0
    · exact soundA V c t h0
    · exact soundB V c t h0 h9

/-- The invariant before the first point. -/
theorem hin (c : Dev nD) : iprop(Pipeline.scopedRest spec0 c ∗ (∃ r, prngReg c r)) ⊢ (dat V c).Φ 0 := .rfl

/-- After the last point the carried contents are forgotten. -/
theorem hout (c : Dev nD) : (dat V c).Φ (Fin.last cfg0.N) ⊢ iprop(Pipeline.scopedRest spec0 c ∗ (∃ r, prngReg c r)) := by
  rw [show iprop(Pipeline.scopedRest spec0 c ∗ (∃ r, prngReg c r)) = (Pipeline.ΦA spec0 c : sProp 𝕄) from rfl, PhiA_eq]
  rw [show (dat V c).Φ (Fin.last cfg0.N) = carried c (st V c ((Fin.last cfg0.N).val - 1) _) from
    (dif_neg (by rw [Fin.val_last]; have : cfg0.N = 10 := N_0; omega) : Phi V c (Fin.last cfg0.N) = _)]
  unfold carried
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.R0

end
-- ==== Proof.KIR1A.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's one branch, from the grid coordinates. -/
abbrev cond (i : grid1.Coords) : Prop := (Scalar.cmpi .ne (Scalar.extui (Scalar.cmpi .eq (BitVec.ofNat 32 (i 0).val) 0#32)) 0#32) = 1#1
/-- It holds at the first point only. -/
theorem hcond : ∀ t : Fin cfg1.N, cond (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    have h : cond (grid1.coords t) ↔ t.val % 8 = 0 := by
      simp only [cond, e0]
      word_cmp
    rw [h, Nat.mod_eq_of_lt ht]
   : ∀ t : Fin grid1.N, cond (grid1.coords t) ↔ t.val = 0)

set_option maxHeartbeats 1200000 in
/-- The body run whole in the first point's case: from the inputs at their contents it ends with the inputs as they were, the
    output block and the three scratch arrays written, piece by piece as listed. -/
noncomputable def runA (c : Dev nD) (i : grid1.Coords) (arg1 : Memref sig .tc .vmem S4096x300 .bf16) (harg1 : arg1.IsWhole) (arg2 : Memref sig .tc .vmem S512x4096 .bf16) (harg2 : arg2.IsWhole) (arg3 : Memref sig .tc .vmem S300x1152 .bf16) (harg3 : arg3.IsWhole) (arg4 : Memref sig .tc .vmem S128x300 .bf16) (harg4 : arg4.IsWhole) (arg5 : Memref sig .tc .vmem S512x512 .bf16) (harg5 : arg5.IsWhole) (arg6 : Memref sig .tc .vmem S4096x1280 .bf16) (harg6 : arg6.IsWhole) (arg7 : Memref sig .tc .vmem S4096x128 .f32) (harg7 : arg7.IsWhole) (arg8 : Memref sig .tc .vmem S128x4096 .f32) (harg8 : arg8.IsWhole) (hc : cond i)
    (x0 : Vec F S4096x300 .bf16) (x1 : Vec F S512x4096 .bf16) (x2 : Vec F S300x1152 .bf16) (x3 : Vec F S128x300 .bf16) :
    Σ' (L : List (View.Piece (Elt F) S512x512 .bf16)), Σ' (LS0 : List (View.Piece (Elt F) S4096x1280 .bf16)), Σ' (LS1 : List (View.Piece (Elt F) S4096x128 .f32)), { LS2 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_body i arg1 harg1 arg2 harg2 arg3 harg3 arg4 harg4 arg5 harg5 arg6 harg6 arg7 harg7 arg8 harg8) K } := by
  refine ⟨?_, ?_, ?_, ?_, fun E K => ?run⟩
  case run =>
    simp only [cc1_body_eq_skeleton]; unfold cc1_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d5, %f5, -, HO⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]; · iexists _; iexact HO
    isplitl [HS0]; · iexists _; iexact HS0
    isplitl [HS1]; · iexists _; iexact HS1
    iexists _; iexact HS2

end Cert.KernelIdeal.R1

end
-- ==== Proof.KIR1B.lean ====
module

public import proofs.«01_k».proof.Proof.KIR1A

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1200000 in
/-- The body run whole in the later points' case: from the inputs at their contents it ends with the inputs as they were, the
    output block written and the three scratch arrays as they were, piece by piece as listed. -/
noncomputable def runB (c : Dev nD) (i : grid1.Coords) (arg1 : Memref sig .tc .vmem S4096x300 .bf16) (harg1 : arg1.IsWhole) (arg2 : Memref sig .tc .vmem S512x4096 .bf16) (harg2 : arg2.IsWhole) (arg3 : Memref sig .tc .vmem S300x1152 .bf16) (harg3 : arg3.IsWhole) (arg4 : Memref sig .tc .vmem S128x300 .bf16) (harg4 : arg4.IsWhole) (arg5 : Memref sig .tc .vmem S512x512 .bf16) (harg5 : arg5.IsWhole) (arg6 : Memref sig .tc .vmem S4096x1280 .bf16) (harg6 : arg6.IsWhole) (arg7 : Memref sig .tc .vmem S4096x128 .f32) (harg7 : arg7.IsWhole) (arg8 : Memref sig .tc .vmem S128x4096 .f32) (harg8 : arg8.IsWhole) (hc : ¬cond i)
    (x0 : Vec F S4096x300 .bf16) (x1 : Vec F S512x4096 .bf16) (x2 : Vec F S300x1152 .bf16) (x3 : Vec F S128x300 .bf16) (xs0 : Vec F S4096x1280 .bf16) (xs1 : Vec F S4096x128 .f32) (xs2 : Vec F S128x4096 .f32) :
    { L : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L) ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc1_body i arg1 harg1 arg2 harg2 arg3 harg3 arg4 harg4 arg5 harg5 arg6 harg6 arg7 harg7 arg8 harg8) K } := by
  refine ⟨?_, fun E K => ?run⟩
  case run =>
    simp only [cc1_body_eq_skeleton]; unfold cc1_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d5, %f5, -, HO⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1; obtain rfl := harg8.eq_unread hfs2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]; · iexists _; iexact HO
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.R1

end
-- ==== Proof.KIR1.lean ====
module

public import proofs.«01_k».proof.Proof.KIR1B

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One staging buffer of the output window, through which its contents are stated. -/
abbrev VO : View sig .tc .vmem S512x512 .bf16 := (Memref.whole cc1_stg4_0 : Memref sig .tc .vmem S512x512 .bf16).view
abbrev ms0 (t : Fin cfg1.N) : Memref sig .tc .vmem S4096x300 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x4096 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S300x1152 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x300 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x512 .bf16 := win1_4.stage (cfg1.slots t 4)
abbrev hs4 (t : Fin cfg1.N) : (ms4 t).IsWhole := hstage1_4 ((cfg1.slots t 4).cast nbuf1_4)
abbrev scM0 : Memref sig .tc .vmem S4096x1280 .bf16 := Memref.whole cc1_scratch0
abbrev VS0 : View sig .tc .vmem S4096x1280 .bf16 := scM0.view
abbrev scM1 : Memref sig .tc .vmem S4096x128 .f32 := Memref.whole cc1_scratch1
abbrev VS1 : View sig .tc .vmem S4096x128 .f32 := scM1.view
abbrev scM2 : Memref sig .tc .vmem S128x4096 .f32 := Memref.whole cc1_scratch2
abbrev VS2 : View sig .tc .vmem S128x4096 .f32 := scM2.view

/-- The first point's run at the pipeline's own buffers. -/
abbrev rA (c : Dev nD) (t : Fin cfg1.N) (h : cond (grid1.coords t)) (x0 : Vec F S4096x300 .bf16) (x1 : Vec F S512x4096 .bf16) (x2 : Vec F S300x1152 .bf16) (x3 : Vec F S128x300 .bf16) :=
  runA c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) h x0 x1 x2 x3
/-- A later point's run at the pipeline's own buffers. -/
abbrev rB (c : Dev nD) (t : Fin cfg1.N) (h : ¬cond (grid1.coords t)) (x0 : Vec F S4096x300 .bf16) (x1 : Vec F S512x4096 .bf16) (x2 : Vec F S300x1152 .bf16) (x3 : Vec F S128x300 .bf16) (xs0 : Vec F S4096x1280 .bf16) (xs1 : Vec F S4096x128 .f32) (xs2 : Vec F S128x4096 .f32) :=
  runB c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) h x0 x1 x2 x3 xs0 xs1 xs2

theorem coverA (c : Dev nD) (t : Fin cfg1.N) (h : cond (grid1.coords t)) (x0 : Vec F S4096x300 .bf16) (x1 : Vec F S512x4096 .bf16) (x2 : Vec F S300x1152 .bf16) (x3 : Vec F S128x300 .bf16) (y : S512x512.Idx) :
    ∃ pc ∈ (rA c t h x0 x1 x2 x3).1, y ∈ pc.1.set :=
  View.cover_of_tiledL (rA c t h x0 x1 x2 x3).1 S512x512.size (by sl_kernel_rfl) y
theorem coverB (c : Dev nD) (t : Fin cfg1.N) (h : ¬cond (grid1.coords t)) (x0 : Vec F S4096x300 .bf16) (x1 : Vec F S512x4096 .bf16) (x2 : Vec F S300x1152 .bf16) (x3 : Vec F S128x300 .bf16) (xs0 : Vec F S4096x1280 .bf16) (xs1 : Vec F S4096x128 .f32) (xs2 : Vec F S128x4096 .f32) (y : S512x512.Idx) :
    ∃ pc ∈ (rB c t h x0 x1 x2 x3 xs0 xs1 xs2).1, y ∈ pc.1.set :=
  View.cover_of_tiledL (rB c t h x0 x1 x2 x3 xs0 xs1 xs2).1 S512x512.size (by sl_kernel_rfl) y
theorem scover0 (c : Dev nD) (t : Fin cfg1.N) (h : cond (grid1.coords t)) (x0 : Vec F S4096x300 .bf16) (x1 : Vec F S512x4096 .bf16) (x2 : Vec F S300x1152 .bf16) (x3 : Vec F S128x300 .bf16) (y : S4096x1280.Idx) :
    ∃ pc ∈ (rA c t h x0 x1 x2 x3).2.1, y ∈ pc.1.set :=
  View.cover_of_tiledBy (rA c t h x0 x1 x2 x3).2.1 ![512, 128] (by sl_kernel_rfl) y
theorem scover1 (c : Dev nD) (t : Fin cfg1.N) (h : cond (grid1.coords t)) (x0 : Vec F S4096x300 .bf16) (x1 : Vec F S512x4096 .bf16) (x2 : Vec F S300x1152 .bf16) (x3 : Vec F S128x300 .bf16) (y : S4096x128.Idx) :
    ∃ pc ∈ (rA c t h x0 x1 x2 x3).2.2.1, y ∈ pc.1.set :=
  View.cover_of_tiledL (rA c t h x0 x1 x2 x3).2.2.1 S512x128.size (by sl_kernel_rfl) y
theorem scover2 (c : Dev nD) (t : Fin cfg1.N) (h : cond (grid1.coords t)) (x0 : Vec F S4096x300 .bf16) (x1 : Vec F S512x4096 .bf16) (x2 : Vec F S300x1152 .bf16) (x3 : Vec F S128x300 .bf16) (y : S128x4096.Idx) :
    ∃ pc ∈ (rA c t h x0 x1 x2 x3).2.2.2.1, y ∈ pc.1.set :=
  View.cover_of_tiledL (rA c t h x0 x1 x2 x3).2.2.2.1 S128x512.size (by sl_kernel_rfl) y

/-- What the first point leaves in the output block, and a later one. -/
def outA (c : Dev nD) (t : Fin cfg1.N) (h : cond (grid1.coords t)) (x0 : Vec F S4096x300 .bf16) (x1 : Vec F S512x4096 .bf16) (x2 : Vec F S300x1152 .bf16) (x3 : Vec F S128x300 .bf16) : Vec F S512x512 .bf16 :=
  VO.read (Elt F) (VO.writes (Elt F) VO.junk (rA c t h x0 x1 x2 x3).1)
def outB (c : Dev nD) (t : Fin cfg1.N) (h : ¬cond (grid1.coords t)) (x0 : Vec F S4096x300 .bf16) (x1 : Vec F S512x4096 .bf16) (x2 : Vec F S300x1152 .bf16) (x3 : Vec F S128x300 .bf16) (xs0 : Vec F S4096x1280 .bf16) (xs1 : Vec F S4096x128 .f32) (xs2 : Vec F S128x4096 .f32) : Vec F S512x512 .bf16 :=
  VO.read (Elt F) (VO.writes (Elt F) VO.junk (rB c t h x0 x1 x2 x3 xs0 xs1 xs2).1)
/-- What the first point leaves in scratch 0. -/
def sout0 (c : Dev nD) (t : Fin cfg1.N) (h : cond (grid1.coords t)) (x0 : Vec F S4096x300 .bf16) (x1 : Vec F S512x4096 .bf16) (x2 : Vec F S300x1152 .bf16) (x3 : Vec F S128x300 .bf16) : Vec F S4096x1280 .bf16 :=
  VS0.read (Elt F) (VS0.writes (Elt F) VS0.junk (rA c t h x0 x1 x2 x3).2.1)
/-- What the first point leaves in scratch 1. -/
def sout1 (c : Dev nD) (t : Fin cfg1.N) (h : cond (grid1.coords t)) (x0 : Vec F S4096x300 .bf16) (x1 : Vec F S512x4096 .bf16) (x2 : Vec F S300x1152 .bf16) (x3 : Vec F S128x300 .bf16) : Vec F S4096x128 .f32 :=
  VS1.read (Elt F) (VS1.writes (Elt F) VS1.junk (rA c t h x0 x1 x2 x3).2.2.1)
/-- What the first point leaves in scratch 2. -/
def sout2 (c : Dev nD) (t : Fin cfg1.N) (h : cond (grid1.coords t)) (x0 : Vec F S4096x300 .bf16) (x1 : Vec F S512x4096 .bf16) (x2 : Vec F S300x1152 .bf16) (x3 : Vec F S128x300 .bf16) : Vec F S128x4096 .f32 :=
  VS2.read (Elt F) (VS2.writes (Elt F) VS2.junk (rA c t h x0 x1 x2 x3).2.2.2.1)

/-- The first point of the grid; the branch is taken there. -/
def z : Fin cfg1.N := t1_0
theorem hz : cond (grid1.coords z) := (hcond z).mpr rfl
/-- Scratch 0 from the first point on. -/
def S0 (c : Dev nD) : Vec F S4096x1280 .bf16 := sout0 c z hz (iblk V c 0 z) (iblk V c 1 z) (iblk V c 2 z) (iblk V c 3 z)
/-- Scratch 1 from the first point on. -/
def S1 (c : Dev nD) : Vec F S4096x128 .f32 := sout1 c z hz (iblk V c 0 z) (iblk V c 1 z) (iblk V c 2 z) (iblk V c 3 z)
/-- Scratch 2 from the first point on. -/
def S2 (c : Dev nD) : Vec F S128x4096 .f32 := sout2 c z hz (iblk V c 0 z) (iblk V c 1 z) (iblk V c 2 z) (iblk V c 3 z)

/-- The output block after point `t`. -/
def outAt (c : Dev nD) (t : Fin cfg1.N) : Vec F S512x512 .bf16 :=
  if h : cond (grid1.coords t) then outA c t h (iblk V c 0 t) (iblk V c 1 t) (iblk V c 2 t) (iblk V c 3 t) else outB c t h (iblk V c 0 t) (iblk V c 1 t) (iblk V c 2 t) (iblk V c 3 t) (S0 V c) (S1 V c) (S2 V c)

/-- The scratch owned at its contents, the other scoped buffers and the generator register at anything. -/
def carried (c : Dev nD) : sProp 𝕄 :=
  iprop(iprop(iprop(owns (c : Thread nD τ) scM0 fullShare (S0 V c) ∗ owns (c : Thread nD τ) scM1 fullShare (S1 V c) ∗ owns (c : Thread nD τ) scM2 fullShare (S2 V c))
    ∗ Pipeline.scopedRestBut spec1 c [cc1_scratch0, cc1_scratch1, cc1_scratch2]) ∗ (∃ r, prngReg c r))

/-- The region's invariant before position `n`. -/
def Phi (c : Dev nD) (n : ℕ) : sProp 𝕄 := if n = 0 then Pipeline.ΦA spec1 c else carried V c

theorem PhiA_eq (c : Dev nD) :
    (Pipeline.ΦA spec1 c : sProp 𝕄)
      = iprop(iprop(iprop((∃ d, owns (c : Thread nD τ) scM0 fullShare d) ∗ (∃ d, owns (c : Thread nD τ) scM1 fullShare d) ∗ (∃ d, owns (c : Thread nD τ) scM2 fullShare d))
        ∗ Pipeline.scopedRestBut spec1 c [cc1_scratch0, cc1_scratch1, cc1_scratch2]) ∗ (∃ r, prngReg c r)) := by
  unfold Pipeline.ΦA; rw [scopedRest1_split]; simp only [scM0, scM1, scM2, owns_whole]; try rfl

/-- The region's proof data. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := Phi V c t.val
  q _ := fullShare
  owed _ := 0

theorem A_eq (c : Dev nD) (w : Fin cfg1.W) : (dat V c).A w = V c (Pipeline.arrRef spec1 w) := by
  dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
/-- What it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 6400000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl,
    after0, after1, after2, after3, after4]
  rw [show (dat V c).Φ t.succ = carried V c from (if_neg (Nat.succ_ne_zero t.val) : Phi V c (t.val + 1) = carried V c)]
  by_cases hz' : t.val = 0
  · rw [show (dat V c).Φ t.castSucc = Pipeline.ΦA spec1 c from (if_pos hz' : Phi V c t.val = _), PhiA_eq]
    obtain rfl : t = z := Fin.ext hz'
    rw [show outAt V c z = outA c z hz (iblk V c 0 z) (iblk V c 1 z) (iblk V c 2 z) (iblk V c 3 z) from dif_pos hz]
    unfold carried S0 S1 S2 sout0 sout1 sout2 outA
    iintro ⟨⟨⟨⟨HS0, HS1, HS2⟩, Hr⟩, Hg⟩, Ho, ⟨%d0, H0⟩, ⟨%d1, H1⟩, ⟨%d2, H2⟩, ⟨%d3, H3⟩, ⟨%d4, H4⟩⟩
    iapply ((rA c z hz (iblk V c 0 z) (iblk V c 1 z) (iblk V c 2 z) (iblk V c 3 z)).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e5, H4⟩, ⟨%es0, HS0⟩, ⟨%es1, HS1⟩, ⟨%es2, HS2⟩⟩
    isplitl [HS0 HS1 HS2 Hr Hg]
    · isplitl [HS0 HS1 HS2 Hr]
      · isplitl [HS0 HS1 HS2]
        · isplitl [HS0]
          · unfold owns; iexists _; isplitr
            swap; · iexact HS0
            ipureintro; exact View.read_writes_of_cover _ _ _ _ _ (scover0 c z hz (iblk V c 0 z) (iblk V c 1 z) (iblk V c 2 z) (iblk V c 3 z))
          isplitl [HS1]
          · unfold owns; iexists _; isplitr
            swap; · iexact HS1
            ipureintro; exact View.read_writes_of_cover _ _ _ _ _ (scover1 c z hz (iblk V c 0 z) (iblk V c 1 z) (iblk V c 2 z) (iblk V c 3 z))
          unfold owns; iexists _; isplitr
          swap; · iexact HS2
          ipureintro; exact View.read_writes_of_cover _ _ _ _ _ (scover2 c z hz (iblk V c 0 z) (iblk V c 1 z) (iblk V c 2 z) (iblk V c 3 z))
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c z hz (iblk V c 0 z) (iblk V c 1 z) (iblk V c 2 z) (iblk V c 3 z))
  · have hn : ¬cond (grid1.coords t) := fun h => hz' ((hcond t).mp h)
    rw [show (dat V c).Φ t.castSucc = carried V c from (if_neg hz' : Phi V c t.val = _)]
    rw [show outAt V c t = outB c t hn (iblk V c 0 t) (iblk V c 1 t) (iblk V c 2 t) (iblk V c 3 t) (S0 V c) (S1 V c) (S2 V c) from dif_neg hn]
    unfold carried outB
    iintro ⟨⟨⟨⟨HS0, HS1, HS2⟩, Hr⟩, Hg⟩, Ho, ⟨%d0, H0⟩, ⟨%d1, H1⟩, ⟨%d2, H2⟩, ⟨%d3, H3⟩, ⟨%d4, H4⟩⟩
    iapply ((rB c t hn (iblk V c 0 t) (iblk V c 1 t) (iblk V c 2 t) (iblk V c 3 t) (S0 V c) (S1 V c) (S2 V c)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e5, H4⟩, HS0, HS1, HS2⟩
    isplitl [HS0 HS1 HS2 Hr Hg]
    · isplitl [HS0 HS1 HS2 Hr]
      · isplitl [HS0 HS1 HS2]
        · isplitl [HS0]; · iexact HS0
          isplitl [HS1]; · iexact HS1
          iexact HS2
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c t hn (iblk V c 0 t) (iblk V c 1 t) (iblk V c 2 t) (iblk V c 3 t) (S0 V c) (S1 V c) (S2 V c))

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The invariant before the first point. -/
theorem hin (c : Dev nD) : iprop(Pipeline.scopedRest spec1 c ∗ (∃ r, prngReg c r)) ⊢ (dat V c).Φ 0 := .rfl

/-- After the last point the scratch's contents are forgotten. -/
theorem hout (c : Dev nD) : (dat V c).Φ (Fin.last cfg1.N) ⊢ iprop(Pipeline.scopedRest spec1 c ∗ (∃ r, prngReg c r)) := by
  rw [show iprop(Pipeline.scopedRest spec1 c ∗ (∃ r, prngReg c r)) = (Pipeline.ΦA spec1 c : sProp 𝕄) from rfl, PhiA_eq]
  rw [show (dat V c).Φ (Fin.last cfg1.N) = carried V c from
    (if_neg (by rw [Fin.val_last]; have : cfg1.N = 8 := N_1; omega) : Phi V c (Fin.last cfg1.N).val = carried V c)]
  unfold carried
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

end Cert.KernelIdeal.R1

end
-- ==== Proof.KIR2A.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's one branch, from the grid coordinates. -/
abbrev cond (i : grid2.Coords) : Prop := (Scalar.cmpi .ne (Scalar.extui (Scalar.cmpi .eq (BitVec.ofNat 32 (i 0).val) 0#32)) 0#32) = 1#1
/-- It holds at the first point only. -/
theorem hcond : ∀ t : Fin cfg2.N, cond (grid2.coords t) ↔ t.val = 0 :=
  (fun t => by
    have ht : t.val < 8 := Nat.lt_of_lt_of_eq t.isLt N_2
    have e0 : (grid2.coords t 0).val = t.val / 1 % 8 := Pipeline.Grid.coords_val t 0 (by decide) rfl
    have h : cond (grid2.coords t) ↔ t.val % 8 = 0 := by
      simp only [cond, e0]
      word_cmp
    rw [h, Nat.mod_eq_of_lt ht]
   : ∀ t : Fin grid2.N, cond (grid2.coords t) ↔ t.val = 0)

set_option maxHeartbeats 1200000 in
/-- The body run whole in the first point's case: from the inputs at their contents it ends with the inputs as they were, the
    output block and the three scratch arrays written, piece by piece as listed. -/
noncomputable def runA (c : Dev nD) (i : grid2.Coords) (arg1 : Memref sig .tc .vmem S4096x512 .bf16) (harg1 : arg1.IsWhole) (arg2 : Memref sig .tc .vmem S512x4096 .bf16) (harg2 : arg2.IsWhole) (arg3 : Memref sig .tc .vmem S512x1152 .bf16) (harg3 : arg3.IsWhole) (arg4 : Memref sig .tc .vmem S128x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S4096x1280 .bf16) (harg7 : arg7.IsWhole) (arg8 : Memref sig .tc .vmem S4096x128 .f32) (harg8 : arg8.IsWhole) (arg9 : Memref sig .tc .vmem S128x4096 .f32) (harg9 : arg9.IsWhole) (hc : cond i)
    (x0 : Vec F S4096x512 .bf16) (x1 : Vec F S512x4096 .bf16) (x2 : Vec F S512x1152 .bf16) (x3 : Vec F S128x512 .bf16) (x4 : Vec F S256x512 .bf16) :
    Σ' (L : List (View.Piece (Elt F) S256x512 .f32)), Σ' (LS0 : List (View.Piece (Elt F) S4096x1280 .bf16)), Σ' (LS1 : List (View.Piece (Elt F) S4096x128 .f32)), { LS2 : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2_body_eq_skeleton]; unfold cc2_body_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, HO⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO]; · iexists _; iexact HO
    isplitl [HS0]; · iexists _; iexact HS0
    isplitl [HS1]; · iexists _; iexact HS1
    iexists _; iexact HS2

end Cert.KernelIdeal.R2

end
-- ==== Proof.KIR2B.lean ====
module

public import proofs.«01_k».proof.Proof.KIR2A

@[expose] public section

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1200000 in
/-- The body run whole in the later points' case: from the inputs at their contents it ends with the inputs as they were, the
    output block written and the three scratch arrays as they were, piece by piece as listed. -/
noncomputable def runB (c : Dev nD) (i : grid2.Coords) (arg1 : Memref sig .tc .vmem S4096x512 .bf16) (harg1 : arg1.IsWhole) (arg2 : Memref sig .tc .vmem S512x4096 .bf16) (harg2 : arg2.IsWhole) (arg3 : Memref sig .tc .vmem S512x1152 .bf16) (harg3 : arg3.IsWhole) (arg4 : Memref sig .tc .vmem S128x512 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S4096x1280 .bf16) (harg7 : arg7.IsWhole) (arg8 : Memref sig .tc .vmem S4096x128 .f32) (harg8 : arg8.IsWhole) (arg9 : Memref sig .tc .vmem S128x4096 .f32) (harg9 : arg9.IsWhole) (hc : ¬cond i)
    (x0 : Vec F S4096x512 .bf16) (x1 : Vec F S512x4096 .bf16) (x2 : Vec F S512x1152 .bf16) (x3 : Vec F S128x512 .bf16) (x4 : Vec F S256x512 .bf16) (xs0 : Vec F S4096x1280 .bf16) (xs1 : Vec F S4096x128 .f32) (xs2 : Vec F S128x4096 .f32) :
    { L : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc2_body i arg1 harg1 arg2 harg2 arg3 harg3 arg4 harg4 arg5 harg5 arg6 harg6 arg7 harg7 arg8 harg8 arg9 harg9) K } := by
  refine ⟨?_, fun E K => ?run⟩
  case run =>
    simp only [cc2_body_eq_skeleton]; unfold cc2_body_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, HO⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1; obtain rfl := harg9.eq_unread hfs2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO]; · iexists _; iexact HO
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.R2

end
-- ==== Proof.KIR2.lean ====
module

public import proofs.«01_k».proof.Proof.KIR2B

@[expose] public section

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One staging buffer of the output window, through which its contents are stated. -/
abbrev VO : View sig .tc .vmem S256x512 .f32 := (Memref.whole cc2_stg5_0 : Memref sig .tc .vmem S256x512 .f32).view
abbrev ms0 (t : Fin cfg2.N) : Memref sig .tc .vmem S4096x512 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x4096 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S512x1152 .bf16 := win2_2.stage (cfg2.slots t 2)
abbrev hs2 (t : Fin cfg2.N) : (ms2 t).IsWhole := hstage2_2 ((cfg2.slots t 2).cast nbuf2_2)
abbrev ms3 (t : Fin cfg2.N) : Memref sig .tc .vmem S128x512 .bf16 := win2_3.stage (cfg2.slots t 3)
abbrev hs3 (t : Fin cfg2.N) : (ms3 t).IsWhole := hstage2_3 ((cfg2.slots t 3).cast nbuf2_3)
abbrev ms4 (t : Fin cfg2.N) : Memref sig .tc .vmem S256x512 .bf16 := win2_4.stage (cfg2.slots t 4)
abbrev hs4 (t : Fin cfg2.N) : (ms4 t).IsWhole := hstage2_4 ((cfg2.slots t 4).cast nbuf2_4)
abbrev ms5 (t : Fin cfg2.N) : Memref sig .tc .vmem S256x512 .f32 := win2_5.stage (cfg2.slots t 5)
abbrev hs5 (t : Fin cfg2.N) : (ms5 t).IsWhole := hstage2_5 ((cfg2.slots t 5).cast nbuf2_5)
abbrev scM0 : Memref sig .tc .vmem S4096x1280 .bf16 := Memref.whole cc2_scratch0
abbrev VS0 : View sig .tc .vmem S4096x1280 .bf16 := scM0.view
abbrev scM1 : Memref sig .tc .vmem S4096x128 .f32 := Memref.whole cc2_scratch1
abbrev VS1 : View sig .tc .vmem S4096x128 .f32 := scM1.view
abbrev scM2 : Memref sig .tc .vmem S128x4096 .f32 := Memref.whole cc2_scratch2
abbrev VS2 : View sig .tc .vmem S128x4096 .f32 := scM2.view

/-- The first point's run at the pipeline's own buffers. -/
abbrev rA (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) :=
  runA c (grid2.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) h x0 x1 x2 x3 x4
/-- A later point's run at the pipeline's own buffers. -/
abbrev rB (c : Dev nD) (t : Fin cfg2.N) (h : ¬cond (grid2.coords t)) (x0 : Vec F S4096x512 .bf16) (x1 : Vec F S512x4096 .bf16) (x2 : Vec F S512x1152 .bf16) (x3 : Vec F S128x512 .bf16) (x4 : Vec F S256x512 .bf16) (xs0 : Vec F S4096x1280 .bf16) (xs1 : Vec F S4096x128 .f32) (xs2 : Vec F S128x4096 .f32) :=
  runB c (grid2.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) h x0 x1 x2 x3 x4 xs0 xs1 xs2

theorem coverA (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) (y : S256x512.Idx) :
    ∃ pc ∈ (rA c t h x0 x1 x2 x3 x4).1, y ∈ pc.1.set :=
  View.cover_of_tiledL (rA c t h x0 x1 x2 x3 x4).1 S256x512.size (by sl_kernel_rfl) y
theorem coverB (c : Dev nD) (t : Fin cfg2.N) (h : ¬cond (grid2.coords t)) (x0 : Vec F S4096x512 .bf16) (x1 : Vec F S512x4096 .bf16) (x2 : Vec F S512x1152 .bf16) (x3 : Vec F S128x512 .bf16) (x4 : Vec F S256x512 .bf16) (xs0 : Vec F S4096x1280 .bf16) (xs1 : Vec F S4096x128 .f32) (xs2 : Vec F S128x4096 .f32) (y : S256x512.Idx) :
    ∃ pc ∈ (rB c t h x0 x1 x2 x3 x4 xs0 xs1 xs2).1, y ∈ pc.1.set :=
  View.cover_of_tiledL (rB c t h x0 x1 x2 x3 x4 xs0 xs1 xs2).1 S256x512.size (by sl_kernel_rfl) y
theorem scover0 (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) (y : S4096x1280.Idx) :
    ∃ pc ∈ (rA c t h x0 x1 x2 x3 x4).2.1, y ∈ pc.1.set :=
  View.cover_of_tiledBy (rA c t h x0 x1 x2 x3 x4).2.1 ![512, 128] (by sl_kernel_rfl) y
theorem scover1 (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) (y : S4096x128.Idx) :
    ∃ pc ∈ (rA c t h x0 x1 x2 x3 x4).2.2.1, y ∈ pc.1.set :=
  View.cover_of_tiledL (rA c t h x0 x1 x2 x3 x4).2.2.1 S512x128.size (by sl_kernel_rfl) y
theorem scover2 (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) (y : S128x4096.Idx) :
    ∃ pc ∈ (rA c t h x0 x1 x2 x3 x4).2.2.2.1, y ∈ pc.1.set :=
  View.cover_of_tiledL (rA c t h x0 x1 x2 x3 x4).2.2.2.1 S128x512.size (by sl_kernel_rfl) y

/-- What the first point leaves in the output block, and a later one. -/
def outA (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) : Vec F S256x512 .f32 :=
  VO.read (Elt F) (VO.writes (Elt F) VO.junk (rA c t h x0 x1 x2 x3 x4).1)
def outB (c : Dev nD) (t : Fin cfg2.N) (h : ¬cond (grid2.coords t)) (x0 : Vec F S4096x512 .bf16) (x1 : Vec F S512x4096 .bf16) (x2 : Vec F S512x1152 .bf16) (x3 : Vec F S128x512 .bf16) (x4 : Vec F S256x512 .bf16) (xs0 : Vec F S4096x1280 .bf16) (xs1 : Vec F S4096x128 .f32) (xs2 : Vec F S128x4096 .f32) : Vec F S256x512 .f32 :=
  VO.read (Elt F) (VO.writes (Elt F) VO.junk (rB c t h x0 x1 x2 x3 x4 xs0 xs1 xs2).1)
/-- What the first point leaves in scratch 0. -/
def sout0 (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) : Vec F S4096x1280 .bf16 :=
  VS0.read (Elt F) (VS0.writes (Elt F) VS0.junk (rA c t h x0 x1 x2 x3 x4).2.1)
/-- What the first point leaves in scratch 1. -/
def sout1 (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) : Vec F S4096x128 .f32 :=
  VS1.read (Elt F) (VS1.writes (Elt F) VS1.junk (rA c t h x0 x1 x2 x3 x4).2.2.1)
/-- What the first point leaves in scratch 2. -/
def sout2 (c : Dev nD) (t : Fin cfg2.N) (h : cond (grid2.coords t)) (x0 : Vec F S4096x512 .bf16) (x1 : Vec F S512x4096 .bf16) (x2 : Vec F S512x1152 .bf16) (x3 : Vec F S128x512 .bf16) (x4 : Vec F S256x512 .bf16) : Vec F S128x4096 .f32 :=
  VS2.read (Elt F) (VS2.writes (Elt F) VS2.junk (rA c t h x0 x1 x2 x3 x4).2.2.2.1)

/-- The first point of the grid; the branch is taken there. -/
def z : Fin cfg2.N := t2_0
theorem hz : cond (grid2.coords z) := (hcond z).mpr rfl
/-- Scratch 0 from the first point on. -/
def S0 (c : Dev nD) : Vec F S4096x1280 .bf16 := sout0 c z hz (iblk V c 0 z) (iblk V c 1 z) (iblk V c 2 z) (iblk V c 3 z) (iblk V c 4 z)
/-- Scratch 1 from the first point on. -/
def S1 (c : Dev nD) : Vec F S4096x128 .f32 := sout1 c z hz (iblk V c 0 z) (iblk V c 1 z) (iblk V c 2 z) (iblk V c 3 z) (iblk V c 4 z)
/-- Scratch 2 from the first point on. -/
def S2 (c : Dev nD) : Vec F S128x4096 .f32 := sout2 c z hz (iblk V c 0 z) (iblk V c 1 z) (iblk V c 2 z) (iblk V c 3 z) (iblk V c 4 z)

/-- The output block after point `t`. -/
def outAt (c : Dev nD) (t : Fin cfg2.N) : Vec F S256x512 .f32 :=
  if h : cond (grid2.coords t) then outA c t h (iblk V c 0 t) (iblk V c 1 t) (iblk V c 2 t) (iblk V c 3 t) (iblk V c 4 t) else outB c t h (iblk V c 0 t) (iblk V c 1 t) (iblk V c 2 t) (iblk V c 3 t) (iblk V c 4 t) (S0 V c) (S1 V c) (S2 V c)

/-- The scratch owned at its contents, the other scoped buffers and the generator register at anything. -/
def carried (c : Dev nD) : sProp 𝕄 :=
  iprop(iprop(iprop(owns (c : Thread nD τ) scM0 fullShare (S0 V c) ∗ owns (c : Thread nD τ) scM1 fullShare (S1 V c) ∗ owns (c : Thread nD τ) scM2 fullShare (S2 V c))
    ∗ Pipeline.scopedRestBut spec2 c [cc2_scratch0, cc2_scratch1, cc2_scratch2]) ∗ (∃ r, prngReg c r))

/-- The region's invariant before position `n`. -/
def Phi (c : Dev nD) (n : ℕ) : sProp 𝕄 := if n = 0 then Pipeline.ΦA spec2 c else carried V c

theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d))
        ∗ Pipeline.scopedRestBut spec2 c [cc2_scratch0, cc2_scratch1, cc2_scratch2]) ∗ (∃ r, prngReg c r)) := by
  unfold Pipeline.ΦA; rw [scopedRest2_split]; simp only [scM0, scM1, scM2, owns_whole]; try rfl

/-- The region's proof data. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := Phi V c t.val
  q _ := fullShare
  owed _ := 0

theorem A_eq (c : Dev nD) (w : Fin cfg2.W) : (dat V c).A w = V c (Pipeline.arrRef spec2 w) := by
  dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = outAt V c t := by dsimp only [dat]
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg2.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))
/-- What it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 6400000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl,
    after0, after1, after2, after3, after4, after5]
  rw [show (dat V c).Φ t.succ = carried V c from (if_neg (Nat.succ_ne_zero t.val) : Phi V c (t.val + 1) = carried V c)]
  by_cases hz' : t.val = 0
  · rw [show (dat V c).Φ t.castSucc = Pipeline.ΦA spec2 c from (if_pos hz' : Phi V c t.val = _), PhiA_eq]
    obtain rfl : t = z := Fin.ext hz'
    rw [show outAt V c z = outA c z hz (iblk V c 0 z) (iblk V c 1 z) (iblk V c 2 z) (iblk V c 3 z) (iblk V c 4 z) from dif_pos hz]
    unfold carried S0 S1 S2 sout0 sout1 sout2 outA
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
    iapply ((rA c z hz (iblk V c 0 z) (iblk V c 1 z) (iblk V c 2 z) (iblk V c 3 z) (iblk V c 4 z)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [HS0 HS1 HS2 Hr Hg]
    · isplitl [HS0 HS1 HS2 Hr]
      · isplitl [HS0 HS1 HS2]
        · isplitl [HS0]
          · unfold owns; iexists _; isplitr
            swap; · iexact HS0
            ipureintro; exact View.read_writes_of_cover _ _ _ _ _ (scover0 c z hz (iblk V c 0 z) (iblk V c 1 z) (iblk V c 2 z) (iblk V c 3 z) (iblk V c 4 z))
          isplitl [HS1]
          · unfold owns; iexists _; isplitr
            swap; · iexact HS1
            ipureintro; exact View.read_writes_of_cover _ _ _ _ _ (scover1 c z hz (iblk V c 0 z) (iblk V c 1 z) (iblk V c 2 z) (iblk V c 3 z) (iblk V c 4 z))
          unfold owns; iexists _; isplitr
          swap; · iexact HS2
          ipureintro; exact View.read_writes_of_cover _ _ _ _ _ (scover2 c z hz (iblk V c 0 z) (iblk V c 1 z) (iblk V c 2 z) (iblk V c 3 z) (iblk V c 4 z))
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c z hz (iblk V c 0 z) (iblk V c 1 z) (iblk V c 2 z) (iblk V c 3 z) (iblk V c 4 z))
  · have hn : ¬cond (grid2.coords t) := fun h => hz' ((hcond t).mp h)
    rw [show (dat V c).Φ t.castSucc = carried V c from (if_neg hz' : Phi V c t.val = _)]
    rw [show outAt V c t = outB c t hn (iblk V c 0 t) (iblk V c 1 t) (iblk V c 2 t) (iblk V c 3 t) (iblk V c 4 t) (S0 V c) (S1 V c) (S2 V c) from dif_neg hn]
    unfold carried outB
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
    iapply ((rB c t hn (iblk V c 0 t) (iblk V c 1 t) (iblk V c 2 t) (iblk V c 3 t) (iblk V c 4 t) (S0 V c) (S1 V c) (S2 V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, HS0, HS1, HS2⟩
    isplitl [HS0 HS1 HS2 Hr Hg]
    · isplitl [HS0 HS1 HS2 Hr]
      · isplitl [HS0 HS1 HS2]
        · isplitl [HS0]; · iexact HS0
          isplitl [HS1]; · iexact HS1
          iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c t hn (iblk V c 0 t) (iblk V c 1 t) (iblk V c 2 t) (iblk V c 3 t) (iblk V c 4 t) (S0 V c) (S1 V c) (S2 V c))

theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- The invariant before the first point. -/
theorem hin (c : Dev nD) : iprop(Pipeline.scopedRest spec2 c ∗ (∃ r, prngReg c r)) ⊢ (dat V c).Φ 0 := .rfl

/-- After the last point the scratch's contents are forgotten. -/
theorem hout (c : Dev nD) : (dat V c).Φ (Fin.last cfg2.N) ⊢ iprop(Pipeline.scopedRest spec2 c ∗ (∃ r, prngReg c r)) := by
  rw [show iprop(Pipeline.scopedRest spec2 c ∗ (∃ r, prngReg c r)) = (Pipeline.ΦA spec2 c : sProp 𝕄) from rfl, PhiA_eq]
  rw [show (dat V c).Φ (Fin.last cfg2.N) = carried V c from
    (if_neg (by rw [Fin.val_last]; have : cfg2.N = 8 := N_2; omega) : Phi V c (Fin.last cfg2.N).val = carried V c)]
  unfold carried
  iintro ⟨⟨⟨HS0, HS1, HS2⟩, Hr⟩, Hg⟩
  isplitl [HS0 HS1 HS2 Hr]
  · isplitl [HS0 HS1 HS2]
    · isplitl [HS0]
      · iexists _; iexact HS0
      isplitl [HS1]
      · iexists _; iexact HS1
      iexists _; iexact HS2
    iexact Hr
  iexact Hg

end Cert.KernelIdeal.R2

end
-- ==== Proof.KIWhole.lean ====
module

public import proofs.«01_k».proof.Proof.KIR0T
public import proofs.«01_k».proof.Proof.KIR1
public import proofs.«01_k».proof.Proof.KIR2
public import proofs.«01_k».proof.Proof.Gen.KernelIdeal.Regions
public import proofs.«01_k».proof.Proof.Gen.KernelIdeal.Skeleton
public import Idealize.ShloMosaic.Lib.Pipeline.RegionArrays

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg LevelCut)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- A valuation of the device buffers, read at the TensorCore's references. -/
abbrev atTc (V : Dev nD → Valuation τ sig (Elt F)) : (c : Dev nD) → (b : Ref sig .tc) → Buf (Elt F) ((c : Thread nD τ).loc b) :=
  fun c b => V c (Proc.devRef .tc b)

/-! ## What the three regions leave, one after the other -/

/-- The first region's proof data, entered after the host's opening stretches. -/
abbrev D0 (c : Dev nD) : Dat τ (Elt F) Unit ℕ (UR sig nD τ) ℕ cfg0 c := R0.dat (atTc (fun c => V3 m c)) c

/-- The features the first region leaves. -/
def feats (c : Dev nD) : Buf (Elt F) ((c : Thread nD τ).loc main_v92_0) := (D0 m c).arrAt 5 cfg0.N
/-- The padded adjacency the first region leaves. -/
def padded (c : Dev nD) : Buf (Elt F) ((c : Thread nD τ).loc main_v92_1) := (D0 m c).arrAt 6 cfg0.N

/-- The contents left, as far as the first region. -/
def outs0 : Outs (F := F) := fun _ r c =>
  if h : r = main_v92_0 then h ▸ feats m c else if h : r = main_v92_1 then h ▸ padded m c else m (c, r)

/-- The second region's proof data. -/
abbrev D1 (c : Dev nD) : Dat τ (Elt F) Unit ℕ (UR sig nD τ) ℕ cfg1 c := R1.dat (atTc (fun c => V4 m (outs0 m) c)) c

/-- The first layer's output the second region leaves. -/
def layer1 (c : Dev nD) : Buf (Elt F) ((c : Thread nD τ).loc main_v93) := (D1 m c).arrAt 4 cfg1.N

/-- The contents left, as far as the second region. -/
def outs1 : Outs (F := F) := fun J r c =>
  if h : r = main_v93 then h ▸ layer1 m c else outs0 m J r c

/-- The third region's proof data. -/
abbrev D2 (c : Dev nD) : Dat τ (Elt F) Unit ℕ (UR sig nD τ) ℕ cfg2 c := R2.dat (atTc (fun c => V6 m (outs1 m) c)) c

/-- The scores the third region leaves. -/
def scores (c : Dev nD) : Buf (Elt F) ((c : Thread nD τ).loc main_v95) := (D2 m c).arrAt 5 cfg2.N

/-- The contents all three regions leave. -/
def outs : Outs (F := F) := fun J r c =>
  if h : r = main_v95 then h ▸ scores m c else outs1 m J r c

theorem outs0_feats (J : ℕ) (c : Dev nD) : outs0 m J main_v92_0 c = feats m c := dif_pos rfl
theorem outs0_padded (J : ℕ) (c : Dev nD) : outs0 m J main_v92_1 c = padded m c :=
  (dif_neg (show main_v92_1 ≠ main_v92_0 by decide)).trans (dif_pos rfl)
theorem outs1_layer1 (J : ℕ) (c : Dev nD) : outs1 m J main_v93 c = layer1 m c := dif_pos rfl
theorem outs_scores (J : ℕ) (c : Dev nD) : outs m J main_v95 c = scores m c := dif_pos rfl
theorem outs1_of (J : ℕ) (r : Ref sig .tc) (c : Dev nD) (h : r ≠ main_v93) : outs1 m J r c = outs0 m J r c := dif_neg h
theorem outs_of (J : ℕ) (r : Ref sig .tc) (c : Dev nD) (h : r ≠ main_v95) : outs m J r c = outs1 m J r c := dif_neg h

theorem outs_feats (J : ℕ) (c : Dev nD) : outs m J main_v92_0 c = feats m c :=
  ((outs_of m J _ c (by decide)).trans (outs1_of m J _ c (by decide))).trans (outs0_feats m J c)
theorem outs_padded (J : ℕ) (c : Dev nD) : outs m J main_v92_1 c = padded m c :=
  ((outs_of m J _ c (by decide)).trans (outs1_of m J _ c (by decide))).trans (outs0_padded m J c)
theorem outs_layer1 (J : ℕ) (c : Dev nD) : outs m J main_v93 c = layer1 m c :=
  (outs_of m J _ c (by decide)).trans (outs1_layer1 m J c)

/-- The buffers after the first region do not depend on what the later ones leave. -/
theorem V4_outs (c : Dev nD) : V4 m (outs m) c = V4 m (outs0 m) c := by
  unfold V4
  rw [outs_feats, outs_padded, outs0_feats, outs0_padded]
/-- The buffers after the second region's host stretch do not depend on what the third leaves. -/
theorem V6_outs (c : Dev nD) : V6 m (outs m) c = V6 m (outs1 m) c := by
  have h4 : V4 m (outs m) c = V4 m (outs1 m) c := by
    unfold V4
    rw [outs_feats, outs_padded, outs1_of m _ _ _ (by decide), outs1_of m _ _ _ (by decide), outs0_feats, outs0_padded]
  unfold V6 V5
  rw [h4, outs_layer1, outs1_layer1]

/-! ## The regions' records -/

/-- The three regions' proof data. -/
def pdats : (p : Fin 3) → (c : Dev nD) → Dat τ (Elt F) Unit ℕ (UR sig nD τ) ℕ (Pipeline.pin (pcfgs (F := F)) adm p) c
  | ⟨0, _⟩ => fun c => D0 m c
  | ⟨1, _⟩ => fun c => D1 m c
  | ⟨2, _⟩ => fun c => D2 m c

/-- Levels are assigned at the TensorCore's semaphores. -/
abbrev L : GSem nD τ sig → Finset Unit := fun g => if g.1.2 = .tc then {()} else ∅
abbrev lv : GSem nD τ sig → Unit → ℕ := fun _ _ => 0

/-- The generator register at something: what enters and leaves each region beside its arrays. -/
abbrev XX (c : Dev nD) : sProp 𝕄 := iprop(∃ r, prngReg c r)

/-- What rides beside the buffers between items: the register, and the core owing nothing. -/
abbrev EE (_ : Fin 4) (c : Dev nD) : sProp 𝕄 := iprop(XX (F := F) c ∗ ∃ W, owes (c : Thread nD τ) (0 : CellTallies nD τ sig Unit) W)

theorem cut (p : Fin 3) : LevelCut (pcfgs (F := F)) adm () L lv p (fun _ => 0) (fun _ => 0) :=
  ⟨fun c w s => by simp [L], fun _ _ _ => le_refl _, fun c g i h => absurd h (lt_irrefl 0)⟩

/-- Region 0's windows at its entry: each array at the valuation the region starts from. -/
theorem entry0 (c : Dev nD) (w : Fin cfg0.W) : (D0 m c).arrAt w 0 = V3 m c (Proc.devRef .tc (Pipeline.arrRef spec0 w)) := by
  change (D0 m c).A w = _
  exact R0.A_eq _ c w

theorem exit0_0 (c : Dev nD) : (D0 m c).arrAt 0 cfg0.N = V4 m (outs m) c (Proc.devRef .tc (Pipeline.arrRef spec0 0)) := by
  have h : V4 m (outs m) c (Proc.devRef .tc (Pipeline.arrRef spec0 0)) = V3 m c (Proc.devRef .tc (Pipeline.arrRef spec0 0)) := V4_of m (outs m) c _ (by decide)
  rw [h, (D0 m c).arrAt_in 0 rfl]
  exact entry0 m c 0
theorem exit0_1 (c : Dev nD) : (D0 m c).arrAt 1 cfg0.N = V4 m (outs m) c (Proc.devRef .tc (Pipeline.arrRef spec0 1)) := by
  have h : V4 m (outs m) c (Proc.devRef .tc (Pipeline.arrRef spec0 1)) = V3 m c (Proc.devRef .tc (Pipeline.arrRef spec0 1)) := V4_of m (outs m) c _ (by decide)
  rw [h, (D0 m c).arrAt_in 1 rfl]
  exact entry0 m c 1
theorem exit0_2 (c : Dev nD) : (D0 m c).arrAt 2 cfg0.N = V4 m (outs m) c (Proc.devRef .tc (Pipeline.arrRef spec0 2)) := by
  have h : V4 m (outs m) c (Proc.devRef .tc (Pipeline.arrRef spec0 2)) = V3 m c (Proc.devRef .tc (Pipeline.arrRef spec0 2)) := V4_of m (outs m) c _ (by decide)
  rw [h, (D0 m c).arrAt_in 2 rfl]
  exact entry0 m c 2
theorem exit0_3 (c : Dev nD) : (D0 m c).arrAt 3 cfg0.N = V4 m (outs m) c (Proc.devRef .tc (Pipeline.arrRef spec0 3)) := by
  have h : V4 m (outs m) c (Proc.devRef .tc (Pipeline.arrRef spec0 3)) = V3 m c (Proc.devRef .tc (Pipeline.arrRef spec0 3)) := V4_of m (outs m) c _ (by decide)
  rw [h, (D0 m c).arrAt_in 3 rfl]
  exact entry0 m c 3
theorem exit0_4 (c : Dev nD) : (D0 m c).arrAt 4 cfg0.N = V4 m (outs m) c (Proc.devRef .tc (Pipeline.arrRef spec0 4)) := by
  have h : V4 m (outs m) c (Proc.devRef .tc (Pipeline.arrRef spec0 4)) = V3 m c (Proc.devRef .tc (Pipeline.arrRef spec0 4)) := V4_of m (outs m) c _ (by decide)
  rw [h, (D0 m c).arrAt_in 4 rfl]
  exact entry0 m c 4
theorem exit0_5 (c : Dev nD) : (D0 m c).arrAt 5 cfg0.N = V4 m (outs m) c (Proc.devRef .tc (Pipeline.arrRef spec0 5)) := by
  have h : V4 m (outs m) c (Proc.devRef .tc main_v92_0) = feats m c := by
    unfold V4
    rw [Function.update_of_ne (StableHlo.devRef_ne_of_ne (by decide)), Function.update_self, outs_feats]
  exact h.symm
theorem exit0_6 (c : Dev nD) : (D0 m c).arrAt 6 cfg0.N = V4 m (outs m) c (Proc.devRef .tc (Pipeline.arrRef spec0 6)) := by
  have h : V4 m (outs m) c (Proc.devRef .tc main_v92_1) = padded m c := by
    unfold V4
    rw [Function.update_self, outs_padded]
  exact h.symm

/-- Region 0's windows at its exit: the inputs as they were, the outputs as the region leaves them. -/
theorem exit0 (c : Dev nD) (w : Fin cfg0.W) : (D0 m c).arrAt w cfg0.N = V4 m (outs m) c (Proc.devRef .tc (Pipeline.arrRef spec0 w)) := by
  match w with
  | ⟨0, _⟩ => exact exit0_0 m c
  | ⟨1, _⟩ => exact exit0_1 m c
  | ⟨2, _⟩ => exact exit0_2 m c
  | ⟨3, _⟩ => exact exit0_3 m c
  | ⟨4, _⟩ => exact exit0_4 m c
  | ⟨5, _⟩ => exact exit0_5 m c
  | ⟨6, _⟩ => exact exit0_6 m c

/-- Off region 0's arrays nothing changes. -/
theorem rest0 (c : Dev nD) : ∀ b ∈ Pipeline.ucRefs τ sig \ Pipeline.arrRefs spec0, V3 m c b = V4 m (outs m) c b := by
  intro b hb
  have hb' := (Finset.mem_sdiff.mp hb).2
  have ne : ∀ w : Fin cfg0.W, b ≠ Proc.devRef .tc (Pipeline.arrRef spec0 w) := fun w h => hb' (by
    rw [h]; exact Finset.mem_map.mpr ⟨_, Finset.mem_image.mpr ⟨w, Finset.mem_univ _, rfl⟩, rfl⟩)
  exact ((Function.update_of_ne (ne 6) _ _).trans (Function.update_of_ne (ne 5) _ _)).symm

theorem share0 (c : Dev nD) (w : Fin cfg0.W) : (D0 m c).share w = fullShare := by
  unfold Dat.share; split <;> rfl

/-- Region 0's record. -/
def reg0 : RegionSeg (pcfgs (F := F)) adm (pdats m) () defs₀ Variants.none L lv 0 :=
  RegionSeg.ofHeld (pcfgs (F := F)) adm (pdats m) () defs₀ Variants.none L lv 0 (fun _ => 0) XX XX launch0.toP rfl
    (fun c => R0.body_obligation _ c) (fun _ _ => rfl) (fun _ => rfl) (fun c w => share0 m c w)
    (fun c => R0.hin _ c) (fun c => R0.hout _ c) (fun _ => 0) (cut 0)
    (fun c => StableHlo.held (c : Thread nD τ) (Pipeline.ucRefs τ sig \ Pipeline.arrRefs spec0) (V3 m c))
    (fun c => V3 m c) (fun c => V4 m (outs m) c) (entry0 m) (exit0 m)

theorem pre0 (c : Dev nD) : iprop(StableHlo.held (c : Thread nD τ) (Pipeline.ucRefs τ sig) (V3 m c) ∗ EE (F := F) 0 c) ⊢ (reg0 m).pre c := by
  rw [StableHlo.held_sub_split (c : Thread nD τ) (Pipeline.arrRefs_sub_ucRefs spec0 (by decide)) (V3 m c)]
  change _ ⊢ iprop(StableHlo.held (c : Thread nD τ) (Pipeline.arrRefs spec0) (V3 m c) ∗ XX c
    ∗ StableHlo.held (c : Thread nD τ) (Pipeline.ucRefs τ sig \ Pipeline.arrRefs spec0) (V3 m c) ∗ ∃ W, owes (c : Thread nD τ) (0 : CellTallies nD τ sig Unit) W)
  iintro ⟨⟨Ha, Hr⟩, HX, HO⟩
  isplitl [Ha]; · iexact Ha
  isplitl [HX]; · iexact HX
  isplitl [Hr]; · iexact Hr
  iexact HO

theorem post0 (c : Dev nD) : (reg0 m).post c ⊢ iprop(StableHlo.held (c : Thread nD τ) (Pipeline.ucRefs τ sig) (V4 m (outs m) c) ∗ EE (F := F) 1 c) := by
  rw [StableHlo.held_sub_split (c : Thread nD τ) (Pipeline.arrRefs_sub_ucRefs spec0 (by decide)) (V4 m (outs m) c), ← StableHlo.held_congr (c : Thread nD τ) (rest0 m c)]
  change iprop(StableHlo.held (c : Thread nD τ) (Pipeline.arrRefs spec0) (V4 m (outs m) c) ∗ XX c
    ∗ StableHlo.held (c : Thread nD τ) (Pipeline.ucRefs τ sig \ Pipeline.arrRefs spec0) (V3 m c) ∗ ∃ W, owes (c : Thread nD τ) (0 : CellTallies nD τ sig Unit) W) ⊢ _
  iintro ⟨Ha, HX, Hr, HO⟩
  isplitl [Ha Hr]
  · isplitl [Ha]; · iexact Ha
    iexact Hr
  isplitl [HX]; · iexact HX
  iexact HO

/-- Region 1's windows at its entry: each array at the valuation the region starts from. -/
theorem entry1 (c : Dev nD) (w : Fin cfg1.W) : (D1 m c).arrAt w 0 = V4 m (outs m) c (Proc.devRef .tc (Pipeline.arrRef spec1 w)) := by
  change (D1 m c).A w = _
  exact (R1.A_eq _ c w).trans (congrFun (V4_outs m c) _).symm

theorem exit1_0 (c : Dev nD) : (D1 m c).arrAt 0 cfg1.N = V5 m (outs m) c (Proc.devRef .tc (Pipeline.arrRef spec1 0)) := by
  have h : V5 m (outs m) c (Proc.devRef .tc (Pipeline.arrRef spec1 0)) = V4 m (outs m) c (Proc.devRef .tc (Pipeline.arrRef spec1 0)) := V5_of m (outs m) c _ (by decide)
  rw [h, (D1 m c).arrAt_in 0 rfl]
  exact entry1 m c 0
theorem exit1_1 (c : Dev nD) : (D1 m c).arrAt 1 cfg1.N = V5 m (outs m) c (Proc.devRef .tc (Pipeline.arrRef spec1 1)) := by
  have h : V5 m (outs m) c (Proc.devRef .tc (Pipeline.arrRef spec1 1)) = V4 m (outs m) c (Proc.devRef .tc (Pipeline.arrRef spec1 1)) := V5_of m (outs m) c _ (by decide)
  rw [h, (D1 m c).arrAt_in 1 rfl]
  exact entry1 m c 1
theorem exit1_2 (c : Dev nD) : (D1 m c).arrAt 2 cfg1.N = V5 m (outs m) c (Proc.devRef .tc (Pipeline.arrRef spec1 2)) := by
  have h : V5 m (outs m) c (Proc.devRef .tc (Pipeline.arrRef spec1 2)) = V4 m (outs m) c (Proc.devRef .tc (Pipeline.arrRef spec1 2)) := V5_of m (outs m) c _ (by decide)
  rw [h, (D1 m c).arrAt_in 2 rfl]
  exact entry1 m c 2
theorem exit1_3 (c : Dev nD) : (D1 m c).arrAt 3 cfg1.N = V5 m (outs m) c (Proc.devRef .tc (Pipeline.arrRef spec1 3)) := by
  have h : V5 m (outs m) c (Proc.devRef .tc (Pipeline.arrRef spec1 3)) = V4 m (outs m) c (Proc.devRef .tc (Pipeline.arrRef spec1 3)) := V5_of m (outs m) c _ (by decide)
  rw [h, (D1 m c).arrAt_in 3 rfl]
  exact entry1 m c 3
theorem exit1_4 (c : Dev nD) : (D1 m c).arrAt 4 cfg1.N = V5 m (outs m) c (Proc.devRef .tc (Pipeline.arrRef spec1 4)) := by
  have h : V5 m (outs m) c (Proc.devRef .tc main_v93) = layer1 m c := by
    unfold V5
    rw [Function.update_self, outs_layer1]
  exact h.symm

/-- Region 1's windows at its exit: the inputs as they were, the outputs as the region leaves them. -/
theorem exit1 (c : Dev nD) (w : Fin cfg1.W) : (D1 m c).arrAt w cfg1.N = V5 m (outs m) c (Proc.devRef .tc (Pipeline.arrRef spec1 w)) := by
  match w with
  | ⟨0, _⟩ => exact exit1_0 m c
  | ⟨1, _⟩ => exact exit1_1 m c
  | ⟨2, _⟩ => exact exit1_2 m c
  | ⟨3, _⟩ => exact exit1_3 m c
  | ⟨4, _⟩ => exact exit1_4 m c

/-- Off region 1's arrays nothing changes. -/
theorem rest1 (c : Dev nD) : ∀ b ∈ Pipeline.ucRefs τ sig \ Pipeline.arrRefs spec1, V4 m (outs m) c b = V5 m (outs m) c b := by
  intro b hb
  have hb' := (Finset.mem_sdiff.mp hb).2
  have ne : ∀ w : Fin cfg1.W, b ≠ Proc.devRef .tc (Pipeline.arrRef spec1 w) := fun w h => hb' (by
    rw [h]; exact Finset.mem_map.mpr ⟨_, Finset.mem_image.mpr ⟨w, Finset.mem_univ _, rfl⟩, rfl⟩)
  exact (Function.update_of_ne (ne 4) _ _).symm

theorem share1 (c : Dev nD) (w : Fin cfg1.W) : (D1 m c).share w = fullShare := by
  unfold Dat.share; split <;> rfl

/-- Region 1's record. -/
def reg1 : RegionSeg (pcfgs (F := F)) adm (pdats m) () defs₀ Variants.none L lv 1 :=
  RegionSeg.ofHeld (pcfgs (F := F)) adm (pdats m) () defs₀ Variants.none L lv 1 (fun _ => 0) XX XX launch1.toP rfl
    (fun c => (R1.body_obligation _ c).loose) (fun _ _ => rfl) (fun _ => rfl) (fun c w => share1 m c w)
    (fun c => R1.hin _ c) (fun c => R1.hout _ c) (fun _ => 0) (cut 1)
    (fun c => StableHlo.held (c : Thread nD τ) (Pipeline.ucRefs τ sig \ Pipeline.arrRefs spec1) (V4 m (outs m) c))
    (fun c => V4 m (outs m) c) (fun c => V5 m (outs m) c) (entry1 m) (exit1 m)

theorem pre1 (c : Dev nD) : iprop(StableHlo.held (c : Thread nD τ) (Pipeline.ucRefs τ sig) (V4 m (outs m) c) ∗ EE (F := F) 1 c) ⊢ (reg1 m).pre c := by
  rw [StableHlo.held_sub_split (c : Thread nD τ) (Pipeline.arrRefs_sub_ucRefs spec1 (by decide)) (V4 m (outs m) c)]
  change _ ⊢ iprop(StableHlo.held (c : Thread nD τ) (Pipeline.arrRefs spec1) (V4 m (outs m) c) ∗ XX c
    ∗ StableHlo.held (c : Thread nD τ) (Pipeline.ucRefs τ sig \ Pipeline.arrRefs spec1) (V4 m (outs m) c) ∗ ∃ W, owes (c : Thread nD τ) (0 : CellTallies nD τ sig Unit) W)
  iintro ⟨⟨Ha, Hr⟩, HX, HO⟩
  isplitl [Ha]; · iexact Ha
  isplitl [HX]; · iexact HX
  isplitl [Hr]; · iexact Hr
  iexact HO

theorem post1 (c : Dev nD) : (reg1 m).post c ⊢ iprop(StableHlo.held (c : Thread nD τ) (Pipeline.ucRefs τ sig) (V5 m (outs m) c) ∗ EE (F := F) 2 c) := by
  rw [StableHlo.held_sub_split (c : Thread nD τ) (Pipeline.arrRefs_sub_ucRefs spec1 (by decide)) (V5 m (outs m) c), ← StableHlo.held_congr (c : Thread nD τ) (rest1 m c)]
  change iprop(StableHlo.held (c : Thread nD τ) (Pipeline.arrRefs spec1) (V5 m (outs m) c) ∗ XX c
    ∗ StableHlo.held (c : Thread nD τ) (Pipeline.ucRefs τ sig \ Pipeline.arrRefs spec1) (V4 m (outs m) c) ∗ ∃ W, owes (c : Thread nD τ) (0 : CellTallies nD τ sig Unit) W) ⊢ _
  iintro ⟨Ha, HX, Hr, HO⟩
  isplitl [Ha Hr]
  · isplitl [Ha]; · iexact Ha
    iexact Hr
  isplitl [HX]; · iexact HX
  iexact HO

/-- Region 2's windows at its entry: each array at the valuation the region starts from. -/
theorem entry2 (c : Dev nD) (w : Fin cfg2.W) : (D2 m c).arrAt w 0 = V6 m (outs m) c (Proc.devRef .tc (Pipeline.arrRef spec2 w)) := by
  change (D2 m c).A w = _
  exact (R2.A_eq _ c w).trans (congrFun (V6_outs m c) _).symm

theorem exit2_0 (c : Dev nD) : (D2 m c).arrAt 0 cfg2.N = V7 m (outs m) c (Proc.devRef .tc (Pipeline.arrRef spec2 0)) := by
  have h : V7 m (outs m) c (Proc.devRef .tc (Pipeline.arrRef spec2 0)) = V6 m (outs m) c (Proc.devRef .tc (Pipeline.arrRef spec2 0)) := V7_of m (outs m) c _ (by decide)
  rw [h, (D2 m c).arrAt_in 0 rfl]
  exact entry2 m c 0
theorem exit2_1 (c : Dev nD) : (D2 m c).arrAt 1 cfg2.N = V7 m (outs m) c (Proc.devRef .tc (Pipeline.arrRef spec2 1)) := by
  have h : V7 m (outs m) c (Proc.devRef .tc (Pipeline.arrRef spec2 1)) = V6 m (outs m) c (Proc.devRef .tc (Pipeline.arrRef spec2 1)) := V7_of m (outs m) c _ (by decide)
  rw [h, (D2 m c).arrAt_in 1 rfl]
  exact entry2 m c 1
theorem exit2_2 (c : Dev nD) : (D2 m c).arrAt 2 cfg2.N = V7 m (outs m) c (Proc.devRef .tc (Pipeline.arrRef spec2 2)) := by
  have h : V7 m (outs m) c (Proc.devRef .tc (Pipeline.arrRef spec2 2)) = V6 m (outs m) c (Proc.devRef .tc (Pipeline.arrRef spec2 2)) := V7_of m (outs m) c _ (by decide)
  rw [h, (D2 m c).arrAt_in 2 rfl]
  exact entry2 m c 2
theorem exit2_3 (c : Dev nD) : (D2 m c).arrAt 3 cfg2.N = V7 m (outs m) c (Proc.devRef .tc (Pipeline.arrRef spec2 3)) := by
  have h : V7 m (outs m) c (Proc.devRef .tc (Pipeline.arrRef spec2 3)) = V6 m (outs m) c (Proc.devRef .tc (Pipeline.arrRef spec2 3)) := V7_of m (outs m) c _ (by decide)
  rw [h, (D2 m c).arrAt_in 3 rfl]
  exact entry2 m c 3
theorem exit2_4 (c : Dev nD) : (D2 m c).arrAt 4 cfg2.N = V7 m (outs m) c (Proc.devRef .tc (Pipeline.arrRef spec2 4)) := by
  have h : V7 m (outs m) c (Proc.devRef .tc (Pipeline.arrRef spec2 4)) = V6 m (outs m) c (Proc.devRef .tc (Pipeline.arrRef spec2 4)) := V7_of m (outs m) c _ (by decide)
  rw [h, (D2 m c).arrAt_in 4 rfl]
  exact entry2 m c 4
theorem exit2_5 (c : Dev nD) : (D2 m c).arrAt 5 cfg2.N = V7 m (outs m) c (Proc.devRef .tc (Pipeline.arrRef spec2 5)) := by
  have h : V7 m (outs m) c (Proc.devRef .tc main_v95) = scores m c := by
    unfold V7
    rw [Function.update_self, outs_scores]
  exact h.symm

/-- Region 2's windows at its exit: the inputs as they were, the outputs as the region leaves them. -/
theorem exit2 (c : Dev nD) (w : Fin cfg2.W) : (D2 m c).arrAt w cfg2.N = V7 m (outs m) c (Proc.devRef .tc (Pipeline.arrRef spec2 w)) := by
  match w with
  | ⟨0, _⟩ => exact exit2_0 m c
  | ⟨1, _⟩ => exact exit2_1 m c
  | ⟨2, _⟩ => exact exit2_2 m c
  | ⟨3, _⟩ => exact exit2_3 m c
  | ⟨4, _⟩ => exact exit2_4 m c
  | ⟨5, _⟩ => exact exit2_5 m c

/-- Off region 2's arrays nothing changes. -/
theorem rest2 (c : Dev nD) : ∀ b ∈ Pipeline.ucRefs τ sig \ Pipeline.arrRefs spec2, V6 m (outs m) c b = V7 m (outs m) c b := by
  intro b hb
  have hb' := (Finset.mem_sdiff.mp hb).2
  have ne : ∀ w : Fin cfg2.W, b ≠ Proc.devRef .tc (Pipeline.arrRef spec2 w) := fun w h => hb' (by
    rw [h]; exact Finset.mem_map.mpr ⟨_, Finset.mem_image.mpr ⟨w, Finset.mem_univ _, rfl⟩, rfl⟩)
  exact (Function.update_of_ne (ne 5) _ _).symm

theorem share2 (c : Dev nD) (w : Fin cfg2.W) : (D2 m c).share w = fullShare := by
  unfold Dat.share; split <;> rfl

/-- Region 2's record. -/
def reg2 : RegionSeg (pcfgs (F := F)) adm (pdats m) () defs₀ Variants.none L lv 2 :=
  RegionSeg.ofHeld (pcfgs (F := F)) adm (pdats m) () defs₀ Variants.none L lv 2 (fun _ => 0) XX XX launch2.toP rfl
    (fun c => (R2.body_obligation _ c).loose) (fun _ _ => rfl) (fun _ => rfl) (fun c w => share2 m c w)
    (fun c => R2.hin _ c) (fun c => R2.hout _ c) (fun _ => 0) (cut 2)
    (fun c => StableHlo.held (c : Thread nD τ) (Pipeline.ucRefs τ sig \ Pipeline.arrRefs spec2) (V6 m (outs m) c))
    (fun c => V6 m (outs m) c) (fun c => V7 m (outs m) c) (entry2 m) (exit2 m)

theorem pre2 (c : Dev nD) : iprop(StableHlo.held (c : Thread nD τ) (Pipeline.ucRefs τ sig) (V6 m (outs m) c) ∗ EE (F := F) 2 c) ⊢ (reg2 m).pre c := by
  rw [StableHlo.held_sub_split (c : Thread nD τ) (Pipeline.arrRefs_sub_ucRefs spec2 (by decide)) (V6 m (outs m) c)]
  change _ ⊢ iprop(StableHlo.held (c : Thread nD τ) (Pipeline.arrRefs spec2) (V6 m (outs m) c) ∗ XX c
    ∗ StableHlo.held (c : Thread nD τ) (Pipeline.ucRefs τ sig \ Pipeline.arrRefs spec2) (V6 m (outs m) c) ∗ ∃ W, owes (c : Thread nD τ) (0 : CellTallies nD τ sig Unit) W)
  iintro ⟨⟨Ha, Hr⟩, HX, HO⟩
  isplitl [Ha]; · iexact Ha
  isplitl [HX]; · iexact HX
  isplitl [Hr]; · iexact Hr
  iexact HO

theorem post2 (c : Dev nD) : (reg2 m).post c ⊢ iprop(StableHlo.held (c : Thread nD τ) (Pipeline.ucRefs τ sig) (V7 m (outs m) c) ∗ EE (F := F) 3 c) := by
  rw [StableHlo.held_sub_split (c : Thread nD τ) (Pipeline.arrRefs_sub_ucRefs spec2 (by decide)) (V7 m (outs m) c), ← StableHlo.held_congr (c : Thread nD τ) (rest2 m c)]
  change iprop(StableHlo.held (c : Thread nD τ) (Pipeline.arrRefs spec2) (V7 m (outs m) c) ∗ XX c
    ∗ StableHlo.held (c : Thread nD τ) (Pipeline.ucRefs τ sig \ Pipeline.arrRefs spec2) (V6 m (outs m) c) ∗ ∃ W, owes (c : Thread nD τ) (0 : CellTallies nD τ sig Unit) W) ⊢ _
  iintro ⟨Ha, HX, Hr, HO⟩
  isplitl [Ha Hr]
  · isplitl [Ha]; · iexact Ha
    iexact Hr
  isplitl [HX]; · iexact HX
  iexact HO

end Cert.KernelIdeal.Whole

end
-- ==== Proof.KIRun.lean ====
module

public import proofs.«01_k».proof.Proof.KIWhole
public import proofs.«01_k».proof.Proof.Gen.KernelIdeal.Regions
public import proofs.«01_k».proof.Proof.Gen.KernelIdeal.Skeleton
public import Idealize.ShloMosaic.Lib.Pipeline.RegionArrays

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg LevelCut)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The whole program's run -/

/-- The launch's ghost state. -/
abbrev u₀ : UR sig nD τ := initOf (Pipeline.cells cfgs cellOf_inj) (Pipeline.launchToks cfgs cellOf_inj)

set_option backward.isDefEq.respectTransparency.types false in
/-- Every weakly fair execution terminates with every unscoped buffer at the last valuation and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = V8 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv EE () (pdats m) (reg0 m) (reg1 m) (reg2 m))
    (fun c Q => by
      rewrite [main_chain c, Seg.run_eq_chain,
        show (segs m (outs m) Variants.none L lv EE () (pdats m) (reg0 m) (reg1 m) (reg2 m) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) u₀ ?hu₀
    (T₀ := fun c => iprop(StableHlo.held (c : Thread nD τ) (Pipeline.ucRefs τ sig) (V0 m c) ∗ EE (F := F) 0 c))
    (Tₙ := fun c => StableHlo.held (c : Thread nD τ) (Pipeline.ucRefs τ sig) (V8 m (outs m) c))
    (hch := fun c => ⟨.rfl, .rfl, .rfl, pre0 m c, (post0 m c).trans (pre1 m c), post1 m c, pre2 m c, post2 m c, sep_mono .rfl ?hE3⟩)
    (hinit := ?hinit) (QY := fun c s => ∀ b ∈ Pipeline.ucRefs τ sig, s.mem (c, b) = V8 m (outs m) c b)
    (hfin := fun c s' => ?hfin) (hQ := fun _ h hz => ⟨h, funext fun g => hz g (.inr (regions_no_unscoped g.2))⟩)
  case hu₀ =>
    iintro H
    imodintro
    isplitl [H]
    · iapply (show (ownU _ : sProp 𝕄) ⊢ BI.own (emb₁ (initOf (Pipeline.cells cfgs cellOf_inj) (Pipeline.launchToks cfgs cellOf_inj))) from .rfl); iexact H
    iapply (show (BI.emp : sProp 𝕄) ⊢ bigSep Finset.univ (fun _ : Dev nD => (BI.emp : sProp 𝕄)) from by rw [BI.bigSep_emp_const])
    iempintro
  case hE3 => iintro ⟨-, H⟩; iexact H
  case hinit =>
    have hm : ∀ c : Dev nD, iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ EE (F := F) 0 c) : sProp 𝕄) := by
      intro c
      rw [← Pipeline.unscopedBufs_held (Ix := Unit) (Name := ℕ) (U := UR sig nD τ) (Lvl := ℕ) c (V0 m c)]
      iintro ⟨Hb, -, HO, -, Hg, -⟩
      isplitl [Hb]; · iexact Hb
      isplitl [Hg]; · iexists _; iexact Hg
      iexists _; iexact HO
    have hm' : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ EE (F := F) 0 c) : sProp 𝕄) :=
      bigSep_mono fun c _ => hm c
    iintro ⟨H, -⟩
    imodintro
    iapply hm'
    iexact H
  case hfin =>
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    isplitr
    · ipureintro
      exact h
    · iexact HSI

end Cert.KernelIdeal.Whole

end
-- ==== Proof.RIRun.lean ====
module

public import Idealize.ShloMosaic.Init
public import proofs.«01_k».proof.Proof.Gen.ReferenceIdeal.Run
public import Idealize.ShloMosaic.Lib.Claim
public import Idealize.ShloMosaic.Lib.StableHlo.RunLoop

@[expose] public section

set_option maxRecDepth 16384

noncomputable section

namespace Cert.ReferenceIdeal.Whole

open Idealize.ShloMosaic Idealize.ShloMosaic.TcCoe Idealize.ShloMosaic.StableHlo
open Idealize.SL.Sem
open Cert.ReferenceIdeal.Gen Cert.ReferenceIdeal.Value

variable {F : FTy → Type} [FloatOps F]
variable (m : (ℓ : Loc nD τ sig) → Buf (Elt F) ℓ)

/-- What `hostOps0_1` writes. -/
abbrev hostOps0_1_W : List (Ref sig .tc) := [main_v6, main_v7, main_v8, main_v9, main_v10, main_v11, main_v12, main_v13, main_v14, main_v15, main_v16, main_v17, main_v18, main_v19, main_v20, main_v21, main_v22, main_cst_2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- What `hostOps0_2` writes. -/
abbrev hostOps0_2_W : List (Ref sig .tc) := [main_call4_cst, main_call4_v0, main_call4_v1, main_call4_v2, main_call4_v3, main_call4_v4, main_v23]
theorem hostOps0_2_writes : (hostOps0_2 : List (HloOp τ sig (Elt F))).Forall fun op => op.writes ⊆ (hostOps0_2_W.map (Proc.devRef (τ := τ) .tc)).toFinset :=
  StableHlo.forall_writes_sub_of_map rfl
/-- What `hostOps0_3` writes. -/
abbrev hostOps0_3_W : List (Ref sig .tc) := [main_cst_3, main_v24, main_v25, main_v26, main_cst_4]
theorem hostOps0_3_writes : (hostOps0_3 : List (HloOp τ sig (Elt F))).Forall fun op => op.writes ⊆ (hostOps0_3_W.map (Proc.devRef (τ := τ) .tc)).toFinset :=
  StableHlo.forall_writes_sub_of_map rfl
/-- What `hostOps0_4` writes. -/
abbrev hostOps0_4_W : List (Ref sig .tc) := [main_call5_v0, main_call5_v1, main_call5_v2, main_v27]
theorem hostOps0_4_writes : (hostOps0_4 : List (HloOp τ sig (Elt F))).Forall fun op => op.writes ⊆ (hostOps0_4_W.map (Proc.devRef (τ := τ) .tc)).toFinset :=
  StableHlo.forall_writes_sub_of_map rfl
/-- What `hostOps0_5` writes. -/
abbrev hostOps0_5_W : List (Ref sig .tc) := [main_cst_5, main_v28, main_cst_6, main_v29, main_v30, main_v31, main_v32, main_v33, main_v34, main_cst_7, main_v35, main_v36, main_v37, main_v38, main_v39, main_cst_8, main_v40, main_cst_9, main_v41, main_v42]
theorem hostOps0_5_writes : (hostOps0_5 : List (HloOp τ sig (Elt F))).Forall fun op => op.writes ⊆ (hostOps0_5_W.map (Proc.devRef (τ := τ) .tc)).toFinset :=
  StableHlo.forall_writes_sub_of_map rfl
/-- What `hostOps0_6` writes. -/
abbrev hostOps0_6_W : List (Ref sig .tc) := [main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v43]
theorem hostOps0_6_writes : (hostOps0_6 : List (HloOp τ sig (Elt F))).Forall fun op => op.writes ⊆ (hostOps0_6_W.map (Proc.devRef (τ := τ) .tc)).toFinset :=
  StableHlo.forall_writes_sub_of_map rfl
/-- What `hostOps0_7` writes. -/
abbrev hostOps0_7_W : List (Ref sig .tc) := [main_v44, main_v45, main_v46, main_v47, main_v48, main_v49, main_v50, main_v51, main_v52, main_v53, main_v54, main_cst_10]
theorem hostOps0_7_writes : (hostOps0_7 : List (HloOp τ sig (Elt F))).Forall fun op => op.writes ⊆ (hostOps0_7_W.map (Proc.devRef (τ := τ) .tc)).toFinset :=
  StableHlo.forall_writes_sub_of_map rfl
/-- What `hostOps0_8` writes. -/
abbrev hostOps0_8_W : List (Ref sig .tc) := [main_call7_cst, main_call7_v0, main_call7_v1, main_call7_v2, main_call7_v3, main_call7_v4, main_v55]
theorem hostOps0_8_writes : (hostOps0_8 : List (HloOp τ sig (Elt F))).Forall fun op => op.writes ⊆ (hostOps0_8_W.map (Proc.devRef (τ := τ) .tc)).toFinset :=
  StableHlo.forall_writes_sub_of_map rfl
/-- What `hostOps0_9` writes. -/
abbrev hostOps0_9_W : List (Ref sig .tc) := [main_cst_11, main_v56, main_v57, main_v58, main_cst_12]
theorem hostOps0_9_writes : (hostOps0_9 : List (HloOp τ sig (Elt F))).Forall fun op => op.writes ⊆ (hostOps0_9_W.map (Proc.devRef (τ := τ) .tc)).toFinset :=
  StableHlo.forall_writes_sub_of_map rfl
/-- What `hostOps0_10` writes. -/
abbrev hostOps0_10_W : List (Ref sig .tc) := [main_call8_v0, main_call8_v1, main_call8_v2, main_v59]
theorem hostOps0_10_writes : (hostOps0_10 : List (HloOp τ sig (Elt F))).Forall fun op => op.writes ⊆ (hostOps0_10_W.map (Proc.devRef (τ := τ) .tc)).toFinset :=
  StableHlo.forall_writes_sub_of_map rfl
/-- What `hostOps0_11` writes. -/
abbrev hostOps0_11_W : List (Ref sig .tc) := [main_cst_13, main_v60, main_cst_14, main_v61, main_v62, main_v63, main_v64, main_v65, main_v66, main_cst_15, main_v67, main_v68, main_v69, main_v70, main_v71, main_cst_16, main_v72, main_cst_17, main_v73, main_v74, main_v75, main_v76, main_v77, main_v78, main_cst_18, main_v79, main_v80, main_cst_19, main_v81, main_v82]
theorem hostOps0_11_writes : (hostOps0_11 : List (HloOp τ sig (Elt F))).Forall fun op => op.writes ⊆ (hostOps0_11_W.map (Proc.devRef (τ := τ) .tc)).toFinset :=
  StableHlo.forall_writes_sub_of_map rfl

/-- A reference no stretch of the program writes. -/
def Kept (b : Ref sig .tc) : Prop :=
  b ∉ hostOps0_W
  ∧ b ∉ condOps_W
  ∧ b ∉ while0Ops0_W
  ∧ b ∉ while0Ops0_1_W
  ∧ b ∉ while0Ops0_2_W
  ∧ b ∉ while0Ops0_3_W
  ∧ b ∉ while0Ops0_4_W
  ∧ b ∉ while0Ops0_5_W
  ∧ b ∉ hostOps0_1_W
  ∧ b ∉ hostOps0_2_W
  ∧ b ∉ hostOps0_3_W
  ∧ b ∉ hostOps0_4_W
  ∧ b ∉ hostOps0_5_W
  ∧ b ∉ hostOps0_6_W
  ∧ b ∉ hostOps0_7_W
  ∧ b ∉ hostOps0_8_W
  ∧ b ∉ hostOps0_9_W
  ∧ b ∉ hostOps0_10_W
  ∧ b ∉ hostOps0_11_W

theorem entry_kept {b : Ref sig .tc} (h : Kept b) (c : Dev nD) : entryContents preI m c (Proc.devRef .tc b) = m ((c : Thread nD τ).loc b) := by
  obtain ⟨h0, h1, h2, h3, h4, h5, h6, h7, h8, h9, h10, h11, h12, h13, h14, h15, h16, h17, h18⟩ := h
  simp only [entryContents, afterL_cons, afterL_nil]
  rw [after_of_writes_sub hostOps0 _ hostOps0_writes h0]

theorem atK_kept {b : Ref sig .tc} (h : Kept b) (c : Dev nD) : ∀ k, atK m k c (Proc.devRef .tc b) = m ((c : Thread nD τ).loc b)
  | 0 => entry_kept m h c
  | k + 1 => by
    have ih := atK_kept h c k
    obtain ⟨h0, h1, h2, h3, h4, h5, h6, h7, h8, h9, h10, h11, h12, h13, h14, h15, h16, h17, h18⟩ := h
    rw [show atK m (k + 1) c = afterL bodyI (after condOps (atK m k c)) from rfl]
    simp only [afterL_cons, afterL_nil]
    rw [after_of_writes_sub while0Ops0_5 _ while0Ops0_5_writes h7, after_of_writes_sub while0Ops0_4 _ while0Ops0_4_writes h6, after_of_writes_sub while0Ops0_3 _ while0Ops0_3_writes h5, after_of_writes_sub while0Ops0_2 _ while0Ops0_2_writes h4, after_of_writes_sub while0Ops0_1 _ while0Ops0_1_writes h3, after_of_writes_sub while0Ops0 _ while0Ops0_writes h2, after_of_writes_sub condOps _ condOps_writes h1, ih]

/-- A reference no stretch writes ends as it was launched. -/
theorem final_kept {b : Ref sig .tc} (h : Kept b) (c : Dev nD) :
    finalContents condOps preI bodyI postI 100 m c (Proc.devRef .tc b) = m ((c : Thread nD τ).loc b) := by
  have ih := atK_kept m h c 100
  obtain ⟨h0, h1, h2, h3, h4, h5, h6, h7, h8, h9, h10, h11, h12, h13, h14, h15, h16, h17, h18⟩ := h
  rw [show finalContents condOps preI bodyI postI 100 m c = afterL postI (after condOps (atK m 100 c)) from rfl]
  simp only [afterL_cons, afterL_nil]
  rw [after_of_writes_sub hostOps0_11 _ hostOps0_11_writes h18, after_of_writes_sub hostOps0_10 _ hostOps0_10_writes h17, after_of_writes_sub hostOps0_9 _ hostOps0_9_writes h16, after_of_writes_sub hostOps0_8 _ hostOps0_8_writes h15, after_of_writes_sub hostOps0_7 _ hostOps0_7_writes h14, after_of_writes_sub hostOps0_6 _ hostOps0_6_writes h13, after_of_writes_sub hostOps0_5 _ hostOps0_5_writes h12, after_of_writes_sub hostOps0_4 _ hostOps0_4_writes h11, after_of_writes_sub hostOps0_3 _ hostOps0_3_writes h10, after_of_writes_sub hostOps0_2 _ hostOps0_2_writes h9, after_of_writes_sub hostOps0_1 _ hostOps0_1_writes h8, after_of_writes_sub condOps _ condOps_writes h1, ih]

/-- Every weakly fair execution of the reference ends with its arguments as launched, its result at the fold, and every
    counter at zero (it declares no semaphore). -/
theorem run (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_v82) = finalContents condOps preI bodyI postI 100 m c (Proc.devRef .tc main_v82))
      ∧ r.2.sem = fun _ => 0) :=
  (θ_run _ _ _).mono (fun r h => ⟨fun c => ⟨(h c main_arg0 (by decide)).trans (final_kept m (by unfold Kept; decide) c),
    (h c main_arg1 (by decide)).trans (final_kept m (by unfold Kept; decide) c),
    (h c main_arg2 (by decide)).trans (final_kept m (by unfold Kept; decide) c),
    (h c main_arg3 (by decide)).trans (final_kept m (by unfold Kept; decide) c),
    (h c main_arg4 (by decide)).trans (final_kept m (by unfold Kept; decide) c),
    (h c main_arg5 (by decide)).trans (final_kept m (by unfold Kept; decide) c),
    (h c main_arg6 (by decide)).trans (final_kept m (by unfold Kept; decide) c),
    (h c main_arg7 (by decide)).trans (final_kept m (by unfold Kept; decide) c),
    (h c main_arg8 (by decide)).trans (final_kept m (by unfold Kept; decide) c),
    (h c main_arg9 (by decide)).trans (final_kept m (by unfold Kept; decide) c),
    (h c main_arg10 (by decide)).trans (final_kept m (by unfold Kept; decide) c),
    (h c main_arg11 (by decide)).trans (final_kept m (by unfold Kept; decide) c),
    (h c main_arg12 (by decide)).trans (final_kept m (by unfold Kept; decide) c),
    (h c main_arg13 (by decide)).trans (final_kept m (by unfold Kept; decide) c),
    (h c main_arg14 (by decide)).trans (final_kept m (by unfold Kept; decide) c),
    h c main_v82 (by decide)⟩, Idealize.ShloMosaic.sem_eq_zero_of_no_sems (by decide) r.2⟩) (run_fold m ρ)

end Cert.ReferenceIdeal.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.LayerA
public import proofs.«01_k».proof.Proof.Gen.LayerA.Frame
public import proofs.«01_k».proof.Proof.Gen.LayerB
public import proofs.«01_k».proof.Proof.Gen.LayerB.Frame
public import proofs.«01_k».proof.Proof.Gen.LayerAIdeal
public import proofs.«01_k».proof.Proof.Gen.LayerAIdeal.Value
public import proofs.«01_k».proof.Proof.Gen.LayerBIdeal
public import proofs.«01_k».proof.Proof.Gen.LayerBIdeal.Value
public import proofs.«01_k».proof.Proof.Gen.RefAIdeal
public import proofs.«01_k».proof.Proof.Gen.RefBIdeal
public import proofs.«01_k».proof.Proof.Gen.RefBIdeal.Run
public import proofs.«01_k».proof.Proof.Gen.Pre_edges1
public import proofs.«01_k».proof.Proof.Gen.Pre_edges2
public import proofs.«01_k».proof.Proof.AlgB
public import proofs.«01_k».proof.Proof.AlgA
public import proofs.«01_k».proof.Proof.KIRun
public import proofs.«01_k».proof.Proof.KBRun
public import proofs.«01_k».proof.Proof.RIRun
public import Idealize.ShloMosaic.Adequacy
public import Idealize.ShloMosaic.Init

@[expose] public section

set_option maxRecDepth 16384

noncomputable section

namespace Cert.Proof

open Idealize.ShloMosaic Idealize.SL.Sem

/-- The kernel's frame, at the hardware's words. -/
theorem frame_k : Cert.quiescent_Kernel := fun m ρ _ =>
  (θ_run _ _ _).mono (fun r h => ⟨fun c => ⟨
    (h.1 c (Proc.devRef .tc Cert.Kernel.main_arg0) (Finset.mem_filter.mpr ⟨StableHlo.devRef_mem_tcRefs _, by decide⟩)).trans (Cert.Kernel.Gen.V8_main_arg0 m (Cert.Kernel.Whole.outs m) c),
    (h.1 c (Proc.devRef .tc Cert.Kernel.main_arg1) (Finset.mem_filter.mpr ⟨StableHlo.devRef_mem_tcRefs _, by decide⟩)).trans (Cert.Kernel.Gen.V8_main_arg1 m (Cert.Kernel.Whole.outs m) c),
    (h.1 c (Proc.devRef .tc Cert.Kernel.main_arg2) (Finset.mem_filter.mpr ⟨StableHlo.devRef_mem_tcRefs _, by decide⟩)).trans (Cert.Kernel.Gen.V8_main_arg2 m (Cert.Kernel.Whole.outs m) c),
    (h.1 c (Proc.devRef .tc Cert.Kernel.main_arg3) (Finset.mem_filter.mpr ⟨StableHlo.devRef_mem_tcRefs _, by decide⟩)).trans (Cert.Kernel.Gen.V8_main_arg3 m (Cert.Kernel.Whole.outs m) c),
    (h.1 c (Proc.devRef .tc Cert.Kernel.main_arg4) (Finset.mem_filter.mpr ⟨StableHlo.devRef_mem_tcRefs _, by decide⟩)).trans (Cert.Kernel.Gen.V8_main_arg4 m (Cert.Kernel.Whole.outs m) c),
    (h.1 c (Proc.devRef .tc Cert.Kernel.main_arg5) (Finset.mem_filter.mpr ⟨StableHlo.devRef_mem_tcRefs _, by decide⟩)).trans (Cert.Kernel.Gen.V8_main_arg5 m (Cert.Kernel.Whole.outs m) c),
    (h.1 c (Proc.devRef .tc Cert.Kernel.main_arg6) (Finset.mem_filter.mpr ⟨StableHlo.devRef_mem_tcRefs _, by decide⟩)).trans (Cert.Kernel.Gen.V8_main_arg6 m (Cert.Kernel.Whole.outs m) c),
    (h.1 c (Proc.devRef .tc Cert.Kernel.main_arg7) (Finset.mem_filter.mpr ⟨StableHlo.devRef_mem_tcRefs _, by decide⟩)).trans (Cert.Kernel.Gen.V8_main_arg7 m (Cert.Kernel.Whole.outs m) c),
    (h.1 c (Proc.devRef .tc Cert.Kernel.main_arg8) (Finset.mem_filter.mpr ⟨StableHlo.devRef_mem_tcRefs _, by decide⟩)).trans (Cert.Kernel.Gen.V8_main_arg8 m (Cert.Kernel.Whole.outs m) c),
    (h.1 c (Proc.devRef .tc Cert.Kernel.main_arg9) (Finset.mem_filter.mpr ⟨StableHlo.devRef_mem_tcRefs _, by decide⟩)).trans (Cert.Kernel.Gen.V8_main_arg9 m (Cert.Kernel.Whole.outs m) c),
    (h.1 c (Proc.devRef .tc Cert.Kernel.main_arg10) (Finset.mem_filter.mpr ⟨StableHlo.devRef_mem_tcRefs _, by decide⟩)).trans (Cert.Kernel.Gen.V8_main_arg10 m (Cert.Kernel.Whole.outs m) c),
    (h.1 c (Proc.devRef .tc Cert.Kernel.main_arg11) (Finset.mem_filter.mpr ⟨StableHlo.devRef_mem_tcRefs _, by decide⟩)).trans (Cert.Kernel.Gen.V8_main_arg11 m (Cert.Kernel.Whole.outs m) c),
    (h.1 c (Proc.devRef .tc Cert.Kernel.main_arg12) (Finset.mem_filter.mpr ⟨StableHlo.devRef_mem_tcRefs _, by decide⟩)).trans (Cert.Kernel.Gen.V8_main_arg12 m (Cert.Kernel.Whole.outs m) c),
    (h.1 c (Proc.devRef .tc Cert.Kernel.main_arg13) (Finset.mem_filter.mpr ⟨StableHlo.devRef_mem_tcRefs _, by decide⟩)).trans (Cert.Kernel.Gen.V8_main_arg13 m (Cert.Kernel.Whole.outs m) c),
    (h.1 c (Proc.devRef .tc Cert.Kernel.main_arg14) (Finset.mem_filter.mpr ⟨StableHlo.devRef_mem_tcRefs _, by decide⟩)).trans (Cert.Kernel.Gen.V8_main_arg14 m (Cert.Kernel.Whole.outs m) c)⟩, h.2⟩) (Cert.Kernel.Whole.run (F := Bits) m ρ)

/-- The idealized kernel's frame, at any reading. -/
theorem frame_ki : Cert.quiescent_KernelIdeal := fun m ρ _ =>
  (θ_run _ _ _).mono (fun r h => ⟨fun c => ⟨
    (h.1 c (Proc.devRef .tc Cert.KernelIdeal.main_arg0) (Finset.mem_filter.mpr ⟨StableHlo.devRef_mem_tcRefs _, by decide⟩)).trans (Cert.KernelIdeal.Gen.V8_main_arg0 m (Cert.KernelIdeal.Whole.outs m) c),
    (h.1 c (Proc.devRef .tc Cert.KernelIdeal.main_arg1) (Finset.mem_filter.mpr ⟨StableHlo.devRef_mem_tcRefs _, by decide⟩)).trans (Cert.KernelIdeal.Gen.V8_main_arg1 m (Cert.KernelIdeal.Whole.outs m) c),
    (h.1 c (Proc.devRef .tc Cert.KernelIdeal.main_arg2) (Finset.mem_filter.mpr ⟨StableHlo.devRef_mem_tcRefs _, by decide⟩)).trans (Cert.KernelIdeal.Gen.V8_main_arg2 m (Cert.KernelIdeal.Whole.outs m) c),
    (h.1 c (Proc.devRef .tc Cert.KernelIdeal.main_arg3) (Finset.mem_filter.mpr ⟨StableHlo.devRef_mem_tcRefs _, by decide⟩)).trans (Cert.KernelIdeal.Gen.V8_main_arg3 m (Cert.KernelIdeal.Whole.outs m) c),
    (h.1 c (Proc.devRef .tc Cert.KernelIdeal.main_arg4) (Finset.mem_filter.mpr ⟨StableHlo.devRef_mem_tcRefs _, by decide⟩)).trans (Cert.KernelIdeal.Gen.V8_main_arg4 m (Cert.KernelIdeal.Whole.outs m) c),
    (h.1 c (Proc.devRef .tc Cert.KernelIdeal.main_arg5) (Finset.mem_filter.mpr ⟨StableHlo.devRef_mem_tcRefs _, by decide⟩)).trans (Cert.KernelIdeal.Gen.V8_main_arg5 m (Cert.KernelIdeal.Whole.outs m) c),
    (h.1 c (Proc.devRef .tc Cert.KernelIdeal.main_arg6) (Finset.mem_filter.mpr ⟨StableHlo.devRef_mem_tcRefs _, by decide⟩)).trans (Cert.KernelIdeal.Gen.V8_main_arg6 m (Cert.KernelIdeal.Whole.outs m) c),
    (h.1 c (Proc.devRef .tc Cert.KernelIdeal.main_arg7) (Finset.mem_filter.mpr ⟨StableHlo.devRef_mem_tcRefs _, by decide⟩)).trans (Cert.KernelIdeal.Gen.V8_main_arg7 m (Cert.KernelIdeal.Whole.outs m) c),
    (h.1 c (Proc.devRef .tc Cert.KernelIdeal.main_arg8) (Finset.mem_filter.mpr ⟨StableHlo.devRef_mem_tcRefs _, by decide⟩)).trans (Cert.KernelIdeal.Gen.V8_main_arg8 m (Cert.KernelIdeal.Whole.outs m) c),
    (h.1 c (Proc.devRef .tc Cert.KernelIdeal.main_arg9) (Finset.mem_filter.mpr ⟨StableHlo.devRef_mem_tcRefs _, by decide⟩)).trans (Cert.KernelIdeal.Gen.V8_main_arg9 m (Cert.KernelIdeal.Whole.outs m) c),
    (h.1 c (Proc.devRef .tc Cert.KernelIdeal.main_arg10) (Finset.mem_filter.mpr ⟨StableHlo.devRef_mem_tcRefs _, by decide⟩)).trans (Cert.KernelIdeal.Gen.V8_main_arg10 m (Cert.KernelIdeal.Whole.outs m) c),
    (h.1 c (Proc.devRef .tc Cert.KernelIdeal.main_arg11) (Finset.mem_filter.mpr ⟨StableHlo.devRef_mem_tcRefs _, by decide⟩)).trans (Cert.KernelIdeal.Gen.V8_main_arg11 m (Cert.KernelIdeal.Whole.outs m) c),
    (h.1 c (Proc.devRef .tc Cert.KernelIdeal.main_arg12) (Finset.mem_filter.mpr ⟨StableHlo.devRef_mem_tcRefs _, by decide⟩)).trans (Cert.KernelIdeal.Gen.V8_main_arg12 m (Cert.KernelIdeal.Whole.outs m) c),
    (h.1 c (Proc.devRef .tc Cert.KernelIdeal.main_arg13) (Finset.mem_filter.mpr ⟨StableHlo.devRef_mem_tcRefs _, by decide⟩)).trans (Cert.KernelIdeal.Gen.V8_main_arg13 m (Cert.KernelIdeal.Whole.outs m) c),
    (h.1 c (Proc.devRef .tc Cert.KernelIdeal.main_arg14) (Finset.mem_filter.mpr ⟨StableHlo.devRef_mem_tcRefs _, by decide⟩)).trans (Cert.KernelIdeal.Gen.V8_main_arg14 m (Cert.KernelIdeal.Whole.outs m) c)⟩, h.2⟩) (Cert.KernelIdeal.Whole.run (F := Ideal) m ρ)

/-- The reference's frame. -/
theorem frame_ri : Cert.quiescent_ReferenceIdeal := fun m ρ _ =>
  (θ_run _ _ _).mono (fun r h => ⟨fun c => ⟨
    (h.1 c).1,
    (h.1 c).2.1,
    (h.1 c).2.2.1,
    (h.1 c).2.2.2.1,
    (h.1 c).2.2.2.2.1,
    (h.1 c).2.2.2.2.2.1,
    (h.1 c).2.2.2.2.2.2.1,
    (h.1 c).2.2.2.2.2.2.2.1,
    (h.1 c).2.2.2.2.2.2.2.2.1,
    (h.1 c).2.2.2.2.2.2.2.2.2.1,
    (h.1 c).2.2.2.2.2.2.2.2.2.2.1,
    (h.1 c).2.2.2.2.2.2.2.2.2.2.2.1,
    (h.1 c).2.2.2.2.2.2.2.2.2.2.2.2.1,
    (h.1 c).2.2.2.2.2.2.2.2.2.2.2.2.2.1,
    (h.1 c).2.2.2.2.2.2.2.2.2.2.2.2.2.2.1⟩, h.2⟩) (Cert.ReferenceIdeal.Whole.run (F := Ideal) m ρ)

/-- The two named constants name what their words round. -/
theorem preserves_k : Cert.preserves_Kernel_KernelIdeal :=
  ⟨IdealRules.named_const.statement Cert.KernelIdeal.κ "coslope" .f32 0x3F4CCCCD#32 _ rfl,
   IdealRules.named_const.statement Cert.KernelIdeal.κ "floor" .f32 0x0DA24260#32 _ rfl⟩

/-- The second graph layer's frame, at the hardware's words. -/
theorem frame_lb : Cert.quiescent_LayerB := fun m g _ => Cert.LayerB.Gen.frame m g

/-- The idealized second graph layer's frame. -/
theorem frame_lbi : Cert.quiescent_LayerBIdeal := fun m g _ => Cert.LayerBIdeal.Gen.frame m g

/-- The idealized second graph layer's frame under the precondition. -/
theorem frame_lbi_pre : Cert.quiescent_LayerBIdeal_pre_edges2 := fun m g _ => Cert.LayerBIdeal.Gen.frame m g

/-- The frame of the second graph layer's reference. -/
theorem frame_rb : Cert.quiescent_RefBIdeal := fun m g _ =>
  (θ_run _ _ _).mono (fun r h => ⟨fun c => ⟨(h c).2.1, (h c).2.2.1, (h c).2.2.2.1, (h c).2.2.2.2.1, (h c).2.2.2.2.2⟩,
    sem_eq_zero_of_no_sems (nD := Cert.RefBIdeal.nD) (τ := Cert.RefBIdeal.τ) (sig := Cert.RefBIdeal.sig) (by decide) r.2⟩) (Cert.RefBIdeal.Value.run m g)

/-- The frame of the second graph layer's reference under the precondition. -/
theorem frame_rb_pre : Cert.quiescent_RefBIdeal_pre_edges2 := fun m g _ =>
  (θ_run _ _ _).mono (fun r h => ⟨fun c => ⟨(h c).2.1, (h c).2.2.1, (h c).2.2.2.1, (h c).2.2.2.2.1, (h c).2.2.2.2.2⟩,
    sem_eq_zero_of_no_sems (nD := Cert.RefBIdeal.nD) (τ := Cert.RefBIdeal.τ) (sig := Cert.RefBIdeal.sig) (by decide) r.2⟩) (Cert.RefBIdeal.Value.run m g)

/-- The named constants of the second graph layer name what their words round. -/
theorem preserves_lb : Cert.preserves_LayerB_LayerBIdeal :=
  ⟨IdealRules.named_const.statement Cert.LayerBIdeal.κ "coslope" .f32 0x3F4CCCCD#32 _ rfl,
   IdealRules.named_const.statement Cert.LayerBIdeal.κ "floor" .f32 0x0DA24260#32 _ rfl⟩

/-- The first graph layer's frame, at the hardware's words. -/
theorem frame_la : Cert.quiescent_LayerA := fun m g _ => Cert.LayerA.Gen.frame m g

/-- The idealized first graph layer's frame. -/
theorem frame_lai : Cert.quiescent_LayerAIdeal := fun m g _ => Cert.LayerAIdeal.Gen.frame m g

/-- The idealized first graph layer's frame under the precondition. -/
theorem frame_lai_pre : Cert.quiescent_LayerAIdeal_pre_edges1 := fun m g _ => Cert.LayerAIdeal.Gen.frame m g

/-- The frame of the first graph layer's reference. -/
theorem frame_ra : Cert.quiescent_RefAIdeal := fun m g _ =>
  (θ_run _ _ _).mono (fun r h => ⟨fun c => ⟨(h c).2.1, (h c).2.2.1, (h c).2.2.2.1, (h c).2.2.2.2⟩,
    sem_eq_zero_of_no_sems (nD := Cert.RefAIdeal.nD) (τ := Cert.RefAIdeal.τ) (sig := Cert.RefAIdeal.sig) (by decide) r.2⟩) (Cert.RARun.run m g)

/-- The frame of the first graph layer's reference under the precondition. -/
theorem frame_ra_pre : Cert.quiescent_RefAIdeal_pre_edges1 := fun m g _ =>
  (θ_run _ _ _).mono (fun r h => ⟨fun c => ⟨(h c).2.1, (h c).2.2.1, (h c).2.2.2.1, (h c).2.2.2.2⟩,
    sem_eq_zero_of_no_sems (nD := Cert.RefAIdeal.nD) (τ := Cert.RefAIdeal.τ) (sig := Cert.RefAIdeal.sig) (by decide) r.2⟩) (Cert.RARun.run m g)

/-- The named constants of the first graph layer name what their words round. -/
theorem preserves_la : Cert.preserves_LayerA_LayerAIdeal :=
  ⟨IdealRules.named_const.statement Cert.LayerAIdeal.κ "coslope" .f32 0x3F4CCCCD#32 _ rfl,
   IdealRules.named_const.statement Cert.LayerAIdeal.κ "floor" .f32 0x0DA24260#32 _ rfl⟩

/-- The claim: both graph layers' frames, named constants and values, and the whole kernel's frames and named constants. -/
theorem claim : Cert.Claim := ⟨Cert.LayerB.Gen.facts, Cert.LayerBIdeal.Gen.facts, Cert.RefBIdeal.Gen.facts,
  Cert.LayerA.Gen.facts, Cert.LayerAIdeal.Gen.facts, Cert.RefAIdeal.Gen.facts,
  Cert.Kernel.Gen.facts, Cert.KernelIdeal.Gen.facts, Cert.ReferenceIdeal.Gen.facts,
  Cert.Pre_edges2.Gen.facts, Cert.Pre_edges1.Gen.facts,
  frame_lb, frame_lbi, frame_lbi_pre, frame_rb, frame_rb_pre,
  frame_la, frame_lai, frame_lai_pre, frame_ra, frame_ra_pre,
  frame_k, frame_ki, frame_ri,
  preserves_lb, Cert.AlgB.algebraic, preserves_la, Cert.AlgA.algebraic, preserves_k⟩

end Cert.Proof

end
